-- ==== Defs.lean ====
def Pre_Dq (m : (ℓ : Loc Cert.Dq.nD Cert.Dq.τ Cert.Dq.sig) → Buf (Elt Bits) ℓ) : Prop :=
  True

def Pre_DqIdeal (m : (ℓ : Loc Cert.DqIdeal.nD Cert.DqIdeal.τ Cert.DqIdeal.sig) → Buf (Elt Ideal) ℓ) : Prop :=
  True

def Pre_DqRefIdeal (m : (ℓ : Loc Cert.DqRefIdeal.nD Cert.DqRefIdeal.τ Cert.DqRefIdeal.sig) → Buf (Elt Ideal) ℓ) : Prop :=
  True

def Pre_Lg (m : (ℓ : Loc Cert.Lg.nD Cert.Lg.τ Cert.Lg.sig) → Buf (Elt Bits) ℓ) : Prop :=
  True

def Pre_LgIdeal (m : (ℓ : Loc Cert.LgIdeal.nD Cert.LgIdeal.τ Cert.LgIdeal.sig) → Buf (Elt Ideal) ℓ) : Prop :=
  True

def Pre_LgRefIdeal (m : (ℓ : Loc Cert.LgRefIdeal.nD Cert.LgRefIdeal.τ Cert.LgRefIdeal.sig) → Buf (Elt Ideal) ℓ) : Prop :=
  True

def Pre_Dp (m : (ℓ : Loc Cert.Dp.nD Cert.Dp.τ Cert.Dp.sig) → Buf (Elt Bits) ℓ) : Prop :=
  True

def quiescent_Dq [hDq : Cert.Dq.Facts] : Prop :=
  ∀ (m : (ℓ : Loc Cert.Dq.nD Cert.Dq.τ Cert.Dq.sig) → Buf (Elt Bits) ℓ) (g : Dev Cert.Dq.nD → PrngReg), Pre_Dq m →
    θ_run (Cert.Dq.defs (F := Bits)) (onTc (τ := Cert.Dq.τ) (Cert.Dq.main (F := Bits))) ⟨m, fun _ => 0, g⟩ (fun r => (∀ c : Dev Cert.Dq.nD,
      r.2.mem ((c.tc : Thread Cert.Dq.nD Cert.Dq.τ).loc Cert.Dq.main_arg0) = m ((c.tc : Thread Cert.Dq.nD Cert.Dq.τ).loc Cert.Dq.main_arg0)
      ∧ r.2.mem ((c.tc : Thread Cert.Dq.nD Cert.Dq.τ).loc Cert.Dq.main_arg1) = m ((c.tc : Thread Cert.Dq.nD Cert.Dq.τ).loc Cert.Dq.main_arg1)
      ∧ r.2.mem ((c.tc : Thread Cert.Dq.nD Cert.Dq.τ).loc Cert.Dq.main_arg2) = m ((c.tc : Thread Cert.Dq.nD Cert.Dq.τ).loc Cert.Dq.main_arg2)
      ∧ r.2.mem ((c.tc : Thread Cert.Dq.nD Cert.Dq.τ).loc Cert.Dq.main_arg3) = m ((c.tc : Thread Cert.Dq.nD Cert.Dq.τ).loc Cert.Dq.main_arg3))
      ∧ r.2.sem = fun _ => 0)

def quiescent_DqIdeal [hDqIdeal : Cert.DqIdeal.Facts] : Prop :=
  ∀ (m : (ℓ : Loc Cert.DqIdeal.nD Cert.DqIdeal.τ Cert.DqIdeal.sig) → Buf (Elt Ideal) ℓ) (g : Dev Cert.DqIdeal.nD → PrngReg), Pre_DqIdeal m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
      ∧ r.2.mem ((c.tc : Thread Cert.DqIdeal.nD Cert.DqIdeal.τ).loc Cert.DqIdeal.main_arg2) = m ((c.tc : Thread Cert.DqIdeal.nD Cert.DqIdeal.τ).loc Cert.DqIdeal.main_arg2)
      ∧ r.2.mem ((c.tc : Thread Cert.DqIdeal.nD Cert.DqIdeal.τ).loc Cert.DqIdeal.main_arg3) = m ((c.tc : Thread Cert.DqIdeal.nD Cert.DqIdeal.τ).loc Cert.DqIdeal.main_arg3))
      ∧ r.2.sem = fun _ => 0)

def quiescent_DqRefIdeal [hDqRefIdeal : Cert.DqRefIdeal.Facts] : Prop :=
  ∀ (m : (ℓ : Loc Cert.DqRefIdeal.nD Cert.DqRefIdeal.τ Cert.DqRefIdeal.sig) → Buf (Elt Ideal) ℓ) (g : Dev Cert.DqRefIdeal.nD → PrngReg), Pre_DqRefIdeal m →
    θ_run (Cert.DqRefIdeal.defs (F := Ideal)) (onTc (τ := Cert.DqRefIdeal.τ) (Cert.DqRefIdeal.main (F := Ideal))) ⟨m, fun _ => 0, g⟩ (fun r => (∀ c : Dev Cert.DqRefIdeal.nD,
      r.2.mem ((c.tc : Thread Cert.DqRefIdeal.nD Cert.DqRefIdeal.τ).loc Cert.DqRefIdeal.main_arg0) = m ((c.tc : Thread Cert.DqRefIdeal.nD Cert.DqRefIdeal.τ).loc Cert.DqRefIdeal.main_arg0)
      ∧ r.2.mem ((c.tc : Thread Cert.DqRefIdeal.nD Cert.DqRefIdeal.τ).loc Cert.DqRefIdeal.main_arg1) = m ((c.tc : Thread Cert.DqRefIdeal.nD Cert.DqRefIdeal.τ).loc Cert.DqRefIdeal.main_arg1)
      ∧ r.2.mem ((c.tc : Thread Cert.DqRefIdeal.nD Cert.DqRefIdeal.τ).loc Cert.DqRefIdeal.main_arg2) = m ((c.tc : Thread Cert.DqRefIdeal.nD Cert.DqRefIdeal.τ).loc Cert.DqRefIdeal.main_arg2)
      ∧ r.2.mem ((c.tc : Thread Cert.DqRefIdeal.nD Cert.DqRefIdeal.τ).loc Cert.DqRefIdeal.main_arg3) = m ((c.tc : Thread Cert.DqRefIdeal.nD Cert.DqRefIdeal.τ).loc Cert.DqRefIdeal.main_arg3))
      ∧ r.2.sem = fun _ => 0)

def quiescent_Lg [hLg : Cert.Lg.Facts] : Prop :=
  ∀ (m : (ℓ : Loc Cert.Lg.nD Cert.Lg.τ Cert.Lg.sig) → Buf (Elt Bits) ℓ) (g : Dev Cert.Lg.nD → PrngReg), Pre_Lg m →
    θ_run (Cert.Lg.defs (F := Bits)) (onTc (τ := Cert.Lg.τ) (Cert.Lg.main (F := Bits))) ⟨m, fun _ => 0, g⟩ (fun r => (∀ c : Dev Cert.Lg.nD,
      r.2.mem ((c.tc : Thread Cert.Lg.nD Cert.Lg.τ).loc Cert.Lg.main_arg0) = m ((c.tc : Thread Cert.Lg.nD Cert.Lg.τ).loc Cert.Lg.main_arg0)
      ∧ r.2.mem ((c.tc : Thread Cert.Lg.nD Cert.Lg.τ).loc Cert.Lg.main_arg1) = m ((c.tc : Thread Cert.Lg.nD Cert.Lg.τ).loc Cert.Lg.main_arg1)
      ∧ r.2.mem ((c.tc : Thread Cert.Lg.nD Cert.Lg.τ).loc Cert.Lg.main_arg2) = m ((c.tc : Thread Cert.Lg.nD Cert.Lg.τ).loc Cert.Lg.main_arg2)
      ∧ r.2.mem ((c.tc : Thread Cert.Lg.nD Cert.Lg.τ).loc Cert.Lg.main_arg3) = m ((c.tc : Thread Cert.Lg.nD Cert.Lg.τ).loc Cert.Lg.main_arg3))
      ∧ r.2.sem = fun _ => 0)

def quiescent_LgIdeal [hLgIdeal : Cert.LgIdeal.Facts] : Prop :=
  ∀ (m : (ℓ : Loc Cert.LgIdeal.nD Cert.LgIdeal.τ Cert.LgIdeal.sig) → Buf (Elt Ideal) ℓ) (g : Dev Cert.LgIdeal.nD → PrngReg), Pre_LgIdeal m →
    θ_run (Cert.LgIdeal.defs (F := Ideal)) (onTc (τ := Cert.LgIdeal.τ) (Cert.LgIdeal.main (F := Ideal))) ⟨m, fun _ => 0, g⟩ (fun r => (∀ c : Dev Cert.LgIdeal.nD,
      r.2.mem ((c.tc : Thread Cert.LgIdeal.nD Cert.LgIdeal.τ).loc Cert.LgIdeal.main_arg0) = m ((c.tc : Thread Cert.LgIdeal.nD Cert.LgIdeal.τ).loc Cert.LgIdeal.main_arg0)
      ∧ r.2.mem ((c.tc : Thread Cert.LgIdeal.nD Cert.LgIdeal.τ).loc Cert.LgIdeal.main_arg1) = m ((c.tc : Thread Cert.LgIdeal.nD Cert.LgIdeal.τ).loc Cert.LgIdeal.main_arg1)
      ∧ r.2.mem ((c.tc : Thread Cert.LgIdeal.nD Cert.LgIdeal.τ).loc Cert.LgIdeal.main_arg2) = m ((c.tc : Thread Cert.LgIdeal.nD Cert.LgIdeal.τ).loc Cert.LgIdeal.main_arg2)
      ∧ r.2.mem ((c.tc : Thread Cert.LgIdeal.nD Cert.LgIdeal.τ).loc Cert.LgIdeal.main_arg3) = m ((c.tc : Thread Cert.LgIdeal.nD Cert.LgIdeal.τ).loc Cert.LgIdeal.main_arg3))
      ∧ r.2.sem = fun _ => 0)

def quiescent_LgRefIdeal [hLgRefIdeal : Cert.LgRefIdeal.Facts] : Prop :=
  ∀ (m : (ℓ : Loc Cert.LgRefIdeal.nD Cert.LgRefIdeal.τ Cert.LgRefIdeal.sig) → Buf (Elt Ideal) ℓ) (g : Dev Cert.LgRefIdeal.nD → PrngReg), Pre_LgRefIdeal m →
    θ_run (Cert.LgRefIdeal.defs (F := Ideal)) (onTc (τ := Cert.LgRefIdeal.τ) (Cert.LgRefIdeal.main (F := Ideal))) ⟨m, fun _ => 0, g⟩ (fun r => (∀ c : Dev Cert.LgRefIdeal.nD,
      r.2.mem ((c.tc : Thread Cert.LgRefIdeal.nD Cert.LgRefIdeal.τ).loc Cert.LgRefIdeal.main_arg0) = m ((c.tc : Thread Cert.LgRefIdeal.nD Cert.LgRefIdeal.τ).loc Cert.LgRefIdeal.main_arg0)
      ∧ r.2.mem ((c.tc : Thread Cert.LgRefIdeal.nD Cert.LgRefIdeal.τ).loc Cert.LgRefIdeal.main_arg1) = m ((c.tc : Thread Cert.LgRefIdeal.nD Cert.LgRefIdeal.τ).loc Cert.LgRefIdeal.main_arg1)
      ∧ r.2.mem ((c.tc : Thread Cert.LgRefIdeal.nD Cert.LgRefIdeal.τ).loc Cert.LgRefIdeal.main_arg2) = m ((c.tc : Thread Cert.LgRefIdeal.nD Cert.LgRefIdeal.τ).loc Cert.LgRefIdeal.main_arg2)
      ∧ r.2.mem ((c.tc : Thread Cert.LgRefIdeal.nD Cert.LgRefIdeal.τ).loc Cert.LgRefIdeal.main_arg3) = m ((c.tc : Thread Cert.LgRefIdeal.nD Cert.LgRefIdeal.τ).loc Cert.LgRefIdeal.main_arg3))
      ∧ r.2.sem = fun _ => 0)

def quiescent_Dp [hDp : Cert.Dp.Facts] : Prop :=
  ∀ (m : (ℓ : Loc Cert.Dp.nD Cert.Dp.τ Cert.Dp.sig) → Buf (Elt Bits) ℓ) (g : Dev Cert.Dp.nD → PrngReg), Pre_Dp m →
    θ_run (Cert.Dp.defs (F := Bits)) (onTc (τ := Cert.Dp.τ) (Cert.Dp.main (F := Bits))) ⟨m, fun _ => 0, g⟩ (fun r => (∀ c : Dev Cert.Dp.nD,
      r.2.mem ((c.tc : Thread Cert.Dp.nD Cert.Dp.τ).loc Cert.Dp.main_arg0) = m ((c.tc : Thread Cert.Dp.nD Cert.Dp.τ).loc Cert.Dp.main_arg0)
      ∧ r.2.mem ((c.tc : Thread Cert.Dp.nD Cert.Dp.τ).loc Cert.Dp.main_arg1) = m ((c.tc : Thread Cert.Dp.nD Cert.Dp.τ).loc Cert.Dp.main_arg1)
      ∧ r.2.mem ((c.tc : Thread Cert.Dp.nD Cert.Dp.τ).loc Cert.Dp.main_arg2) = m ((c.tc : Thread Cert.Dp.nD Cert.Dp.τ).loc Cert.Dp.main_arg2)
      ∧ r.2.mem ((c.tc : Thread Cert.Dp.nD Cert.Dp.τ).loc Cert.Dp.main_arg3) = m ((c.tc : Thread Cert.Dp.nD Cert.Dp.τ).loc Cert.Dp.main_arg3)
      ∧ r.2.mem ((c.tc : Thread Cert.Dp.nD Cert.Dp.τ).loc Cert.Dp.main_arg4) = m ((c.tc : Thread Cert.Dp.nD Cert.Dp.τ).loc Cert.Dp.main_arg4)
      ∧ r.2.mem ((c.tc : Thread Cert.Dp.nD Cert.Dp.τ).loc Cert.Dp.main_arg5) = m ((c.tc : Thread Cert.Dp.nD Cert.Dp.τ).loc Cert.Dp.main_arg5))
      ∧ r.2.sem = fun _ => 0)

def preserves_Dq_DqIdeal : Prop :=
  True

def algebraic_DqIdeal_DqRefIdeal [hDqIdeal : Cert.DqIdeal.Facts] [hDqRefIdeal : Cert.DqRefIdeal.Facts] : Prop :=
  ∀ (m : (ℓ : Loc Cert.DqIdeal.nD Cert.DqIdeal.τ Cert.DqIdeal.sig) → Buf (Elt Ideal) ℓ) (g : Dev Cert.DqIdeal.nD → PrngReg)
    (m' : (ℓ : Loc Cert.DqRefIdeal.nD Cert.DqRefIdeal.τ Cert.DqRefIdeal.sig) → Buf (Elt Ideal) ℓ) (g' : Dev Cert.DqRefIdeal.nD → PrngReg), Pre_DqIdeal m →
    (∀ c : Dev Cert.DqIdeal.nD,
      m' ((c.tc : Thread Cert.DqRefIdeal.nD Cert.DqRefIdeal.τ).loc Cert.DqRefIdeal.main_arg0) = m ((c.tc : Thread Cert.DqIdeal.nD Cert.DqIdeal.τ).loc Cert.DqIdeal.main_arg0)
      ∧ m' ((c.tc : Thread Cert.DqRefIdeal.nD Cert.DqRefIdeal.τ).loc Cert.DqRefIdeal.main_arg1) = m ((c.tc : Thread Cert.DqIdeal.nD Cert.DqIdeal.τ).loc Cert.DqIdeal.main_arg1)
      ∧ m' ((c.tc : Thread Cert.DqRefIdeal.nD Cert.DqRefIdeal.τ).loc Cert.DqRefIdeal.main_arg2) = m ((c.tc : Thread Cert.DqIdeal.nD Cert.DqIdeal.τ).loc Cert.DqIdeal.main_arg2)
      ∧ m' ((c.tc : Thread Cert.DqRefIdeal.nD Cert.DqRefIdeal.τ).loc Cert.DqRefIdeal.main_arg3) = m ((c.tc : Thread Cert.DqIdeal.nD Cert.DqIdeal.τ).loc Cert.DqIdeal.main_arg3)) →
    ∃ (v0 : (c : Dev Cert.DqIdeal.nD) → Buf (Elt Ideal) ((c.tc : Thread Cert.DqIdeal.nD Cert.DqIdeal.τ).loc Cert.DqIdeal.main_v2)),
      θ_run (Cert.DqIdeal.defs (F := Ideal)) (onTc (τ := Cert.DqIdeal.τ) (Cert.DqIdeal.main (F := Ideal))) ⟨m, fun _ => 0, g⟩ (fun r => ∀ c : Dev Cert.DqIdeal.nD,
          r.2.mem ((c.tc : Thread Cert.DqIdeal.nD Cert.DqIdeal.τ).loc Cert.DqIdeal.main_v2) = v0 c
          ∧ r.2.mem ((c.tc : Thread Cert.DqIdeal.nD Cert.DqIdeal.τ).loc Cert.DqIdeal.main_arg0) = m ((c.tc : Thread Cert.DqIdeal.nD Cert.DqIdeal.τ).loc Cert.DqIdeal.main_arg0)
          ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
          ∧ r.2.mem ((c.tc : Thread Cert.DqIdeal.nD Cert.DqIdeal.τ).loc Cert.DqIdeal.main_arg2) = m ((c.tc : Thread Cert.DqIdeal.nD Cert.DqIdeal.τ).loc Cert.DqIdeal.main_arg2)
          ∧ r.2.mem ((c.tc : Thread Cert.DqIdeal.nD Cert.DqIdeal.τ).loc Cert.DqIdeal.main_arg3) = m ((c.tc : Thread Cert.DqIdeal.nD Cert.DqIdeal.τ).loc Cert.DqIdeal.main_arg3))
      ∧ θ_run (Cert.DqRefIdeal.defs (F := Ideal)) (onTc (τ := Cert.DqRefIdeal.τ) (Cert.DqRefIdeal.main (F := Ideal))) ⟨m', fun _ => 0, g'⟩ (fun r => ∀ c : Dev Cert.DqRefIdeal.nD,
          r.2.mem ((c.tc : Thread Cert.DqRefIdeal.nD Cert.DqRefIdeal.τ).loc Cert.DqRefIdeal.main_v0) = v0 c
          ∧ r.2.mem ((c.tc : Thread Cert.DqRefIdeal.nD Cert.DqRefIdeal.τ).loc Cert.DqRefIdeal.main_arg0) = m' ((c.tc : Thread Cert.DqRefIdeal.nD Cert.DqRefIdeal.τ).loc Cert.DqRefIdeal.main_arg0)
          ∧ r.2.mem ((c.tc : Thread Cert.DqRefIdeal.nD Cert.DqRefIdeal.τ).loc Cert.DqRefIdeal.main_arg1) = m' ((c.tc : Thread Cert.DqRefIdeal.nD Cert.DqRefIdeal.τ).loc Cert.DqRefIdeal.main_arg1)
          ∧ r.2.mem ((c.tc : Thread Cert.DqRefIdeal.nD Cert.DqRefIdeal.τ).loc Cert.DqRefIdeal.main_arg2) = m' ((c.tc : Thread Cert.DqRefIdeal.nD Cert.DqRefIdeal.τ).loc Cert.DqRefIdeal.main_arg2)
          ∧ r.2.mem ((c.tc : Thread Cert.DqRefIdeal.nD Cert.DqRefIdeal.τ).loc Cert.DqRefIdeal.main_arg3) = m' ((c.tc : Thread Cert.DqRefIdeal.nD Cert.DqRefIdeal.τ).loc Cert.DqRefIdeal.main_arg3))

def preserves_Lg_LgIdeal : Prop :=
  IdealRules.named_const.Statement Cert.LgIdeal.κ "neg" .f32 0xF149F2CA#32 ⊥

def algebraic_LgIdeal_LgRefIdeal [hLgIdeal : Cert.LgIdeal.Facts] [hLgRefIdeal : Cert.LgRefIdeal.Facts] : Prop :=
  ∀ (m : (ℓ : Loc Cert.LgIdeal.nD Cert.LgIdeal.τ Cert.LgIdeal.sig) → Buf (Elt Ideal) ℓ) (g : Dev Cert.LgIdeal.nD → PrngReg)
    (m' : (ℓ : Loc Cert.LgRefIdeal.nD Cert.LgRefIdeal.τ Cert.LgRefIdeal.sig) → Buf (Elt Ideal) ℓ) (g' : Dev Cert.LgRefIdeal.nD → PrngReg), Pre_LgIdeal m →
    (∀ c : Dev Cert.LgIdeal.nD,
      m' ((c.tc : Thread Cert.LgRefIdeal.nD Cert.LgRefIdeal.τ).loc Cert.LgRefIdeal.main_arg0) = m ((c.tc : Thread Cert.LgIdeal.nD Cert.LgIdeal.τ).loc Cert.LgIdeal.main_arg0)
      ∧ m' ((c.tc : Thread Cert.LgRefIdeal.nD Cert.LgRefIdeal.τ).loc Cert.LgRefIdeal.main_arg1) = m ((c.tc : Thread Cert.LgIdeal.nD Cert.LgIdeal.τ).loc Cert.LgIdeal.main_arg1)
      ∧ m' ((c.tc : Thread Cert.LgRefIdeal.nD Cert.LgRefIdeal.τ).loc Cert.LgRefIdeal.main_arg2) = m ((c.tc : Thread Cert.LgIdeal.nD Cert.LgIdeal.τ).loc Cert.LgIdeal.main_arg2)
      ∧ m' ((c.tc : Thread Cert.LgRefIdeal.nD Cert.LgRefIdeal.τ).loc Cert.LgRefIdeal.main_arg3) = m ((c.tc : Thread Cert.LgIdeal.nD Cert.LgIdeal.τ).loc Cert.LgIdeal.main_arg3)) →
    ∃ (v0 : (c : Dev Cert.LgIdeal.nD) → Buf (Elt Ideal) ((c.tc : Thread Cert.LgIdeal.nD Cert.LgIdeal.τ).loc Cert.LgIdeal.main_v5_0)) (v1 : (c : Dev Cert.LgIdeal.nD) → Buf (Elt Ideal) ((c.tc : Thread Cert.LgIdeal.nD Cert.LgIdeal.τ).loc Cert.LgIdeal.main_v5_1)) (v2 : (c : Dev Cert.LgIdeal.nD) → Buf (Elt Ideal) ((c.tc : Thread Cert.LgIdeal.nD Cert.LgIdeal.τ).loc Cert.LgIdeal.main_v5_2)),
      θ_run (Cert.LgIdeal.defs (F := Ideal)) (onTc (τ := Cert.LgIdeal.τ) (Cert.LgIdeal.main (F := Ideal))) ⟨m, fun _ => 0, g⟩ (fun r => ∀ c : Dev Cert.LgIdeal.nD,
          r.2.mem ((c.tc : Thread Cert.LgIdeal.nD Cert.LgIdeal.τ).loc Cert.LgIdeal.main_v5_0) = v0 c
          ∧ r.2.mem ((c.tc : Thread Cert.LgIdeal.nD Cert.LgIdeal.τ).loc Cert.LgIdeal.main_v5_1) = v1 c
          ∧ r.2.mem ((c.tc : Thread Cert.LgIdeal.nD Cert.LgIdeal.τ).loc Cert.LgIdeal.main_v5_2) = v2 c
          ∧ r.2.mem ((c.tc : Thread Cert.LgIdeal.nD Cert.LgIdeal.τ).loc Cert.LgIdeal.main_arg0) = m ((c.tc : Thread Cert.LgIdeal.nD Cert.LgIdeal.τ).loc Cert.LgIdeal.main_arg0)
          ∧ r.2.mem ((c.tc : Thread Cert.LgIdeal.nD Cert.LgIdeal.τ).loc Cert.LgIdeal.main_arg1) = m ((c.tc : Thread Cert.LgIdeal.nD Cert.LgIdeal.τ).loc Cert.LgIdeal.main_arg1)
          ∧ r.2.mem ((c.tc : Thread Cert.LgIdeal.nD Cert.LgIdeal.τ).loc Cert.LgIdeal.main_arg2) = m ((c.tc : Thread Cert.LgIdeal.nD Cert.LgIdeal.τ).loc Cert.LgIdeal.main_arg2)
          ∧ r.2.mem ((c.tc : Thread Cert.LgIdeal.nD Cert.LgIdeal.τ).loc Cert.LgIdeal.main_arg3) = m ((c.tc : Thread Cert.LgIdeal.nD Cert.LgIdeal.τ).loc Cert.LgIdeal.main_arg3))
      ∧ θ_run (Cert.LgRefIdeal.defs (F := Ideal)) (onTc (τ := Cert.LgRefIdeal.τ) (Cert.LgRefIdeal.main (F := Ideal))) ⟨m', fun _ => 0, g'⟩ (fun r => ∀ c : Dev Cert.LgRefIdeal.nD,
          r.2.mem ((c.tc : Thread Cert.LgRefIdeal.nD Cert.LgRefIdeal.τ).loc Cert.LgRefIdeal.main_v0_0) = v0 c
          ∧ r.2.mem ((c.tc : Thread Cert.LgRefIdeal.nD Cert.LgRefIdeal.τ).loc Cert.LgRefIdeal.main_v0_1) = v1 c
          ∧ r.2.mem ((c.tc : Thread Cert.LgRefIdeal.nD Cert.LgRefIdeal.τ).loc Cert.LgRefIdeal.main_v0_2) = v2 c
          ∧ r.2.mem ((c.tc : Thread Cert.LgRefIdeal.nD Cert.LgRefIdeal.τ).loc Cert.LgRefIdeal.main_arg0) = m' ((c.tc : Thread Cert.LgRefIdeal.nD Cert.LgRefIdeal.τ).loc Cert.LgRefIdeal.main_arg0)
          ∧ r.2.mem ((c.tc : Thread Cert.LgRefIdeal.nD Cert.LgRefIdeal.τ).loc Cert.LgRefIdeal.main_arg1) = m' ((c.tc : Thread Cert.LgRefIdeal.nD Cert.LgRefIdeal.τ).loc Cert.LgRefIdeal.main_arg1)
          ∧ r.2.mem ((c.tc : Thread Cert.LgRefIdeal.nD Cert.LgRefIdeal.τ).loc Cert.LgRefIdeal.main_arg2) = m' ((c.tc : Thread Cert.LgRefIdeal.nD Cert.LgRefIdeal.τ).loc Cert.LgRefIdeal.main_arg2)
          ∧ r.2.mem ((c.tc : Thread Cert.LgRefIdeal.nD Cert.LgRefIdeal.τ).loc Cert.LgRefIdeal.main_arg3) = m' ((c.tc : Thread Cert.LgRefIdeal.nD Cert.LgRefIdeal.τ).loc Cert.LgRefIdeal.main_arg3))

def Claim : Prop :=
  ∃ (hDq : Cert.Dq.Facts) (hDqIdeal : Cert.DqIdeal.Facts) (hDqRefIdeal : Cert.DqRefIdeal.Facts) (hLg : Cert.Lg.Facts) (hLgIdeal : Cert.LgIdeal.Facts) (hLgRefIdeal : Cert.LgRefIdeal.Facts) (hDp : Cert.Dp.Facts),
    quiescent_Dq (hDq := hDq)
    ∧ quiescent_DqIdeal (hDqIdeal := hDqIdeal)
    ∧ quiescent_DqRefIdeal (hDqRefIdeal := hDqRefIdeal)
    ∧ quiescent_Lg (hLg := hLg)
    ∧ quiescent_LgIdeal (hLgIdeal := hLgIdeal)
    ∧ quiescent_LgRefIdeal (hLgRefIdeal := hLgRefIdeal)
    ∧ quiescent_Dp (hDp := hDp)
    ∧ preserves_Dq_DqIdeal
    ∧ algebraic_DqIdeal_DqRefIdeal (hDqIdeal := hDqIdeal) (hDqRefIdeal := hDqRefIdeal)
    ∧ preserves_Lg_LgIdeal
    ∧ algebraic_LgIdeal_LgRefIdeal (hLgIdeal := hLgIdeal) (hLgRefIdeal := hLgRefIdeal)
-- ==== Dq.lean ====
abbrev S2x1536x12288 : Shape := ⟨3, ![2, 1536, 12288]⟩
abbrev S2x12288x5120 : Shape := ⟨3, ![2, 12288, 5120]⟩
abbrev S2x12288 : Shape := ⟨2, ![2, 12288]⟩
abbrev S2x1x12288 : Shape := ⟨3, ![2, 1, 12288]⟩
abbrev S2x1536x5120 : Shape := ⟨3, ![2, 1536, 5120]⟩
abbrev S1x1536x1024 : Shape := ⟨3, ![1, 1536, 1024]⟩
abbrev S1x1024x2560 : Shape := ⟨3, ![1, 1024, 2560]⟩
abbrev S1x1x1024 : Shape := ⟨3, ![1, 1, 1024]⟩
abbrev S1x1536x2560 : Shape := ⟨3, ![1, 1536, 2560]⟩
abbrev S1536x2560 : Shape := ⟨2, ![1536, 2560]⟩
abbrev S1536x1024 : Shape := ⟨2, ![1536, 1024]⟩
abbrev S1x1024 : Shape := ⟨2, ![1, 1024]⟩
abbrev S1536x512 : Shape := ⟨2, ![1536, 512]⟩
abbrev S1x1024x512 : Shape := ⟨3, ![1, 1024, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S2x1536x12288, .fp8e5m2⟩
  | .hbm, ⟨1, _⟩ => ⟨S2x12288x5120, .fp8e4m3⟩
  | .hbm, ⟨2, _⟩ => ⟨S2x12288, .f32⟩
  | .hbm, ⟨3, _⟩ => ⟨S2x12288, .f32⟩
  | .hbm, ⟨4, _⟩ => ⟨S2x1x12288, .f32⟩
  | .hbm, ⟨5, _⟩ => ⟨S2x1x12288, .f32⟩
  | .hbm, ⟨6, _⟩ => ⟨S2x1536x5120, .bf16⟩
  | .local _ .vmem, ⟨0, _⟩ => ⟨S1x1536x1024, .fp8e5m2⟩
  | .local _ .vmem, ⟨1, _⟩ => ⟨S1x1536x1024, .fp8e5m2⟩
  | .local _ .vmem, ⟨2, _⟩ => ⟨S1x1024x2560, .fp8e4m3⟩
  | .local _ .vmem, ⟨3, _⟩ => ⟨S1x1024x2560, .fp8e4m3⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1536x2560, .bf16⟩
  | .local _ .vmem, ⟨9, _⟩ => ⟨S1x1536x2560, .bf16⟩
  | .local _ .vmem, ⟨10, _⟩ => ⟨S1536x2560, .f32⟩
  | .local _ .vmem, ⟨11, _⟩ => ⟨S1536x1024, .bf16⟩
  | _, _ => ⟨S2x1536x12288, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 12], ![false, false, false]⟩

def k0_cond2 (i : grid0.Coords) : BitVec 1 :=
  let arg2 : BitVec 32 := BitVec.ofNat 32 (i 2).val
  let c11_i32 : BitVec 32 := 11#32
  let v64 : BitVec 1 := Scalar.cmpi .eq arg2 c11_i32
  let v65 : BitVec 32 := Scalar.extui v64
  let c0_i32_56 : BitVec 32 := 0#32
  let v66 : BitVec 1 := Scalar.cmpi .ne v65 c0_i32_56
  v66

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1536x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1536x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DqRefIdeal.lean ====
abbrev S2x1536x12288 : Shape := ⟨3, ![2, 1536, 12288]⟩
abbrev S2x12288x5120 : Shape := ⟨3, ![2, 12288, 5120]⟩
abbrev S2x12288 : Shape := ⟨2, ![2, 12288]⟩
abbrev S2x1536x5120 : Shape := ⟨3, ![2, 1536, 5120]⟩
abbrev S1x1536x12288 : Shape := ⟨3, ![1, 1536, 12288]⟩
abbrev S1536x12288 : Shape := ⟨2, ![1536, 12288]⟩
abbrev S1x12288 : Shape := ⟨2, ![1, 12288]⟩
abbrev S12288 : Shape := ⟨1, ![12288]⟩
abbrev S1x12288x5120 : Shape := ⟨3, ![1, 12288, 5120]⟩
abbrev S12288x5120 : Shape := ⟨2, ![12288, 5120]⟩
abbrev S12288x1 : Shape := ⟨2, ![12288, 1]⟩
abbrev S1536x5120 : Shape := ⟨2, ![1536, 5120]⟩
abbrev S1x1536x5120 : Shape := ⟨3, ![1, 1536, 5120]⟩

abbrev nBuf : Space → Nat
  | .hbm => 5
  | .vmem => 5
  | .smem => 0
  | _ => 0

abbrev bufTy : (tb : Table) → Fin (tcTables nBuf tb) → BufTy
  | .hbm, ⟨0, _⟩ => ⟨S2x1536x12288, .fp8e5m2⟩
  | .hbm, ⟨1, _⟩ => ⟨S2x12288x5120, .fp8e4m3⟩
  | .hbm, ⟨2, _⟩ => ⟨S2x12288, .f32⟩
  | .hbm, ⟨3, _⟩ => ⟨S2x12288, .f32⟩
  | .hbm, ⟨4, _⟩ => ⟨S2x1536x5120, .bf16⟩
  | .local _ .vmem, ⟨0, _⟩ => ⟨S2x1536x12288, .fp8e5m2⟩
  | .local _ .vmem, ⟨1, _⟩ => ⟨S2x12288x5120, .fp8e4m3⟩
  | .local _ .vmem, ⟨2, _⟩ => ⟨S2x12288, .f32⟩
  | .local _ .vmem, ⟨3, _⟩ => ⟨S2x12288, .f32⟩
  | .local _ .vmem, ⟨4, _⟩ => ⟨S2x1536x5120, .bf16⟩
  | _, _ => ⟨S2x1536x12288, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x1536x12288 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x12288x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1536x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Lg.lean ====
abbrev S2x1536x5120 : Shape := ⟨3, ![2, 1536, 5120]⟩
abbrev S2x1536 : Shape := ⟨2, ![2, 1536]⟩
abbrev S2x12288x5120 : Shape := ⟨3, ![2, 12288, 5120]⟩
abbrev S2x12288 : Shape := ⟨2, ![2, 12288]⟩
abbrev S2x1536x1 : Shape := ⟨3, ![2, 1536, 1]⟩
abbrev S2x1536x128 : Shape := ⟨3, ![2, 1536, 128]⟩
abbrev S2x1x12288 : Shape := ⟨3, ![2, 1, 12288]⟩
abbrev S_ : Shape := ⟨0, ![]⟩
abbrev S2x1536x12288 : Shape := ⟨3, ![2, 1536, 12288]⟩
abbrev S1x1536x5120 : Shape := ⟨3, ![1, 1536, 5120]⟩
abbrev S1x512x5120 : Shape := ⟨3, ![1, 512, 5120]⟩
abbrev S1x1536x128 : Shape := ⟨3, ![1, 1536, 128]⟩
abbrev S1x1x512 : Shape := ⟨3, ![1, 1, 512]⟩
abbrev S1x1536x512 : Shape := ⟨3, ![1, 1536, 512]⟩
abbrev S1536x512 : Shape := ⟨2, ![1536, 512]⟩
abbrev S1536x128 : Shape := ⟨2, ![1536, 128]⟩
abbrev S16x128 : Shape := ⟨2, ![16, 128]⟩
abbrev S1536x5120 : Shape := ⟨2, ![1536, 5120]⟩
abbrev S1x256x5120 : Shape := ⟨3, ![1, 256, 5120]⟩
abbrev S256x5120 : Shape := ⟨2, ![256, 5120]⟩
abbrev S1536x256 : Shape := ⟨2, ![1536, 256]⟩
abbrev S1x1x256 : Shape := ⟨3, ![1, 1, 256]⟩
abbrev S1x256 : Shape := ⟨2, ![1, 256]⟩
abbrev S1x128 : Shape := ⟨2, ![1, 128]⟩
abbrev S1536 : Shape := ⟨1, ![1536]⟩
abbrev S1536x1 : Shape := ⟨2, ![1536, 1]⟩

abbrev nBuf : Space → Nat
  | .hbm => 13
  | .vmem => 17
  | .smem => 0
  | _ => 0

abbrev bufTy : (tb : Table) → Fin (tcTables nBuf tb) → BufTy
  | .hbm, ⟨0, _⟩ => ⟨S2x1536x5120, .fp8e4m3⟩
  | .hbm, ⟨1, _⟩ => ⟨S2x1536, .f32⟩
  | .hbm, ⟨2, _⟩ => ⟨S2x12288x5120, .fp8e4m3⟩
  | .hbm, ⟨3, _⟩ => ⟨S2x12288, .f32⟩
  | .hbm, ⟨4, _⟩ => ⟨S2x1536x1, .f32⟩
  | .hbm, ⟨5, _⟩ => ⟨S2x1536x128, .f32⟩
  | .hbm, ⟨6, _⟩ => ⟨S2x1x12288, .f32⟩
  | .hbm, ⟨7, _⟩ => ⟨S_, .f32⟩
  | .hbm, ⟨8, _⟩ => ⟨S2x1536x128, .f32⟩
  | .hbm, ⟨9, _⟩ => ⟨S2x1536x128, .f32⟩
  | .hbm, ⟨10, _⟩ => ⟨S2x1536x12288, .f32⟩
  | .hbm, ⟨11, _⟩ => ⟨S2x1536x128, .f32⟩
  | .hbm, ⟨12, _⟩ => ⟨S2x1536x128, .f32⟩
  | .local _ .vmem, ⟨0, _⟩ => ⟨S1x1536x5120, .fp8e4m3⟩
  | .local _ .vmem, ⟨1, _⟩ => ⟨S1x1536x5120, .fp8e4m3⟩
  | .local _ .vmem, ⟨2, _⟩ => ⟨S1x512x5120, .fp8e4m3⟩
  | .local _ .vmem, ⟨3, _⟩ => ⟨S1x512x5120, .fp8e4m3⟩
  | .local _ .vmem, ⟨4, _⟩ => ⟨S1x1536x128, .f32⟩
  | .local _ .vmem, ⟨5, _⟩ => ⟨S1x1536x128, .f32⟩
  | .local _ .vmem, ⟨6, _⟩ => ⟨S1x1x512, .f32⟩
  | .local _ .vmem, ⟨7, _⟩ => ⟨S1x1x512, .f32⟩
  | .local _ .vmem, ⟨8, _⟩ => ⟨S1x1536x512, .f32⟩
  | .local _ .vmem, ⟨9, _⟩ => ⟨S1x1536x512, .f32⟩
  | .local _ .vmem, ⟨10, _⟩ => ⟨S1x1536x128, .f32⟩
  | .local _ .vmem, ⟨11, _⟩ => ⟨S1x1536x128, .f32⟩
  | .local _ .vmem, ⟨12, _⟩ => ⟨S1x1536x128, .f32⟩
  | .local _ .vmem, ⟨13, _⟩ => ⟨S1x1536x128, .f32⟩
  | .local _ .vmem, ⟨14, _⟩ => ⟨S1536x512, .f32⟩
  | .local _ .vmem, ⟨15, _⟩ => ⟨S1536x128, .f32⟩
  | .local _ .vmem, ⟨16, _⟩ => ⟨S1536x128, .f32⟩
  | _, _ => ⟨S2x1536x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c23_i32 : BitVec 32 := 23#32
  let v3045 : BitVec 1 := Scalar.cmpi .eq arg1 c23_i32
  let v3046 : BitVec 32 := Scalar.extui v3045
  let c0_i32_1492 : BitVec 32 := 0#32
  let v3047 : BitVec 1 := Scalar.cmpi .ne v3046 c0_i32_1492
  v3047

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1536x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LgIdeal.lean ====
variable {F : FTy → Type} [FloatOps F] [Named F]
def κ : String → Option EReal := fun
  | "neg" => some ⊥
  | _ => none
-- ==== LgRefIdeal.lean ====
abbrev S2x1536x5120 : Shape := ⟨3, ![2, 1536, 5120]⟩
abbrev S2x1536 : Shape := ⟨2, ![2, 1536]⟩
abbrev S2x12288x5120 : Shape := ⟨3, ![2, 12288, 5120]⟩
abbrev S2x12288 : Shape := ⟨2, ![2, 12288]⟩
abbrev S2x1536x12288 : Shape := ⟨3, ![2, 1536, 12288]⟩
abbrev S2x1536x128 : Shape := ⟨3, ![2, 1536, 128]⟩
abbrev S1x1536x5120 : Shape := ⟨3, ![1, 1536, 5120]⟩
abbrev S1536x5120 : Shape := ⟨2, ![1536, 5120]⟩
abbrev S1x12288x5120 : Shape := ⟨3, ![1, 12288, 5120]⟩
abbrev S12288x5120 : Shape := ⟨2, ![12288, 5120]⟩
abbrev S1536x12288 : Shape := ⟨2, ![1536, 12288]⟩
abbrev S1x1536 : Shape := ⟨2, ![1, 1536]⟩
abbrev S1536 : Shape := ⟨1, ![1536]⟩
abbrev S1536x1 : Shape := ⟨2, ![1536, 1]⟩
abbrev S1x12288 : Shape := ⟨2, ![1, 12288]⟩
abbrev S12288 : Shape := ⟨1, ![12288]⟩
abbrev S1x1536x12288 : Shape := ⟨3, ![1, 1536, 12288]⟩
abbrev S1536x128 : Shape := ⟨2, ![1536, 128]⟩
abbrev S1x1536x128 : Shape := ⟨3, ![1, 1536, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x1536x5120, .fp8e4m3⟩
  | .hbm, ⟨1, _⟩ => ⟨S2x1536, .f32⟩
  | .hbm, ⟨2, _⟩ => ⟨S2x12288x5120, .fp8e4m3⟩
  | .hbm, ⟨3, _⟩ => ⟨S2x12288, .f32⟩
  | .hbm, ⟨4, _⟩ => ⟨S2x1536x12288, .f32⟩
  | .hbm, ⟨5, _⟩ => ⟨S2x1536x128, .f32⟩
  | .hbm, ⟨6, _⟩ => ⟨S2x1536x128, .f32⟩
  | .local _ .vmem, ⟨0, _⟩ => ⟨S2x1536x5120, .fp8e4m3⟩
  | .local _ .vmem, ⟨1, _⟩ => ⟨S2x1536, .f32⟩
  | .local _ .vmem, ⟨2, _⟩ => ⟨S2x12288x5120, .fp8e4m3⟩
  | .local _ .vmem, ⟨3, _⟩ => ⟨S2x12288, .f32⟩
  | .local _ .vmem, ⟨4, _⟩ => ⟨S2x1536x12288, .f32⟩
  | .local _ .vmem, ⟨5, _⟩ => ⟨S2x1536x128, .f32⟩
  | .local _ .vmem, ⟨6, _⟩ => ⟨S2x1536x128, .f32⟩
  | _, _ => ⟨S2x1536x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x1536x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x12288x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1536x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Dp.lean ====
abbrev S2x1536x12288 : Shape := ⟨3, ![2, 1536, 12288]⟩
abbrev S2x1536x128 : Shape := ⟨3, ![2, 1536, 128]⟩
abbrev S2x1536x5120 : Shape := ⟨3, ![2, 1536, 5120]⟩
abbrev S2x1536 : Shape := ⟨2, ![2, 1536]⟩
abbrev S2x1536x1 : Shape := ⟨3, ![2, 1536, 1]⟩
abbrev S2x1x12288 : Shape := ⟨3, ![2, 1, 12288]⟩
abbrev S2x12288x5120 : Shape := ⟨3, ![2, 12288, 5120]⟩
abbrev S1x1536x512 : Shape := ⟨3, ![1, 1536, 512]⟩
abbrev S1x1536x5120 : Shape := ⟨3, ![1, 1536, 5120]⟩
abbrev S1x1536x128 : Shape := ⟨3, ![1, 1536, 128]⟩
abbrev S1x1x512 : Shape := ⟨3, ![1, 1, 512]⟩
abbrev S1x512x5120 : Shape := ⟨3, ![1, 512, 5120]⟩
abbrev S512x1536 : Shape := ⟨2, ![512, 1536]⟩
abbrev S512x128 : Shape := ⟨2, ![512, 128]⟩
abbrev S1536x512 : Shape := ⟨2, ![1536, 512]⟩
abbrev S1536x128 : Shape := ⟨2, ![1536, 128]⟩
abbrev S16x128 : Shape := ⟨2, ![16, 128]⟩
abbrev S1x16x128 : Shape := ⟨3, ![1, 16, 128]⟩
abbrev S128 : Shape := ⟨1, ![128]⟩
abbrev S1x128 : Shape := ⟨2, ![1, 128]⟩
abbrev S1x1x128 : Shape := ⟨3, ![1, 1, 128]⟩
abbrev S128x128 : Shape := ⟨2, ![128, 128]⟩
abbrev S1x128x128 : Shape := ⟨3, ![1, 128, 128]⟩
abbrev S512x512 : Shape := ⟨2, ![512, 512]⟩
abbrev S1x512x128 : Shape := ⟨3, ![1, 512, 128]⟩
abbrev S1536 : Shape := ⟨1, ![1536]⟩
abbrev S1536x1 : Shape := ⟨2, ![1536, 1]⟩

abbrev nBuf : Space → Nat
  | .hbm => 15
  | .vmem => 26
  | .smem => 0
  | _ => 0

abbrev bufTy : (tb : Table) → Fin (tcTables nBuf tb) → BufTy
  | .hbm, ⟨0, _⟩ => ⟨S2x1536x12288, .f32⟩
  | .hbm, ⟨1, _⟩ => ⟨S2x1536x128, .f32⟩
  | .hbm, ⟨2, _⟩ => ⟨S2x1536x128, .f32⟩
  | .hbm, ⟨3, _⟩ => ⟨S2x1536x5120, .fp8e4m3⟩
  | .hbm, ⟨4, _⟩ => ⟨S2x1536, .f32⟩
  | .hbm, ⟨5, _⟩ => ⟨S2x1536, .i32⟩
  | .hbm, ⟨6, _⟩ => ⟨S2x1536x1, .f32⟩
  | .hbm, ⟨7, _⟩ => ⟨S2x1536x128, .f32⟩
  | .hbm, ⟨8, _⟩ => ⟨S2x1536x1, .i32⟩
  | .hbm, ⟨9, _⟩ => ⟨S2x1536x128, .i32⟩
  | .hbm, ⟨10, _⟩ => ⟨S2x1536x128, .bf16⟩
  | .hbm, ⟨11, _⟩ => ⟨S2x1536x12288, .fp8e5m2⟩
  | .hbm, ⟨12, _⟩ => ⟨S2x1x12288, .f32⟩
  | .hbm, ⟨13, _⟩ => ⟨S2x1536x128, .f32⟩
  | .hbm, ⟨14, _⟩ => ⟨S2x12288x5120, .bf16⟩
  | .local _ .vmem, ⟨0, _⟩ => ⟨S1x1536x512, .f32⟩
  | .local _ .vmem, ⟨1, _⟩ => ⟨S1x1536x512, .f32⟩
  | .local _ .vmem, ⟨2, _⟩ => ⟨S1x1536x5120, .fp8e4m3⟩
  | .local _ .vmem, ⟨3, _⟩ => ⟨S1x1536x5120, .fp8e4m3⟩
  | .local _ .vmem, ⟨4, _⟩ => ⟨S1x1536x128, .bf16⟩
  | .local _ .vmem, ⟨5, _⟩ => ⟨S1x1536x128, .bf16⟩
  | .local _ .vmem, ⟨6, _⟩ => ⟨S1x1536x128, .f32⟩
  | .local _ .vmem, ⟨7, _⟩ => ⟨S1x1536x128, .f32⟩
  | .local _ .vmem, ⟨8, _⟩ => ⟨S1x1536x128, .f32⟩
  | .local _ .vmem, ⟨9, _⟩ => ⟨S1x1536x128, .f32⟩
  | .local _ .vmem, ⟨10, _⟩ => ⟨S1x1536x128, .i32⟩
  | .local _ .vmem, ⟨11, _⟩ => ⟨S1x1536x128, .i32⟩
  | .local _ .vmem, ⟨12, _⟩ => ⟨S1x1536x512, .fp8e5m2⟩
  | .local _ .vmem, ⟨13, _⟩ => ⟨S1x1536x512, .fp8e5m2⟩
  | .local _ .vmem, ⟨14, _⟩ => ⟨S1x1x512, .f32⟩
  | .local _ .vmem, ⟨15, _⟩ => ⟨S1x1x512, .f32⟩
  | .local _ .vmem, ⟨16, _⟩ => ⟨S1x1536x128, .f32⟩
  | .local _ .vmem, ⟨17, _⟩ => ⟨S1x1536x128, .f32⟩
  | .local _ .vmem, ⟨18, _⟩ => ⟨S1x512x5120, .bf16⟩
  | .local _ .vmem, ⟨19, _⟩ => ⟨S1x512x5120, .bf16⟩
  | .local _ .vmem, ⟨20, _⟩ => ⟨S512x1536, .bf16⟩
  | .local _ .vmem, ⟨21, _⟩ => ⟨S512x1536, .bf16⟩
  | .local _ .vmem, ⟨22, _⟩ => ⟨S512x128, .f32⟩
  | .local _ .vmem, ⟨23, _⟩ => ⟨S512x128, .f32⟩
  | .local _ .vmem, ⟨24, _⟩ => ⟨S1536x512, .f32⟩
  | .local _ .vmem, ⟨25, _⟩ => ⟨S1536x128, .f32⟩
  | _, _ => ⟨S2x1536x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [BitOps F]

abbrev grid0 : Pipeline.Grid := ⟨1, ![49], ![false]⟩

def k0_cond2 (i : grid0.Coords) : BitVec 1 :=
  let arg0 : BitVec 32 := BitVec.ofNat 32 (i 0).val
  let c0_i32_5 : BitVec 32 := 0#32
  let v13 : BitVec 1 := Scalar.cmpi .eq arg0 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c0_i32_7 : BitVec 32 := 0#32
  let v16 : BitVec 1 := Scalar.cmpi .sgt arg0 c0_i32_7
  let c2_i32 : BitVec 32 := 2#32
  let c0_i32_8 : BitVec 32 := 0#32
  let v17 : BitVec 1 := Scalar.cmpi .eq c2_i32 c0_i32_8
  let c1_i32_9 : BitVec 32 := 1#32
  let v18 : BitVec 32 := Scalar.select v17 c1_i32_9 c2_i32
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c1_i32_13 : BitVec 32 := 1#32
  let v27 : BitVec 1 := Scalar.cmpi .eq v26 c1_i32_13
  let v28 : BitVec 1 := Scalar.andi v16 v27
  let v29 : BitVec 32 := Scalar.extui v28
  let c0_i32_14 : BitVec 32 := 0#32
  let v30 : BitVec 1 := Scalar.cmpi .ne v29 c0_i32_14
  v30

def k0_cond4 (i : grid0.Coords) : BitVec 1 :=
  let arg0 : BitVec 32 := BitVec.ofNat 32 (i 0).val
  let c0_i32_15 : BitVec 32 := 0#32
  let v31 : BitVec 1 := Scalar.cmpi .sgt arg0 c0_i32_15
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi arg0 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c0_i32_22 : BitVec 32 := 0#32
  let v42 : BitVec 1 := Scalar.cmpi .eq v41 c0_i32_22
  let v43 : BitVec 1 := Scalar.andi v31 v42
  let v44 : BitVec 32 := Scalar.extui v43
  let c0_i32_23 : BitVec 32 := 0#32
  let v45 : BitVec 1 := Scalar.cmpi .ne v44 c0_i32_23
  v45

def k0_cond5 (i : grid0.Coords) : BitVec 1 :=
  let arg0 : BitVec 32 := BitVec.ofNat 32 (i 0).val
  let c24_i32_24 : BitVec 32 := 24#32
  let c0_i32_25 : BitVec 32 := 0#32
  let v46 : BitVec 1 := Scalar.cmpi .eq c24_i32_24 c0_i32_25
  let c1_i32_26 : BitVec 32 := 1#32
  let v47 : BitVec 32 := Scalar.select v46 c1_i32_26 c24_i32_24
  let v48 : BitVec 32 := Scalar.remsi arg0 v47
  let c0_i32_28 : BitVec 32 := 0#32
  let v50 : BitVec 1 := Scalar.cmpi .slt v48 c0_i32_28
  let c0_i32_29 : BitVec 32 := 0#32
  let v51 : BitVec 1 := Scalar.cmpi .slt v47 c0_i32_29
  let v52 : BitVec 1 := Scalar.xori v50 v51
  let c0_i32_27 : BitVec 32 := 0#32
  let v49 : BitVec 1 := Scalar.cmpi .ne v48 c0_i32_27
  let v53 : BitVec 1 := Scalar.andi v52 v49
  let v54 : BitVec 32 := Scalar.addi v48 v47
  let v55 : BitVec 32 := Scalar.select v53 v54 v48
  let c23_i32 : BitVec 32 := 23#32
  let v56 : BitVec 1 := Scalar.cmpi .eq v55 c23_i32
  let c48_i32 : BitVec 32 := 48#32
  let v57 : BitVec 1 := Scalar.cmpi .slt arg0 c48_i32
  let v58 : BitVec 1 := Scalar.andi v56 v57
  let v59 : BitVec 32 := Scalar.extui v58
  let c0_i32_30 : BitVec 32 := 0#32
  let v60 : BitVec 1 := Scalar.cmpi .ne v59 c0_i32_30
  v60

def cc0_transform_0 (i : grid0.Coords) : Fin 3 → Nat :=
  let arg0 : BitVec 32 := BitVec.ofNat 32 (i 0).val
  let c47_i32 : BitVec 32 := 47#32
  let v0 : BitVec 32 := Scalar.minsi arg0 c47_i32
  let c24_i32 : BitVec 32 := 24#32
  let v1 : BitVec 32 := Scalar.divsi v0 c24_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c24_i32 c0_i32_1
  let v8 : BitVec 32 := Scalar.extui v7
  let c0_i32_2 : BitVec 32 := 0#32
  let v9 : BitVec 1 := Scalar.cmpi .slt c24_i32 c0_i32_2
  let v10 : BitVec 32 := Scalar.extui v9
  let v11 : BitVec 32 := Scalar.subi v8 v10
  let v12 : BitVec 1 := Scalar.cmpi .ne v6 v11
  let v13 : BitVec 32 := Scalar.remsi v0 c24_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32_4 : BitVec 32 := 24#32
  let c0_i32_5 : BitVec 32 := 0#32
  let v18 : BitVec 1 := Scalar.cmpi .eq c24_i32_4 c0_i32_5
  let c1_i32_6 : BitVec 32 := 1#32
  let v19 : BitVec 32 := Scalar.select v18 c1_i32_6 c24_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c47_i32_10 : BitVec 32 := 47#32
  let v28 : BitVec 32 := Scalar.minsi arg0 c47_i32_10
  let c24_i32_11 : BitVec 32 := 24#32
  let v29 : BitVec 32 := Scalar.divsi v28 c24_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c24_i32_11 c0_i32_14
  let v36 : BitVec 32 := Scalar.extui v35
  let c0_i32_15 : BitVec 32 := 0#32
  let v37 : BitVec 1 := Scalar.cmpi .slt c24_i32_11 c0_i32_15
  let v38 : BitVec 32 := Scalar.extui v37
  let v39 : BitVec 32 := Scalar.subi v36 v38
  let v40 : BitVec 1 := Scalar.cmpi .ne v34 v39
  let v41 : BitVec 32 := Scalar.remsi v28 c24_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c24_i32_18 : BitVec 32 := 24#32
  let c0_i32_19 : BitVec 32 := 0#32
  let v46 : BitVec 1 := Scalar.cmpi .eq c24_i32_18 c0_i32_19
  let c1_i32_20 : BitVec 32 := 1#32
  let v47 : BitVec 32 := Scalar.select v46 c1_i32_20 c24_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v17.toNat, c0_i32_24.toNat, v55.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let v2 : BitVec 32 := Scalar.divsi v1 c24_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c24_i32 c0_i32_2
  let v9 : BitVec 32 := Scalar.extui v8
  let c0_i32_3 : BitVec 32 := 0#32
  let v10 : BitVec 1 := Scalar.cmpi .slt c24_i32 c0_i32_3
  let v11 : BitVec 32 := Scalar.extui v10
  let v12 : BitVec 32 := Scalar.subi v9 v11
  let v13 : BitVec 1 := Scalar.cmpi .ne v7 v12
  let v14 : BitVec 32 := Scalar.remsi v1 c24_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c24_i32_6 : BitVec 32 := 24#32
  let c0_i32_7 : BitVec 32 := 0#32
  let v19 : BitVec 1 := Scalar.cmpi .eq c24_i32_6 c0_i32_7
  let c1_i32_8 : BitVec 32 := 1#32
  let v20 : BitVec 32 := Scalar.select v19 c1_i32_8 c24_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, c0_i32_12.toNat, c0_i32_13.toNat]

def cc0_transform_2 (i : grid0.Coords) : Fin 3 → Nat :=
  let arg0 : BitVec 32 := BitVec.ofNat 32 (i 0).val
  let c47_i32 : BitVec 32 := 47#32
  let v0 : BitVec 32 := Scalar.minsi arg0 c47_i32
  let c24_i32 : BitVec 32 := 24#32
  let v1 : BitVec 32 := Scalar.divsi v0 c24_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c24_i32 c0_i32_1
  let v8 : BitVec 32 := Scalar.extui v7
  let c0_i32_2 : BitVec 32 := 0#32
  let v9 : BitVec 1 := Scalar.cmpi .slt c24_i32 c0_i32_2
  let v10 : BitVec 32 := Scalar.extui v9
  let v11 : BitVec 32 := Scalar.subi v8 v10
  let v12 : BitVec 1 := Scalar.cmpi .ne v6 v11
  let v13 : BitVec 32 := Scalar.remsi v0 c24_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32_4 : BitVec 32 := 24#32
  let c0_i32_5 : BitVec 32 := 0#32
  let v18 : BitVec 1 := Scalar.cmpi .eq c24_i32_4 c0_i32_5
  let c1_i32_6 : BitVec 32 := 1#32
  let v19 : BitVec 32 := Scalar.select v18 c1_i32_6 c24_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, c0_i32_11.toNat]

def cc0_transform_3 (i : grid0.Coords) : Fin 3 → Nat :=
  let arg0 : BitVec 32 := BitVec.ofNat 32 (i 0).val
  let c47_i32 : BitVec 32 := 47#32
  let v0 : BitVec 32 := Scalar.minsi arg0 c47_i32
  let c24_i32 : BitVec 32 := 24#32
  let v1 : BitVec 32 := Scalar.divsi v0 c24_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c24_i32 c0_i32_1
  let v8 : BitVec 32 := Scalar.extui v7
  let c0_i32_2 : BitVec 32 := 0#32
  let v9 : BitVec 1 := Scalar.cmpi .slt c24_i32 c0_i32_2
  let v10 : BitVec 32 := Scalar.extui v9
  let v11 : BitVec 32 := Scalar.subi v8 v10
  let v12 : BitVec 1 := Scalar.cmpi .ne v6 v11
  let v13 : BitVec 32 := Scalar.remsi v0 c24_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32_4 : BitVec 32 := 24#32
  let c0_i32_5 : BitVec 32 := 0#32
  let v18 : BitVec 1 := Scalar.cmpi .eq c24_i32_4 c0_i32_5
  let c1_i32_6 : BitVec 32 := 1#32
  let v19 : BitVec 32 := Scalar.select v18 c1_i32_6 c24_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, c0_i32_11.toNat]

def cc0_transform_4 (i : grid0.Coords) : Fin 3 → Nat :=
  let arg0 : BitVec 32 := BitVec.ofNat 32 (i 0).val
  let c47_i32 : BitVec 32 := 47#32
  let v0 : BitVec 32 := Scalar.minsi arg0 c47_i32
  let c24_i32 : BitVec 32 := 24#32
  let v1 : BitVec 32 := Scalar.divsi v0 c24_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c24_i32 c0_i32_1
  let v8 : BitVec 32 := Scalar.extui v7
  let c0_i32_2 : BitVec 32 := 0#32
  let v9 : BitVec 1 := Scalar.cmpi .slt c24_i32 c0_i32_2
  let v10 : BitVec 32 := Scalar.extui v9
  let v11 : BitVec 32 := Scalar.subi v8 v10
  let v12 : BitVec 1 := Scalar.cmpi .ne v6 v11
  let v13 : BitVec 32 := Scalar.remsi v0 c24_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32_4 : BitVec 32 := 24#32
  let c0_i32_5 : BitVec 32 := 0#32
  let v18 : BitVec 1 := Scalar.cmpi .eq c24_i32_4 c0_i32_5
  let c1_i32_6 : BitVec 32 := 1#32
  let v19 : BitVec 32 := Scalar.select v18 c1_i32_6 c24_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, c0_i32_11.toNat]

def cc0_transform_5 (i : grid0.Coords) : Fin 3 → Nat :=
  let arg0 : BitVec 32 := BitVec.ofNat 32 (i 0).val
  let c47_i32 : BitVec 32 := 47#32
  let v0 : BitVec 32 := Scalar.minsi arg0 c47_i32
  let c24_i32 : BitVec 32 := 24#32
  let v1 : BitVec 32 := Scalar.divsi v0 c24_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c24_i32 c0_i32_1
  let v8 : BitVec 32 := Scalar.extui v7
  let c0_i32_2 : BitVec 32 := 0#32
  let v9 : BitVec 1 := Scalar.cmpi .slt c24_i32 c0_i32_2
  let v10 : BitVec 32 := Scalar.extui v9
  let v11 : BitVec 32 := Scalar.subi v8 v10
  let v12 : BitVec 1 := Scalar.cmpi .ne v6 v11
  let v13 : BitVec 32 := Scalar.remsi v0 c24_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32_4 : BitVec 32 := 24#32
  let c0_i32_5 : BitVec 32 := 0#32
  let v18 : BitVec 1 := Scalar.cmpi .eq c24_i32_4 c0_i32_5
  let c1_i32_6 : BitVec 32 := 1#32
  let v19 : BitVec 32 := Scalar.select v18 c1_i32_6 c24_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, c0_i32_11.toNat]

def cc0_transform_6 (i : grid0.Coords) : Fin 3 → Nat :=
  let arg0 : BitVec 32 := BitVec.ofNat 32 (i 0).val
  let c47_i32 : BitVec 32 := 47#32
  let v0 : BitVec 32 := Scalar.minsi arg0 c47_i32
  let c24_i32 : BitVec 32 := 24#32
  let v1 : BitVec 32 := Scalar.divsi v0 c24_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c24_i32 c0_i32_1
  let v8 : BitVec 32 := Scalar.extui v7
  let c0_i32_2 : BitVec 32 := 0#32
  let v9 : BitVec 1 := Scalar.cmpi .slt c24_i32 c0_i32_2
  let v10 : BitVec 32 := Scalar.extui v9
  let v11 : BitVec 32 := Scalar.subi v8 v10
  let v12 : BitVec 1 := Scalar.cmpi .ne v6 v11
  let v13 : BitVec 32 := Scalar.remsi v0 c24_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32_4 : BitVec 32 := 24#32
  let c0_i32_5 : BitVec 32 := 0#32
  let v18 : BitVec 1 := Scalar.cmpi .eq c24_i32_4 c0_i32_5
  let c1_i32_6 : BitVec 32 := 1#32
  let v19 : BitVec 32 := Scalar.select v18 c1_i32_6 c24_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c47_i32_10 : BitVec 32 := 47#32
  let v28 : BitVec 32 := Scalar.minsi arg0 c47_i32_10
  let c24_i32_11 : BitVec 32 := 24#32
  let v29 : BitVec 32 := Scalar.divsi v28 c24_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c24_i32_11 c0_i32_14
  let v36 : BitVec 32 := Scalar.extui v35
  let c0_i32_15 : BitVec 32 := 0#32
  let v37 : BitVec 1 := Scalar.cmpi .slt c24_i32_11 c0_i32_15
  let v38 : BitVec 32 := Scalar.extui v37
  let v39 : BitVec 32 := Scalar.subi v36 v38
  let v40 : BitVec 1 := Scalar.cmpi .ne v34 v39
  let v41 : BitVec 32 := Scalar.remsi v28 c24_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c24_i32_18 : BitVec 32 := 24#32
  let c0_i32_19 : BitVec 32 := 0#32
  let v46 : BitVec 1 := Scalar.cmpi .eq c24_i32_18 c0_i32_19
  let c1_i32_20 : BitVec 32 := 1#32
  let v47 : BitVec 32 := Scalar.select v46 c1_i32_20 c24_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v17.toNat, c0_i32_24.toNat, v55.toNat]

def cc0_transform_7 (i : grid0.Coords) : Fin 3 → Nat :=
  let arg0 : BitVec 32 := BitVec.ofNat 32 (i 0).val
  let c47_i32 : BitVec 32 := 47#32
  let v0 : BitVec 32 := Scalar.minsi arg0 c47_i32
  let c24_i32 : BitVec 32 := 24#32
  let v1 : BitVec 32 := Scalar.divsi v0 c24_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c24_i32 c0_i32_1
  let v8 : BitVec 32 := Scalar.extui v7
  let c0_i32_2 : BitVec 32 := 0#32
  let v9 : BitVec 1 := Scalar.cmpi .slt c24_i32 c0_i32_2
  let v10 : BitVec 32 := Scalar.extui v9
  let v11 : BitVec 32 := Scalar.subi v8 v10
  let v12 : BitVec 1 := Scalar.cmpi .ne v6 v11
  let v13 : BitVec 32 := Scalar.remsi v0 c24_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32_4 : BitVec 32 := 24#32
  let c0_i32_5 : BitVec 32 := 0#32
  let v18 : BitVec 1 := Scalar.cmpi .eq c24_i32_4 c0_i32_5
  let c1_i32_6 : BitVec 32 := 1#32
  let v19 : BitVec 32 := Scalar.select v18 c1_i32_6 c24_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c47_i32_10 : BitVec 32 := 47#32
  let v28 : BitVec 32 := Scalar.minsi arg0 c47_i32_10
  let c24_i32_11 : BitVec 32 := 24#32
  let v29 : BitVec 32 := Scalar.divsi v28 c24_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c24_i32_11 c0_i32_14
  let v36 : BitVec 32 := Scalar.extui v35
  let c0_i32_15 : BitVec 32 := 0#32
  let v37 : BitVec 1 := Scalar.cmpi .slt c24_i32_11 c0_i32_15
  let v38 : BitVec 32 := Scalar.extui v37
  let v39 : BitVec 32 := Scalar.subi v36 v38
  let v40 : BitVec 1 := Scalar.cmpi .ne v34 v39
  let v41 : BitVec 32 := Scalar.remsi v28 c24_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c24_i32_18 : BitVec 32 := 24#32
  let c0_i32_19 : BitVec 32 := 0#32
  let v46 : BitVec 1 := Scalar.cmpi .eq c24_i32_18 c0_i32_19
  let c1_i32_20 : BitVec 32 := 1#32
  let v47 : BitVec 32 := Scalar.select v46 c1_i32_20 c24_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v17.toNat, c0_i32_24.toNat, v55.toNat]

def cc0_transform_8 (i : grid0.Coords) : Fin 3 → Nat :=
  let arg0 : BitVec 32 := BitVec.ofNat 32 (i 0).val
  let c47_i32 : BitVec 32 := 47#32
  let v0 : BitVec 32 := Scalar.minsi arg0 c47_i32
  let c24_i32 : BitVec 32 := 24#32
  let v1 : BitVec 32 := Scalar.divsi v0 c24_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c24_i32 c0_i32_1
  let v8 : BitVec 32 := Scalar.extui v7
  let c0_i32_2 : BitVec 32 := 0#32
  let v9 : BitVec 1 := Scalar.cmpi .slt c24_i32 c0_i32_2
  let v10 : BitVec 32 := Scalar.extui v9
  let v11 : BitVec 32 := Scalar.subi v8 v10
  let v12 : BitVec 1 := Scalar.cmpi .ne v6 v11
  let v13 : BitVec 32 := Scalar.remsi v0 c24_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32_4 : BitVec 32 := 24#32
  let c0_i32_5 : BitVec 32 := 0#32
  let v18 : BitVec 1 := Scalar.cmpi .eq c24_i32_4 c0_i32_5
  let c1_i32_6 : BitVec 32 := 1#32
  let v19 : BitVec 32 := Scalar.select v18 c1_i32_6 c24_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, c0_i32_11.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let v2 : BitVec 32 := Scalar.divsi v1 c24_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c24_i32 c0_i32_2
  let v9 : BitVec 32 := Scalar.extui v8
  let c0_i32_3 : BitVec 32 := 0#32
  let v10 : BitVec 1 := Scalar.cmpi .slt c24_i32 c0_i32_3
  let v11 : BitVec 32 := Scalar.extui v10
  let v12 : BitVec 32 := Scalar.subi v9 v11
  let v13 : BitVec 1 := Scalar.cmpi .ne v7 v12
  let v14 : BitVec 32 := Scalar.remsi v1 c24_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c24_i32_6 : BitVec 32 := 24#32
  let c0_i32_7 : BitVec 32 := 0#32
  let v19 : BitVec 1 := Scalar.cmpi .eq c24_i32_6 c0_i32_7
  let c1_i32_8 : BitVec 32 := 1#32
  let v20 : BitVec 32 := Scalar.select v19 c1_i32_8 c24_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x1536x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1536x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1536x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1536x512 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1536x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x5120 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Proof.DpRuns.lean ====
/- What the runs of the kernel "dp" share: the arrays when the region is entered, each window's block at a point, the conditions' closed forms, the scratch. -/
module

public import proofs.«01_k».proof.Proof.Gen.Dp.Launch
public import proofs.«01_k».proof.Proof.Gen.Dp.Skeleton
public import proofs.«01_k».proof.Proof.Gen.Dp.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Dp`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 3 rfl).trans ((hA c 3).trans (V_main_arg1 m c)),
      (Pipeline.RDat.FramePost.arr_in h c 4 rfl).trans ((hA c 4).trans (V_main_arg2 m c)),
      (Pipeline.RDat.FramePost.arr_in h c 1 rfl).trans ((hA c 1).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 24#32 0#32) 1#32 24#32)) 0#32) (Scalar.cmpi .slt (Scalar.select (Scalar.cmpi .eq 24#32 0#32) 1#32 24#32) 0#32)) (Scalar.cmpi .ne (Scalar.remsi (BitVec.ofNat 32 (i 0).val) (Scalar.select (Scalar.cmpi .eq 24#32 0#32) 1#32 24#32)) 0#32)) (Scalar.addi (Scalar.remsi (BitVec.ofNat 32 (i 0).val) (Scalar.select (Scalar.cmpi .eq 24#32 0#32) 1#32 24#32)) (Scalar.select (Scalar.cmpi .eq 24#32 0#32) 1#32 24#32)) (Scalar.remsi (BitVec.ofNat 32 (i 0).val) (Scalar.select (Scalar.cmpi .eq 24#32 0#32) 1#32 24#32))) 0#32)) 0#32) = 1#1
/-- It holds at the points ≡ 0 (mod 24) — decided over the grid. -/
theorem hcond0_0 : ∀ t : Fin cfg0.N, cond0_0 (grid0.coords t) ↔ t.val % 24 = 0 :=
  (by decide +kernel : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 49 = 0 :=
  (fun t => by
    have ht : t.val < 49 := Nat.lt_of_lt_of_eq t.isLt N_0
    have e0 : (grid0.coords t 0).val = t.val / 1 % 49 := Pipeline.Grid.coords_val t 0 (by decide) rfl
    simp only [cond0_1, k0_cond2, e0]
    word_cmp
   : ∀ t : Fin grid0.N, cond0_1 (grid0.coords t) ↔ t.val % 49 = 0)

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-- The condition of the body's `scf.if` 3 (`k0_h4`), from the grid coordinates (the skeleton's scalar
    chain substituted). -/
abbrev cond0_3 (i : grid0.Coords) : Prop := k0_cond4 i = 1#1
/-- It holds at points 2, 4, 6, 8, 10, 12, 14, 16, 18, 20, 22, 24, 26, 28, 30, 32, 34, 36, 38, 40, 42, 44, 46 and 48 only — decided over the grid. -/
theorem hcond0_3 : ∀ t : Fin cfg0.N, cond0_3 (grid0.coords t) ↔ (t.val % 49 = 2 ∨ t.val % 49 = 4 ∨ t.val % 49 = 6 ∨ t.val % 49 = 8 ∨ t.val % 49 = 10 ∨ t.val % 49 = 12 ∨ t.val % 49 = 14 ∨ t.val % 49 = 16 ∨ t.val % 49 = 18 ∨ t.val % 49 = 20 ∨ t.val % 49 = 22 ∨ t.val % 49 = 24 ∨ t.val % 49 = 26 ∨ t.val % 49 = 28 ∨ t.val % 49 = 30 ∨ t.val % 49 = 32 ∨ t.val % 49 = 34 ∨ t.val % 49 = 36 ∨ t.val % 49 = 38 ∨ t.val % 49 = 40 ∨ t.val % 49 = 42 ∨ t.val % 49 = 44 ∨ t.val % 49 = 46 ∨ t.val % 49 = 48) :=
  (by decide +kernel : ∀ t : Fin grid0.N, cond0_3 (grid0.coords t) ↔ (t.val % 49 = 2 ∨ t.val % 49 = 4 ∨ t.val % 49 = 6 ∨ t.val % 49 = 8 ∨ t.val % 49 = 10 ∨ t.val % 49 = 12 ∨ t.val % 49 = 14 ∨ t.val % 49 = 16 ∨ t.val % 49 = 18 ∨ t.val % 49 = 20 ∨ t.val % 49 = 22 ∨ t.val % 49 = 24 ∨ t.val % 49 = 26 ∨ t.val % 49 = 28 ∨ t.val % 49 = 30 ∨ t.val % 49 = 32 ∨ t.val % 49 = 34 ∨ t.val % 49 = 36 ∨ t.val % 49 = 38 ∨ t.val % 49 = 40 ∨ t.val % 49 = 42 ∨ t.val % 49 = 44 ∨ t.val % 49 = 46 ∨ t.val % 49 = 48))

/-- The condition of the body's `scf.if` 4 (`k0_h5`), from the grid coordinates (the skeleton's scalar
    chain substituted). -/
abbrev cond0_4 (i : grid0.Coords) : Prop := k0_cond5 i = 1#1
/-- It holds at the points ≡ 23 (mod 24) — decided over the grid. -/
theorem hcond0_4 : ∀ t : Fin cfg0.N, cond0_4 (grid0.coords t) ↔ t.val % 24 = 23 :=
  (by decide +kernel : ∀ t : Fin grid0.N, cond0_4 (grid0.coords t) ↔ t.val % 24 = 23)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x1536x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536x5120 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1536x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1536x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536x512 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1536x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x5120 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S512x1536 .bf16 := Memref.whole cc0_scratch0
abbrev scM0_1 : Memref sig .tc .vmem S512x1536 .bf16 := Memref.whole cc0_scratch1
abbrev scM0_2 : Memref sig .tc .vmem S512x128 .f32 := Memref.whole cc0_scratch2
abbrev scM0_3 : Memref sig .tc .vmem S512x128 .f32 := Memref.whole cc0_scratch3
abbrev scM0_4 : Memref sig .tc .vmem S1536x512 .f32 := Memref.whole cc0_scratch4
abbrev scM0_5 : Memref sig .tc .vmem S1536x128 .f32 := Memref.whole cc0_scratch5
/-- The scratch `arg16` the kernel carries between points, as a view: what it holds is stated through it. -/
abbrev VS0_5 : View sig .tc .vmem S1536x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Dp.Gen

end
-- ==== Proof.DpRunA.lean ====
/- The run of the whole body of the kernel "dp" in case A of its conditionals, one module per case. -/
module

public import proofs.«01_k».proof.Proof.DpRuns

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

-- (the run's proof term is large: the definition's epilogue — `abstractNestedProofs` — walks it past the default budget)
set_option maxHeartbeats 12476000 in
/-- What the body's stores leave in each output's staging memref, as pieces (last first) IN CASE A (`scf.if` 0 taken, `scf.if` 1 taken, `scf.if` 2 not taken, `scf.if` 3 not taken, `scf.if` 4 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9) at anything, handed back at some contents nothing names. -/
noncomputable def kernelRun0_A (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : cond0_0 i) (hc1 : cond0_1 i) (hc2 : ¬cond0_2 i) (hc3 : ¬cond0_3 i) (hc4 : ¬cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) :
    { LS5 : List (View.Piece (Elt F) S1536x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS5)) -∗ K ⟨⟩))
          ⊢ wp frame (wpE (defs₀ (F := F)) Variants.none c none) E (cc0_dp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_dp_eq_skeleton]; unfold cc0_dp_skel
    simp only [k0_part695_eq_skeleton, k0_part221_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part222_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part223_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part224_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _; iexact HS5

end Cert.Dp.Gen

end
-- ==== Proof.DpRunB.lean ====
/- The run of the whole body of the kernel "dp" in case B of its conditionals, one module per case. -/
module

public import proofs.«01_k».proof.Proof.DpRunA

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

-- (the run's proof term is large: the definition's epilogue — `abstractNestedProofs` — walks it past the default budget)
set_option maxHeartbeats 13288000 in
/-- What the body's stores leave in each output's staging memref, as pieces (last first) IN CASE B (`scf.if` 0 not taken, `scf.if` 1 not taken, `scf.if` 2 taken, `scf.if` 3 not taken, `scf.if` 4 not taken: points 1, 3, … 45: 22 of 49), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9) at anything, handed back at some contents nothing names. -/
noncomputable def kernelRun0_B (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : ¬cond0_0 i) (hc1 : ¬cond0_1 i) (hc2 : cond0_2 i) (hc3 : ¬cond0_3 i) (hc4 : ¬cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) (xs5 : Vec F S1536x128 .f32) :
    { LS5 : List (View.Piece (Elt F) S1536x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS5)) -∗ K ⟨⟩))
          ⊢ wp frame (wpE (defs₀ (F := F)) Variants.none c none) E (cc0_dp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_dp_eq_skeleton]; unfold cc0_dp_skel
    simp only [k0_part695_eq_skeleton, k0_part456_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part457_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part458_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part459_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg16.eq_unread hfs5
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _; iexact HS5

end Cert.Dp.Gen

end
-- ==== Proof.DpRunC.lean ====
/- The run of the whole body of the kernel "dp" in case C of its conditionals, one module per case. -/
module

public import proofs.«01_k».proof.Proof.DpRunB

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

-- (the run's proof term is large: the definition's epilogue — `abstractNestedProofs` — walks it past the default budget)
set_option maxHeartbeats 13288000 in
/-- What the body's stores leave in each output's staging memref, as pieces (last first) IN CASE C (`scf.if` 0 not taken, `scf.if` 1 not taken, `scf.if` 2 not taken, `scf.if` 3 taken, `scf.if` 4 not taken: points 2, 4, … 46: 22 of 49), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9) at anything, handed back at some contents nothing names. -/
noncomputable def kernelRun0_C (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : ¬cond0_0 i) (hc1 : ¬cond0_1 i) (hc2 : ¬cond0_2 i) (hc3 : cond0_3 i) (hc4 : ¬cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) (xs5 : Vec F S1536x128 .f32) :
    { LS5 : List (View.Piece (Elt F) S1536x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS5)) -∗ K ⟨⟩))
          ⊢ wp frame (wpE (defs₀ (F := F)) Variants.none c none) E (cc0_dp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_dp_eq_skeleton]; unfold cc0_dp_skel
    simp only [k0_part695_eq_skeleton, k0_part691_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part692_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part693_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part694_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg16.eq_unread hfs5
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _; iexact HS5

end Cert.Dp.Gen

end
-- ==== Proof.DpRunD.lean ====
/- The run of the whole body of the kernel "dp" in case D of its conditionals, one module per case. -/
module

public import proofs.«01_k».proof.Proof.DpRunC

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

-- (the run's proof term is large: the definition's epilogue — `abstractNestedProofs` — walks it past the default budget)
set_option maxHeartbeats 13308000 in
/-- What the body's stores leave in each output's staging memref, as pieces (last first) IN CASE D (`scf.if` 0 not taken, `scf.if` 1 not taken, `scf.if` 2 taken, `scf.if` 3 not taken, `scf.if` 4 taken: points 23, 47), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9) at anything, handed back at some contents nothing names. -/
noncomputable def kernelRun0_D (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : ¬cond0_0 i) (hc1 : ¬cond0_1 i) (hc2 : cond0_2 i) (hc3 : ¬cond0_3 i) (hc4 : cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) (xs5 : Vec F S1536x128 .f32) :
    { LS5 : List (View.Piece (Elt F) S1536x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS5)) -∗ K ⟨⟩))
          ⊢ wp frame (wpE (defs₀ (F := F)) Variants.none c none) E (cc0_dp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_dp_eq_skeleton]; unfold cc0_dp_skel
    simp only [k0_part695_eq_skeleton, k0_part456_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part457_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part458_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part459_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg16.eq_unread hfs5
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _; iexact HS5

end Cert.Dp.Gen

end
-- ==== Proof.DpRunE.lean ====
/- The run of the whole body of the kernel "dp" in case E of its conditionals, one module per case. -/
module

public import proofs.«01_k».proof.Proof.DpRunD

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

-- (the run's proof term is large: the definition's epilogue — `abstractNestedProofs` — walks it past the default budget)
set_option maxHeartbeats 13300000 in
/-- What the body's stores leave in each output's staging memref, as pieces (last first) IN CASE E (`scf.if` 0 taken, `scf.if` 1 not taken, `scf.if` 2 not taken, `scf.if` 3 taken, `scf.if` 4 not taken: points 24, 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9) at anything, handed back at some contents nothing names. -/
noncomputable def kernelRun0_E (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : cond0_0 i) (hc1 : ¬cond0_1 i) (hc2 : ¬cond0_2 i) (hc3 : cond0_3 i) (hc4 : ¬cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) :
    { LS5 : List (View.Piece (Elt F) S1536x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS5)) -∗ K ⟨⟩))
          ⊢ wp frame (wpE (defs₀ (F := F)) Variants.none c none) E (cc0_dp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_dp_eq_skeleton]; unfold cc0_dp_skel
    simp only [k0_part695_eq_skeleton, k0_part691_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part692_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part693_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part694_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _; iexact HS5

end Cert.Dp.Gen

end
-- ==== Proof.DpFrame.lean ====
/- The frame of the kernel "dp": its argument arrays end as launched, and every semaphore ends at zero. What the kernel leaves in its outputs is not
   named: an output buffer is handed back at some contents, so its block need not be covered at a point that stores nothing into it (the loss, at the last
   point). -/
module

public import proofs.«01_k».proof.Proof.DpRunE
public import Idealize.ShloMosaic.Lib.Claim

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)
/-- Case A's pieces for scratch `arg16`, which the kernel carries between points, cover it: one of them a store of the WHOLE buffer (Lib/Ring.lean `sl_whole_mem`). -/
theorem scover0_A_5 (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : cond0_0 i) (hc1 : cond0_1 i) (hc2 : ¬cond0_2 i) (hc3 : ¬cond0_3 i) (hc4 : ¬cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) (y : S1536x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5).1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5).1 (by sl_whole_mem) y

/-- What case A leaves in scratch `arg16`: its pieces read back over junk. -/
def sout0_A_5 (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : cond0_0 i) (hc1 : cond0_1 i) (hc2 : ¬cond0_2 i) (hc3 : ¬cond0_3 i) (hc4 : ¬cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) : Vec F S1536x128 .f32 :=
  VS0_5.read (Elt F) (VS0_5.writes (Elt F) VS0_5.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5).1)

/-- Case B's pieces for scratch `arg16`, which the kernel carries between points, cover it: 96 pieces of `S16x128` tiling it (Lib/Ring.lean `Piece.tiledL`). -/
theorem scover0_B_5 (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : ¬cond0_0 i) (hc1 : ¬cond0_1 i) (hc2 : cond0_2 i) (hc3 : ¬cond0_3 i) (hc4 : ¬cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) (xs5 : Vec F S1536x128 .f32) (y : S1536x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 xs5).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 xs5).1 S16x128.size (by sl_kernel_rfl) y

/-- What case B leaves in scratch `arg16`: its pieces read back over junk. -/
def sout0_B_5 (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : ¬cond0_0 i) (hc1 : ¬cond0_1 i) (hc2 : cond0_2 i) (hc3 : ¬cond0_3 i) (hc4 : ¬cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) (xs5 : Vec F S1536x128 .f32) : Vec F S1536x128 .f32 :=
  VS0_5.read (Elt F) (VS0_5.writes (Elt F) VS0_5.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 xs5).1)

/-- Case C's pieces for scratch `arg16`, which the kernel carries between points, cover it: 96 pieces of `S16x128` tiling it (Lib/Ring.lean `Piece.tiledL`). -/
theorem scover0_C_5 (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : ¬cond0_0 i) (hc1 : ¬cond0_1 i) (hc2 : ¬cond0_2 i) (hc3 : cond0_3 i) (hc4 : ¬cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) (xs5 : Vec F S1536x128 .f32) (y : S1536x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 xs5).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 xs5).1 S16x128.size (by sl_kernel_rfl) y

/-- What case C leaves in scratch `arg16`: its pieces read back over junk. -/
def sout0_C_5 (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : ¬cond0_0 i) (hc1 : ¬cond0_1 i) (hc2 : ¬cond0_2 i) (hc3 : cond0_3 i) (hc4 : ¬cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) (xs5 : Vec F S1536x128 .f32) : Vec F S1536x128 .f32 :=
  VS0_5.read (Elt F) (VS0_5.writes (Elt F) VS0_5.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 xs5).1)

/-- Case D's pieces for scratch `arg16`, which the kernel carries between points, cover it: 96 pieces of `S16x128` tiling it (Lib/Ring.lean `Piece.tiledL`). -/
theorem scover0_D_5 (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : ¬cond0_0 i) (hc1 : ¬cond0_1 i) (hc2 : cond0_2 i) (hc3 : ¬cond0_3 i) (hc4 : cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) (xs5 : Vec F S1536x128 .f32) (y : S1536x128.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 xs5).1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 xs5).1 S16x128.size (by sl_kernel_rfl) y

/-- What case D leaves in scratch `arg16`: its pieces read back over junk. -/
def sout0_D_5 (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : ¬cond0_0 i) (hc1 : ¬cond0_1 i) (hc2 : cond0_2 i) (hc3 : ¬cond0_3 i) (hc4 : cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) (xs5 : Vec F S1536x128 .f32) : Vec F S1536x128 .f32 :=
  VS0_5.read (Elt F) (VS0_5.writes (Elt F) VS0_5.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 xs5).1)

/-- Case E's pieces for scratch `arg16`, which the kernel carries between points, cover it: one of them a store of the WHOLE buffer (Lib/Ring.lean `sl_whole_mem`). -/
theorem scover0_E_5 (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : cond0_0 i) (hc1 : ¬cond0_1 i) (hc2 : ¬cond0_2 i) (hc3 : cond0_3 i) (hc4 : ¬cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) (y : S1536x128.Idx) :
    ∃ pc ∈ (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5).1, y ∈ pc.1.set :=
  View.cover_of_wholeMem (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5).1 (by sl_whole_mem) y

/-- What case E leaves in scratch `arg16`: its pieces read back over junk. -/
def sout0_E_5 (c : Dev nD) (i : grid0.Coords) (arg1 : Memref sig .tc .vmem S1x1536x512 .f32) (harg1 : arg1.IsWhole) (arg2 : Memref sig .tc .vmem S1x1536x5120 .fp8e4m3) (harg2 : arg2.IsWhole) (arg3 : Memref sig .tc .vmem S1x1536x128 .bf16) (harg3 : arg3.IsWhole) (arg4 : Memref sig .tc .vmem S1x1536x128 .f32) (harg4 : arg4.IsWhole) (arg5 : Memref sig .tc .vmem S1x1536x128 .f32) (harg5 : arg5.IsWhole) (arg6 : Memref sig .tc .vmem S1x1536x128 .i32) (harg6 : arg6.IsWhole) (arg7 : Memref sig .tc .vmem S1x1536x512 .fp8e5m2) (harg7 : arg7.IsWhole) (arg8 : Memref sig .tc .vmem S1x1x512 .f32) (harg8 : arg8.IsWhole) (arg9 : Memref sig .tc .vmem S1x1536x128 .f32) (harg9 : arg9.IsWhole) (arg10 : Memref sig .tc .vmem S1x512x5120 .bf16) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x128 .f32) (harg13 : arg13.IsWhole) (arg14 : Memref sig .tc .vmem S512x128 .f32) (harg14 : arg14.IsWhole) (arg15 : Memref sig .tc .vmem S1536x512 .f32) (harg15 : arg15.IsWhole) (arg16 : Memref sig .tc .vmem S1536x128 .f32) (harg16 : arg16.IsWhole) (hc0 : cond0_0 i) (hc1 : ¬cond0_1 i) (hc2 : ¬cond0_2 i) (hc3 : cond0_3 i) (hc4 : ¬cond0_4 i)
    (x0 : Vec F S1x1536x512 .f32) (x1 : Vec F S1x1536x5120 .fp8e4m3) (x2 : Vec F S1x1536x128 .bf16) (x3 : Vec F S1x1536x128 .f32) (x4 : Vec F S1x1536x128 .f32) (x5 : Vec F S1x1536x128 .i32) : Vec F S1536x128 .f32 :=
  VS0_5.read (Elt F) (VS0_5.writes (Elt F) VS0_5.junk (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x128 .f32
  | 0, hn => sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 24 = 0 then
      if h1 : (n + 1) % 49 = 0 then
        if h2 : (n + 1) % 2 = 1 then
          False.elim (by have hN : n + 1 < 49 := lt_of_lt_of_eq hn (show cfg0.N = 49 from N_0); omega)
        else
          if h3 : ((n + 1) % 49 = 2 ∨ (n + 1) % 49 = 4 ∨ (n + 1) % 49 = 6 ∨ (n + 1) % 49 = 8 ∨ (n + 1) % 49 = 10 ∨ (n + 1) % 49 = 12 ∨ (n + 1) % 49 = 14 ∨ (n + 1) % 49 = 16 ∨ (n + 1) % 49 = 18 ∨ (n + 1) % 49 = 20 ∨ (n + 1) % 49 = 22 ∨ (n + 1) % 49 = 24 ∨ (n + 1) % 49 = 26 ∨ (n + 1) % 49 = 28 ∨ (n + 1) % 49 = 30 ∨ (n + 1) % 49 = 32 ∨ (n + 1) % 49 = 34 ∨ (n + 1) % 49 = 36 ∨ (n + 1) % 49 = 38 ∨ (n + 1) % 49 = 40 ∨ (n + 1) % 49 = 42 ∨ (n + 1) % 49 = 44 ∨ (n + 1) % 49 = 46 ∨ (n + 1) % 49 = 48) then
            False.elim (by have hN : n + 1 < 49 := lt_of_lt_of_eq hn (show cfg0.N = 49 from N_0); omega)
          else
            if h4 : (n + 1) % 24 = 23 then
              False.elim (by have hN : n + 1 < 49 := lt_of_lt_of_eq hn (show cfg0.N = 49 from N_0); omega)
            else
              sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
      else
        if h2 : (n + 1) % 2 = 1 then
          False.elim (by have hN : n + 1 < 49 := lt_of_lt_of_eq hn (show cfg0.N = 49 from N_0); omega)
        else
          if h3 : ((n + 1) % 49 = 2 ∨ (n + 1) % 49 = 4 ∨ (n + 1) % 49 = 6 ∨ (n + 1) % 49 = 8 ∨ (n + 1) % 49 = 10 ∨ (n + 1) % 49 = 12 ∨ (n + 1) % 49 = 14 ∨ (n + 1) % 49 = 16 ∨ (n + 1) % 49 = 18 ∨ (n + 1) % 49 = 20 ∨ (n + 1) % 49 = 22 ∨ (n + 1) % 49 = 24 ∨ (n + 1) % 49 = 26 ∨ (n + 1) % 49 = 28 ∨ (n + 1) % 49 = 30 ∨ (n + 1) % 49 = 32 ∨ (n + 1) % 49 = 34 ∨ (n + 1) % 49 = 36 ∨ (n + 1) % 49 = 38 ∨ (n + 1) % 49 = 40 ∨ (n + 1) % 49 = 42 ∨ (n + 1) % 49 = 44 ∨ (n + 1) % 49 = 46 ∨ (n + 1) % 49 = 48) then
            if h4 : (n + 1) % 24 = 23 then
              False.elim (by have hN : n + 1 < 49 := lt_of_lt_of_eq hn (show cfg0.N = 49 from N_0); omega)
            else
              sout0_E_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
          else
            False.elim (by have hN : n + 1 < 49 := lt_of_lt_of_eq hn (show cfg0.N = 49 from N_0); omega)
    else
      if h1 : (n + 1) % 49 = 0 then
        False.elim (by have hN : n + 1 < 49 := lt_of_lt_of_eq hn (show cfg0.N = 49 from N_0); omega)
      else
        if h2 : (n + 1) % 2 = 1 then
          if h3 : ((n + 1) % 49 = 2 ∨ (n + 1) % 49 = 4 ∨ (n + 1) % 49 = 6 ∨ (n + 1) % 49 = 8 ∨ (n + 1) % 49 = 10 ∨ (n + 1) % 49 = 12 ∨ (n + 1) % 49 = 14 ∨ (n + 1) % 49 = 16 ∨ (n + 1) % 49 = 18 ∨ (n + 1) % 49 = 20 ∨ (n + 1) % 49 = 22 ∨ (n + 1) % 49 = 24 ∨ (n + 1) % 49 = 26 ∨ (n + 1) % 49 = 28 ∨ (n + 1) % 49 = 30 ∨ (n + 1) % 49 = 32 ∨ (n + 1) % 49 = 34 ∨ (n + 1) % 49 = 36 ∨ (n + 1) % 49 = 38 ∨ (n + 1) % 49 = 40 ∨ (n + 1) % 49 = 42 ∨ (n + 1) % 49 = 44 ∨ (n + 1) % 49 = 46 ∨ (n + 1) % 49 = 48) then
            False.elim (by have hN : n + 1 < 49 := lt_of_lt_of_eq hn (show cfg0.N = 49 from N_0); omega)
          else
            if h4 : (n + 1) % 24 = 23 then
              sout0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
            else
              sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
        else
          if h3 : ((n + 1) % 49 = 2 ∨ (n + 1) % 49 = 4 ∨ (n + 1) % 49 = 6 ∨ (n + 1) % 49 = 8 ∨ (n + 1) % 49 = 10 ∨ (n + 1) % 49 = 12 ∨ (n + 1) % 49 = 14 ∨ (n + 1) % 49 = 16 ∨ (n + 1) % 49 = 18 ∨ (n + 1) % 49 = 20 ∨ (n + 1) % 49 = 22 ∨ (n + 1) % 49 = 24 ∨ (n + 1) % 49 = 26 ∨ (n + 1) % 49 = 28 ∨ (n + 1) % 49 = 30 ∨ (n + 1) % 49 = 32 ∨ (n + 1) % 49 = 34 ∨ (n + 1) % 49 = 36 ∨ (n + 1) % 49 = 38 ∨ (n + 1) % 49 = 40 ∨ (n + 1) % 49 = 42 ∨ (n + 1) % 49 = 44 ∨ (n + 1) % 49 = 46 ∨ (n + 1) % 49 = 48) then
            if h4 : (n + 1) % 24 = 23 then
              False.elim (by have hN : n + 1 < 49 := lt_of_lt_of_eq hn (show cfg0.N = 49 from N_0); omega)
            else
              sout0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
          else
            False.elim (by have hN : n + 1 < 49 := lt_of_lt_of_eq hn (show cfg0.N = 49 from N_0); omega)

/-- `outsAt0` at a point of case A: that case's contents. -/
theorem outsAt0_A (c : Dev nD) (t : Fin cfg0.N) (h0 : t.val % 24 = 0) (h1 : t.val % 49 = 0) (h2 : ¬t.val % 2 = 1) (h3 : ¬(t.val % 49 = 2 ∨ t.val % 49 = 4 ∨ t.val % 49 = 6 ∨ t.val % 49 = 8 ∨ t.val % 49 = 10 ∨ t.val % 49 = 12 ∨ t.val % 49 = 14 ∨ t.val % 49 = 16 ∨ t.val % 49 = 18 ∨ t.val % 49 = 20 ∨ t.val % 49 = 22 ∨ t.val % 49 = 24 ∨ t.val % 49 = 26 ∨ t.val % 49 = 28 ∨ t.val % 49 = 30 ∨ t.val % 49 = 32 ∨ t.val % 49 = 34 ∨ t.val % 49 = 36 ∨ t.val % 49 = 38 ∨ t.val % 49 = 40 ∨ t.val % 49 = 42 ∨ t.val % 49 = 44 ∨ t.val % 49 = 46 ∨ t.val % 49 = 48)) (h4 : ¬t.val % 24 = 23) :
    outsAt0 m c t.val t.isLt = sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans ((dif_pos h1).trans ((dif_neg h2).trans ((dif_neg h3).trans ((dif_neg h4).trans rfl))))

/-- `outsAt0` at a point of case B: that case's contents, over what the point before left. -/
theorem outsAt0_B (c : Dev nD) (t : Fin cfg0.N) (h0 : ¬t.val % 24 = 0) (h1 : ¬t.val % 49 = 0) (h2 : t.val % 2 = 1) (h3 : ¬(t.val % 49 = 2 ∨ t.val % 49 = 4 ∨ t.val % 49 = 6 ∨ t.val % 49 = 8 ∨ t.val % 49 = 10 ∨ t.val % 49 = 12 ∨ t.val % 49 = 14 ∨ t.val % 49 = 16 ∨ t.val % 49 = 18 ∨ t.val % 49 = 20 ∨ t.val % 49 = 22 ∨ t.val % 49 = 24 ∨ t.val % 49 = 26 ∨ t.val % 49 = 28 ∨ t.val % 49 = 30 ∨ t.val % 49 = 32 ∨ t.val % 49 = 34 ∨ t.val % 49 = 36 ∨ t.val % 49 = 38 ∨ t.val % 49 = 40 ∨ t.val % 49 = 42 ∨ t.val % 49 = 44 ∨ t.val % 49 = 46 ∨ t.val % 49 = 48)) (h4 : ¬t.val % 24 = 23) :
    outsAt0 m c t.val t.isLt = sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

/-- `outsAt0` at a point of case C: that case's contents, over what the point before left. -/
theorem outsAt0_C (c : Dev nD) (t : Fin cfg0.N) (h0 : ¬t.val % 24 = 0) (h1 : ¬t.val % 49 = 0) (h2 : ¬t.val % 2 = 1) (h3 : (t.val % 49 = 2 ∨ t.val % 49 = 4 ∨ t.val % 49 = 6 ∨ t.val % 49 = 8 ∨ t.val % 49 = 10 ∨ t.val % 49 = 12 ∨ t.val % 49 = 14 ∨ t.val % 49 = 16 ∨ t.val % 49 = 18 ∨ t.val % 49 = 20 ∨ t.val % 49 = 22 ∨ t.val % 49 = 24 ∨ t.val % 49 = 26 ∨ t.val % 49 = 28 ∨ t.val % 49 = 30 ∨ t.val % 49 = 32 ∨ t.val % 49 = 34 ∨ t.val % 49 = 36 ∨ t.val % 49 = 38 ∨ t.val % 49 = 40 ∨ t.val % 49 = 42 ∨ t.val % 49 = 44 ∨ t.val % 49 = 46 ∨ t.val % 49 = 48)) (h4 : ¬t.val % 24 = 23) :
    outsAt0 m c t.val t.isLt = sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

/-- `outsAt0` at a point of case D: that case's contents, over what the point before left. -/
theorem outsAt0_D (c : Dev nD) (t : Fin cfg0.N) (h0 : ¬t.val % 24 = 0) (h1 : ¬t.val % 49 = 0) (h2 : t.val % 2 = 1) (h3 : ¬(t.val % 49 = 2 ∨ t.val % 49 = 4 ∨ t.val % 49 = 6 ∨ t.val % 49 = 8 ∨ t.val % 49 = 10 ∨ t.val % 49 = 12 ∨ t.val % 49 = 14 ∨ t.val % 49 = 16 ∨ t.val % 49 = 18 ∨ t.val % 49 = 20 ∨ t.val % 49 = 22 ∨ t.val % 49 = 24 ∨ t.val % 49 = 26 ∨ t.val % 49 = 28 ∨ t.val % 49 = 30 ∨ t.val % 49 = 32 ∨ t.val % 49 = 34 ∨ t.val % 49 = 36 ∨ t.val % 49 = 38 ∨ t.val % 49 = 40 ∨ t.val % 49 = 42 ∨ t.val % 49 = 44 ∨ t.val % 49 = 46 ∨ t.val % 49 = 48)) (h4 : t.val % 24 = 23) :
    outsAt0 m c t.val t.isLt = sout0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_pos h4).trans rfl))))

/-- `outsAt0` at a point of case E: that case's contents. -/
theorem outsAt0_E (c : Dev nD) (t : Fin cfg0.N) (h0 : t.val % 24 = 0) (h1 : ¬t.val % 49 = 0) (h2 : ¬t.val % 2 = 1) (h3 : (t.val % 49 = 2 ∨ t.val % 49 = 4 ∨ t.val % 49 = 6 ∨ t.val % 49 = 8 ∨ t.val % 49 = 10 ∨ t.val % 49 = 12 ∨ t.val % 49 = 14 ∨ t.val % 49 = 16 ∨ t.val % 49 = 18 ∨ t.val % 49 = 20 ∨ t.val % 49 = 22 ∨ t.val % 49 = 24 ∨ t.val % 49 = 26 ∨ t.val % 49 = 28 ∨ t.val % 49 = 30 ∨ t.val % 49 = 32 ∨ t.val % 49 = 34 ∨ t.val % 49 = 36 ∨ t.val % 49 = 38 ∨ t.val % 49 = 40 ∨ t.val % 49 = 42 ∨ t.val % 49 = 44 ∨ t.val % 49 = 46 ∨ t.val % 49 = 48)) (h4 : ¬t.val % 24 = 23) :
    outsAt0 m c t.val t.isLt = sout0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) := by
  obtain ⟨n, hn⟩ := t
  cases n with
  | zero => exact (by exfalso; (try dsimp only at h1); exact absurd (Nat.zero_mod _) h1)
  | succ n => exact (dif_pos h0).trans ((dif_neg h1).trans ((dif_neg h2).trans ((dif_pos h3).trans ((dif_neg h4).trans rfl))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c (n - 1) (by omega)))) ∗ (∃ r, prngReg c r)) := by
  cases n with
  | zero => exact absurd rfl hz
  | succ n => rfl

/-! ## The pipeline's proof data -/

/-- The output windows this certificate FORGETS (6, 7, 8, 9): nothing reads what the kernel leaves in them, so nothing
    of it is named (Lib/Pipeline/Dat.lean `Dat.toRForget`). -/
def forgets0 : Fin 10 → Bool := fun w => w.val == 6 || w.val == 7 || w.val == 8 || w.val == 9

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 32000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 49 := lt_of_lt_of_eq t.isLt (show cfg0.N = 49 from N_0)
  by_cases h0 : t.val % 24 = 0
  · by_cases h1 : t.val % 49 = 0
    · by_cases h2 : t.val % 2 = 1
      · exfalso; omega
      · by_cases h3 : (t.val % 49 = 2 ∨ t.val % 49 = 4 ∨ t.val % 49 = 6 ∨ t.val % 49 = 8 ∨ t.val % 49 = 10 ∨ t.val % 49 = 12 ∨ t.val % 49 = 14 ∨ t.val % 49 = 16 ∨ t.val % 49 = 18 ∨ t.val % 49 = 20 ∨ t.val % 49 = 22 ∨ t.val % 49 = 24 ∨ t.val % 49 = 26 ∨ t.val % 49 = 28 ∨ t.val % 49 = 30 ∨ t.val % 49 = 32 ∨ t.val % 49 = 34 ∨ t.val % 49 = 36 ∨ t.val % 49 = 38 ∨ t.val % 49 = 40 ∨ t.val % 49 = 42 ∨ t.val % 49 = 44 ∨ t.val % 49 = 46 ∨ t.val % 49 = 48)
        · exfalso; omega
        · by_cases h4 : t.val % 24 = 23
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            by_cases hz : t.val = 0
            · rw [PhiS_castSucc m c t, PhiS_zero m c _ _ hz, PhiA0_eq]
              rw [outsAt0_A m c t h0 h1 h2 h3 h4]
              unfold sout0_A_5
              iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_A c (grid0.coords t) _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (iblk m c 5 t)).2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              isplitl [H8]; · iexists _; iexact H8
              isplitl [H9]; · iexists _; iexact H9
              isplitl [HS0]; · iexact HS0
              isplitl [HS1]; · iexact HS1
              isplitl [HS2]; · iexact HS2
              isplitl [HS3]; · iexact HS3
              isplitl [HS4]; · iexact HS4
              isplitl [HS5]; · iexact HS5
              iintro ⟨H0, H1, H2, H3, H4, H5, H6, H7, H8, H9, HS0, HS1, HS2, HS3, HS4, ⟨%es5, HS5⟩⟩
              isplitl [HS0 HS1 HS2 HS3 HS4 HS5 Hg]
              · isplitl [HS0 HS1 HS2 HS3 HS4 HS5]
                · isplitl [HS0]
                  · iexact HS0
                  isplitl [HS1]
                  · iexact HS1
                  isplitl [HS2]
                  · iexact HS2
                  isplitl [HS3]
                  · iexact HS3
                  isplitl [HS4]
                  · iexact HS4
                  unfold owns; iexists _; isplitr
                  swap; · iexact HS5
                  ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              iexact H9
            · exfalso; have hN : t.val < 49 := lt_of_lt_of_eq t.isLt (show cfg0.N = 49 from N_0); omega
    · by_cases h2 : t.val % 2 = 1
      · exfalso; omega
      · by_cases h3 : (t.val % 49 = 2 ∨ t.val % 49 = 4 ∨ t.val % 49 = 6 ∨ t.val % 49 = 8 ∨ t.val % 49 = 10 ∨ t.val % 49 = 12 ∨ t.val % 49 = 14 ∨ t.val % 49 = 16 ∨ t.val % 49 = 18 ∨ t.val % 49 = 20 ∨ t.val % 49 = 22 ∨ t.val % 49 = 24 ∨ t.val % 49 = 26 ∨ t.val % 49 = 28 ∨ t.val % 49 = 30 ∨ t.val % 49 = 32 ∨ t.val % 49 = 34 ∨ t.val % 49 = 36 ∨ t.val % 49 = 38 ∨ t.val % 49 = 40 ∨ t.val % 49 = 42 ∨ t.val % 49 = 44 ∨ t.val % 49 = 46 ∨ t.val % 49 = 48)
        · by_cases h4 : t.val % 24 = 23
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            by_cases hz : t.val = 0
            · exfalso; have hN : t.val < 49 := lt_of_lt_of_eq t.isLt (show cfg0.N = 49 from N_0); omega
            · rw [PhiS_castSucc m c t, PhiS_pos m c _ _ hz]
              rw [outsAt0_E m c t h0 h1 h2 h3 h4]
              unfold sout0_E_5
              iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_E c (grid0.coords t) _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t)).2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              isplitl [H8]; · iexists _; iexact H8
              isplitl [H9]; · iexists _; iexact H9
              isplitl [HS0]; · iexact HS0
              isplitl [HS1]; · iexact HS1
              isplitl [HS2]; · iexact HS2
              isplitl [HS3]; · iexact HS3
              isplitl [HS4]; · iexact HS4
              isplitl [HS5]; · iexists _; iexact HS5
              iintro ⟨H0, H1, H2, H3, H4, H5, H6, H7, H8, H9, HS0, HS1, HS2, HS3, HS4, ⟨%es5, HS5⟩⟩
              isplitl [HS0 HS1 HS2 HS3 HS4 HS5 Hg]
              · isplitl [HS0 HS1 HS2 HS3 HS4 HS5]
                · isplitl [HS0]
                  · iexact HS0
                  isplitl [HS1]
                  · iexact HS1
                  isplitl [HS2]
                  · iexact HS2
                  isplitl [HS3]
                  · iexact HS3
                  isplitl [HS4]
                  · iexact HS4
                  unfold owns; iexists _; isplitr
                  swap; · iexact HS5
                  ipureintro; exact View.read_writes_of_cover _ _ _ _ _ (scover0_E_5 c _ _ _ _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              iexact H9
        · exfalso; omega
  · by_cases h1 : t.val % 49 = 0
    · exfalso; omega
    · by_cases h2 : t.val % 2 = 1
      · by_cases h3 : (t.val % 49 = 2 ∨ t.val % 49 = 4 ∨ t.val % 49 = 6 ∨ t.val % 49 = 8 ∨ t.val % 49 = 10 ∨ t.val % 49 = 12 ∨ t.val % 49 = 14 ∨ t.val % 49 = 16 ∨ t.val % 49 = 18 ∨ t.val % 49 = 20 ∨ t.val % 49 = 22 ∨ t.val % 49 = 24 ∨ t.val % 49 = 26 ∨ t.val % 49 = 28 ∨ t.val % 49 = 30 ∨ t.val % 49 = 32 ∨ t.val % 49 = 34 ∨ t.val % 49 = 36 ∨ t.val % 49 = 38 ∨ t.val % 49 = 40 ∨ t.val % 49 = 42 ∨ t.val % 49 = 44 ∨ t.val % 49 = 46 ∨ t.val % 49 = 48)
        · exfalso; omega
        · by_cases h4 : t.val % 24 = 23
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            by_cases hz : t.val = 0
            · exfalso; have hN : t.val < 49 := lt_of_lt_of_eq t.isLt (show cfg0.N = 49 from N_0); omega
            · rw [PhiS_castSucc m c t, PhiS_pos m c _ _ hz]
              rw [outsAt0_D m c t h0 h1 h2 h3 h4]
              unfold sout0_D_5
              iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_D c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (iblk m c 4 t) (iblk m c 5 t) _).2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              isplitl [H8]; · iexists _; iexact H8
              isplitl [H9]; · iexists _; iexact H9
              isplitl [HS0]; · iexact HS0
              isplitl [HS1]; · iexact HS1
              isplitl [HS2]; · iexact HS2
              isplitl [HS3]; · iexact HS3
              isplitl [HS4]; · iexact HS4
              isplitl [HS5]; · iexact HS5
              iintro ⟨H0, H1, H2, H3, H4, H5, H6, H7, H8, H9, HS0, HS1, HS2, HS3, HS4, ⟨%es5, HS5⟩⟩
              isplitl [HS0 HS1 HS2 HS3 HS4 HS5 Hg]
              · isplitl [HS0 HS1 HS2 HS3 HS4 HS5]
                · isplitl [HS0]
                  · iexact HS0
                  isplitl [HS1]
                  · iexact HS1
                  isplitl [HS2]
                  · iexact HS2
                  isplitl [HS3]
                  · iexact HS3
                  isplitl [HS4]
                  · iexact HS4
                  unfold owns; iexists _; isplitr
                  swap; · iexact HS5
                  ipureintro; exact View.read_writes_of_cover _ _ _ _ _ (scover0_D_5 c _ _ _ _ _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              iexact H9
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            by_cases hz : t.val = 0
            · exfalso; have hN : t.val < 49 := lt_of_lt_of_eq t.isLt (show cfg0.N = 49 from N_0); omega
            · rw [PhiS_castSucc m c t, PhiS_pos m c _ _ hz]
              rw [outsAt0_B m c t h0 h1 h2 h3 h4]
              unfold sout0_B_5
              iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) _).2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              isplitl [H8]; · iexists _; iexact H8
              isplitl [H9]; · iexists _; iexact H9
              isplitl [HS0]; · iexact HS0
              isplitl [HS1]; · iexact HS1
              isplitl [HS2]; · iexact HS2
              isplitl [HS3]; · iexact HS3
              isplitl [HS4]; · iexact HS4
              isplitl [HS5]; · iexact HS5
              iintro ⟨H0, H1, H2, H3, H4, H5, H6, H7, H8, H9, HS0, HS1, HS2, HS3, HS4, ⟨%es5, HS5⟩⟩
              isplitl [HS0 HS1 HS2 HS3 HS4 HS5 Hg]
              · isplitl [HS0 HS1 HS2 HS3 HS4 HS5]
                · isplitl [HS0]
                  · iexact HS0
                  isplitl [HS1]
                  · iexact HS1
                  isplitl [HS2]
                  · iexact HS2
                  isplitl [HS3]
                  · iexact HS3
                  isplitl [HS4]
                  · iexact HS4
                  unfold owns; iexists _; isplitr
                  swap; · iexact HS5
                  ipureintro; exact View.read_writes_of_cover _ _ _ _ _ (scover0_B_5 c _ _ _ _ _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              iexact H9
      · by_cases h3 : (t.val % 49 = 2 ∨ t.val % 49 = 4 ∨ t.val % 49 = 6 ∨ t.val % 49 = 8 ∨ t.val % 49 = 10 ∨ t.val % 49 = 12 ∨ t.val % 49 = 14 ∨ t.val % 49 = 16 ∨ t.val % 49 = 18 ∨ t.val % 49 = 20 ∨ t.val % 49 = 22 ∨ t.val % 49 = 24 ∨ t.val % 49 = 26 ∨ t.val % 49 = 28 ∨ t.val % 49 = 30 ∨ t.val % 49 = 32 ∨ t.val % 49 = 34 ∨ t.val % 49 = 36 ∨ t.val % 49 = 38 ∨ t.val % 49 = 40 ∨ t.val % 49 = 42 ∨ t.val % 49 = 44 ∨ t.val % 49 = 46 ∨ t.val % 49 = 48)
        · by_cases h4 : t.val % 24 = 23
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            by_cases hz : t.val = 0
            · exfalso; have hN : t.val < 49 := lt_of_lt_of_eq t.isLt (show cfg0.N = 49 from N_0); omega
            · rw [PhiS_castSucc m c t, PhiS_pos m c _ _ hz]
              rw [outsAt0_C m c t h0 h1 h2 h3 h4]
              unfold sout0_C_5
              iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
              iapply ((kernelRun0_C c (grid0.coords t) _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) _).2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              isplitl [H8]; · iexists _; iexact H8
              isplitl [H9]; · iexists _; iexact H9
              isplitl [HS0]; · iexact HS0
              isplitl [HS1]; · iexact HS1
              isplitl [HS2]; · iexact HS2
              isplitl [HS3]; · iexact HS3
              isplitl [HS4]; · iexact HS4
              isplitl [HS5]; · iexact HS5
              iintro ⟨H0, H1, H2, H3, H4, H5, H6, H7, H8, H9, HS0, HS1, HS2, HS3, HS4, ⟨%es5, HS5⟩⟩
              isplitl [HS0 HS1 HS2 HS3 HS4 HS5 Hg]
              · isplitl [HS0 HS1 HS2 HS3 HS4 HS5]
                · isplitl [HS0]
                  · iexact HS0
                  isplitl [HS1]
                  · iexact HS1
                  isplitl [HS2]
                  · iexact HS2
                  isplitl [HS3]
                  · iexact HS3
                  isplitl [HS4]
                  · iexact HS4
                  unfold owns; iexists _; isplitr
                  swap; · iexact HS5
                  ipureintro; exact View.read_writes_of_cover _ _ _ _ _ (scover0_C_5 c _ _ _ _ _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              iexact H9
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexact HS0
    isplitl [HS1]
    · iexact HS1
    isplitl [HS2]
    · iexact HS2
    isplitl [HS3]
    · iexact HS3
    isplitl [HS4]
    · iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 49 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Dp`'s statement (Defs.lean) at any `F` — Proof.lean cites it at `Bits`:
    `theorem Cert.Proof.claim : Cert.Claim := ⟨Cert.Dp.Gen.facts, fun m ρ _ => Cert.Dp.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Dp.Gen

end
-- ==== Proof.DqBody.lean ====
module

public import proofs.«01_k».proof.Proof.Gen.DqIdeal.Value
public import Idealize.ShloMosaic.Lib.Pipeline.ReadBack
public import Idealize.ShloMosaic.Lib.MatmulPlain
public import Idealize.ShloMosaic.Lib.Pointwise

@[expose] public section

set_option maxRecDepth 16384

namespace Cert.DqIdeal.Body

open Idealize.ShloMosaic Cert.DqIdeal Cert.DqIdeal.Gen
open scoped BigOperators

/-- One block product: `Σₖ ((codes · dl scale) · p scale)[r, k] · p_codes[k, col]` over the 1024 prototypes of one block. -/
noncomputable def blockProd (x0 : Vec Ideal S1x1536x1024 .fp8e5m2) (x1 : Vec Ideal S1x1024x2560 .fp8e4m3)
    (x2 x3 : Vec Ideal S1x1x1024 .f32) (j : S1536x2560.Idx) : EReal :=
  ∑ k : Fin 1024, (x0 (ix3 0 (j 0) k) * x2 (ix3 0 0 k) * x3 (ix3 0 0 k)) * x1 (ix3 0 k (j 1))

/-- The accumulator after one step: what it held, plus the block product. -/
noncomputable def accStep (xs0 : Vec Ideal S1536x2560 .f32) (x0 : Vec Ideal S1x1536x1024 .fp8e5m2) (x1 : Vec Ideal S1x1024x2560 .fp8e4m3)
    (x2 x3 : Vec Ideal S1x1x1024 .f32) : Vec Ideal S1536x2560 .f32 :=
  fun j => xs0 j + blockProd x0 x1 x2 x3 j

theorem hz2 : (![0, 0] : Fin 2 → Nat) = fun _ => 0 := funext fun a => by fin_cases a <;> rfl
theorem hz3 : (![0, 0, 0] : Fin 3 → Nat) = fun _ => 0 := funext fun a => by fin_cases a <;> rfl

/-- One column slab's payload at an index: the slab of the accumulator plus the contraction over the block's 1024 prototypes. -/
theorem pay_apply (a : Vec Ideal S1536x512 .f32) (x0 : Vec Ideal S1x1536x1024 .fp8e5m2) (x2 x3 : Vec Ideal S1x1x1024 .f32)
    (b : Vec Ideal S1x1024x512 .fp8e4m3) (r : Fin 1536) (l : Fin 512) :
    k0_pay5 a (k0_pay3 x2 x3 x0) b (ix2 r l)
      = a (ix2 r l) + ∑ k : Fin 1024, (x0 (ix3 0 r k) * x2 (ix3 0 0 k) * x3 (ix3 0 0 k)) * b (ix3 0 k l) := by
  pointwise [k0_pay5, k0_pay3]

/-- The slab of columns `o … o + 511` of the step. -/
theorem slab (xs0 : Vec Ideal S1536x2560 .f32) (x0 : Vec Ideal S1x1536x1024 .fp8e5m2) (x1 : Vec Ideal S1x1024x2560 .fp8e4m3)
    (x2 x3 : Vec Ideal S1x1x1024 .f32) (o : ℕ) (h2 : ∀ a, (![0, o] : Fin 2 → ℕ) a + S1536x512.size a ≤ S1536x2560.size a)
    (h3 : ∀ a, (![0, 0, o] : Fin 3 → ℕ) a + S1x1024x512.size a ≤ S1x1024x2560.size a) (x : S1536x512.Idx) :
    k0_pay5 (View.ld xs0 (Rect.unit ![0, o] S1536x512.size h2)) (k0_pay3 x2 x3 x0)
        (View.ld x1 (Rect.unit ![0, 0, o] S1x1024x512.size h3)) x
      = accStep xs0 x0 x1 x2 x3 ((Rect.unit (s := S1536x2560) ![0, o] S1536x512.size h2).emb x) := by
  obtain ⟨r, l, rfl⟩ : ∃ (r : Fin 1536) (l : Fin 512), x = ix2 r l := ⟨x 0, x 1, by
    funext a; match a with
    | ⟨0, _⟩ => rfl
    | ⟨1, _⟩ => rfl⟩
  refine (pay_apply _ x0 x2 x3 _ r l).trans ?_
  unfold accStep blockProd
  refine congrArg₂ (· + ·) rfl (Finset.sum_congr rfl fun k _ => ?_)
  refine congrArg₂ (· * ·) ?_ ?_
  · refine congrArg (fun r => x0 (ix3 0 r k) * x2 (ix3 0 0 k) * x3 (ix3 0 0 k)) (Fin.ext ?_)
    show r.val = 0 + 1 * r.val
    omega
  · refine congrArg x1 (funext fun a => Fin.ext ?_)
    match a with
    | ⟨0, _⟩ => rfl
    | ⟨1, _⟩ => show 0 + 1 * k.val = k.val; omega
    | ⟨2, _⟩ => rfl

/-- The five column slabs one step stores into the accumulator, the last store first. -/
noncomputable abbrev slabs (xs0 : Vec Ideal S1536x2560 .f32) (x0 : Vec Ideal S1x1536x1024 .fp8e5m2) (x1 : Vec Ideal S1x1024x2560 .fp8e4m3)
    (x2 x3 : Vec Ideal S1x1x1024 .f32) : List (View.Piece (Elt Ideal) S1536x2560 .f32) :=
  [⟨Rect.unit ![0, 2048] S1536x512.size inb_S1536x2560_S1536x512_0_2048, k0_pay1 (View.ld xs0 (Rect.unit ![0, 2048] S1536x512.size inb_S1536x2560_S1536x512_0_2048)) (k0_pay3 x2 x3 x0)
      (View.ld x1 (Rect.unit ![0, 0, 2048] S1x1024x512.size inb_S1x1024x2560_S1x1024x512_0_0_2048))⟩,
    ⟨Rect.unit ![0, 1536] S1536x512.size inb_S1536x2560_S1536x512_0_1536, k0_pay8 (View.ld xs0 (Rect.unit ![0, 1536] S1536x512.size inb_S1536x2560_S1536x512_0_1536)) (k0_pay3 x2 x3 x0)
      (View.ld x1 (Rect.unit ![0, 0, 1536] S1x1024x512.size inb_S1x1024x2560_S1x1024x512_0_0_1536))⟩,
    ⟨Rect.unit ![0, 1024] S1536x512.size inb_S1536x2560_S1536x512_0_1024, k0_pay7 (View.ld xs0 (Rect.unit ![0, 1024] S1536x512.size inb_S1536x2560_S1536x512_0_1024)) (k0_pay3 x2 x3 x0)
      (View.ld x1 (Rect.unit ![0, 0, 1024] S1x1024x512.size inb_S1x1024x2560_S1x1024x512_0_0_1024))⟩,
    ⟨Rect.unit ![0, 512] S1536x512.size inb_S1536x2560_S1536x512_0_512, k0_pay6 (View.ld xs0 (Rect.unit ![0, 512] S1536x512.size inb_S1536x2560_S1536x512_0_512)) (k0_pay3 x2 x3 x0)
      (View.ld x1 (Rect.unit ![0, 0, 512] S1x1024x512.size inb_S1x1024x2560_S1x1024x512_0_0_512))⟩,
    ⟨Rect.unit ![0, 0] S1536x512.size inb_S1536x2560_S1536x512_0_0, k0_pay5 (View.ld xs0 (Rect.unit ![0, 0] S1536x512.size inb_S1536x2560_S1536x512_0_0)) (k0_pay3 x2 x3 x0)
      (View.ld x1 (Rect.unit ![0, 0, 0] S1x1024x512.size inb_S1x1024x2560_S1x1024x512_0_0_0))⟩]

/-- The five slabs cover the accumulator. -/
theorem slabs_cover (xs0 : Vec Ideal S1536x2560 .f32) (x0 : Vec Ideal S1x1536x1024 .fp8e5m2) (x1 : Vec Ideal S1x1024x2560 .fp8e4m3)
    (x2 x3 : Vec Ideal S1x1x1024 .f32) (y : S1536x2560.Idx) : ∃ p ∈ slabs xs0 x0 x1 x2 x3, y ∈ p.1.set := by
  have h0 : (y 0 : ℕ) < 1536 := (y 0).isLt
  have h1 : (y 1 : ℕ) < 2560 := (y 1).isLt
  have key : ∀ (o : ℕ) (h2 : ∀ a, (![0, o] : Fin 2 → ℕ) a + S1536x512.size a ≤ S1536x2560.size a), o ≤ (y 1 : ℕ) → (y 1 : ℕ) < o + 512 →
      y ∈ (Rect.unit (s := S1536x2560) ![0, o] S1536x512.size h2).set := by
    intro o h2 hl hu
    rw [Rect.mem_set_unit]
    intro a
    match a with
    | ⟨0, _⟩ => exact ⟨Nat.zero_le _, by show (y 0 : ℕ) < 0 + 1536; omega⟩
    | ⟨1, _⟩ => exact ⟨hl, hu⟩
  rcases Nat.lt_or_ge (y 1 : ℕ) 512 with g1 | g1
  · exact ⟨_, .tail _ (.tail _ (.tail _ (.tail _ (.head _)))), key 0 inb_S1536x2560_S1536x512_0_0 (Nat.zero_le _) (by omega)⟩
  rcases Nat.lt_or_ge (y 1 : ℕ) 1024 with g2 | g2
  · exact ⟨_, .tail _ (.tail _ (.tail _ (.head _))), key 512 inb_S1536x2560_S1536x512_0_512 g1 (by omega)⟩
  rcases Nat.lt_or_ge (y 1 : ℕ) 1536 with g3 | g3
  · exact ⟨_, .tail _ (.tail _ (.head _)), key 1024 inb_S1536x2560_S1536x512_0_1024 g2 (by omega)⟩
  rcases Nat.lt_or_ge (y 1 : ℕ) 2048 with g4 | g4
  · exact ⟨_, .tail _ (.head _), key 1536 inb_S1536x2560_S1536x512_0_1536 g3 (by omega)⟩
  · exact ⟨_, .head _, key 2048 inb_S1536x2560_S1536x512_0_2048 g4 (by omega)⟩

/-- Stored over anything, they leave the step. -/
theorem canon_slabs (xs0 : Vec Ideal S1536x2560 .f32) (x0 : Vec Ideal S1x1536x1024 .fp8e5m2) (x1 : Vec Ideal S1x1024x2560 .fp8e4m3)
    (x2 x3 : Vec Ideal S1x1x1024 .f32) (L' : List (View.Piece (Elt Ideal) S1536x2560 .f32)) :
    View.canon (slabs xs0 x0 x1 x2 x3 ++ L') = accStep xs0 x0 x1 x2 x3 := by
  funext y
  refine View.canon_append_of_piecesOf (accStep xs0 x0 x1 x2 x3) L' _ ?_ y (slabs_cover xs0 x0 x1 x2 x3 y)
  exact ⟨slab xs0 x0 x1 x2 x3 2048 _ _, slab xs0 x0 x1 x2 x3 1536 _ _, slab xs0 x0 x1 x2 x3 1024 _ _,
    slab xs0 x0 x1 x2 x3 512 _ _, slab xs0 x0 x1 x2 x3 0 _ _, trivial⟩

/-- The reset stores zeros. -/
theorem pay4_apply (y : S1536x2560.Idx) : k0_pay4 (F := Ideal) y = 0 := by
  idx_vars y
  pointwise [k0_pay4]

/-- The last point's payload: the accumulator times `1 / TAU = 20`. -/
theorem pay2_apply (v : Vec Ideal S1536x2560 .f32) (r : Fin 1536) (l : Fin 2560) :
    k0_pay2 v (ix3 0 r l) = v (ix2 r l) * Ideal.ofBits .f32 0x41A00000#32 := by
  pointwise [k0_pay2]

/-- A middle point leaves in the accumulator its step over what it held. -/
theorem sout_B (c : Dev nD) (i : grid0.Coords) (arg3 : Memref sig .tc .vmem S1x1536x1024 .fp8e5m2) (harg3 : arg3.IsWhole) (arg4 : Memref sig .tc .vmem S1x1024x2560 .fp8e4m3) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1536x2560 .bf16) (harg7 : arg7.IsWhole) (arg8 : Memref sig .tc .vmem S1536x2560 .f32) (harg8 : arg8.IsWhole) (arg9 : Memref sig .tc .vmem S1536x1024 .bf16) (harg9 : arg9.IsWhole) (hc0 : ¬cond0_0 i) (hc1 : ¬cond0_1 i)
    (x0 : Vec Ideal S1x1536x1024 .fp8e5m2) (x1 : Vec Ideal S1x1024x2560 .fp8e4m3) (x2 : Vec Ideal S1x1x1024 .f32) (x3 : Vec Ideal S1x1x1024 .f32) (xs0 : Vec Ideal S1536x2560 .f32) (y : S1536x2560.Idx) :
    sout0_B_0 c i arg3 harg3 arg4 harg4 arg5 harg5 arg6 harg6 arg7 harg7 arg8 harg8 arg9 harg9 hc0 hc1 x0 x1 x2 x3 xs0 y = accStep xs0 x0 x1 x2 x3 y := by
  have hcov := scover0_B_0 c i arg3 harg3 arg4 harg4 arg5 harg5 arg6 harg6 arg7 harg7 arg8 harg8 arg9 harg9 hc0 hc1 x0 x1 x2 x3 xs0
  unfold sout0_B_0
  rw [View.read_writes_eq_canon _ _ _ hcov]
  unfold kernelRun0_B
  dsimp only
  sl_unfold_words
  simp only [View.readAt_eq_ld, harg3.read_unread, harg4.read_unread, harg5.read_unread, harg6.read_unread, harg8.read_unread,
    View.readCov_unit_zero (S := S1536x1024) _ hz2, View.ld_unit_zero (S := S1x1x1024) hz3, View.ld_unit_zero (S := S1x1536x1024) hz3]
  exact congrFun (canon_slabs xs0 x0 x1 x2 x3 []) y

/-- The first point of a sweep leaves in the accumulator its step over zero. -/
theorem sout_A (c : Dev nD) (i : grid0.Coords) (arg3 : Memref sig .tc .vmem S1x1536x1024 .fp8e5m2) (harg3 : arg3.IsWhole) (arg4 : Memref sig .tc .vmem S1x1024x2560 .fp8e4m3) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1536x2560 .bf16) (harg7 : arg7.IsWhole) (arg8 : Memref sig .tc .vmem S1536x2560 .f32) (harg8 : arg8.IsWhole) (arg9 : Memref sig .tc .vmem S1536x1024 .bf16) (harg9 : arg9.IsWhole) (hc0 : cond0_0 i) (hc1 : ¬cond0_1 i)
    (x0 : Vec Ideal S1x1536x1024 .fp8e5m2) (x1 : Vec Ideal S1x1024x2560 .fp8e4m3) (x2 : Vec Ideal S1x1x1024 .f32) (x3 : Vec Ideal S1x1x1024 .f32) (y : S1536x2560.Idx) :
    sout0_A_0 c i arg3 harg3 arg4 harg4 arg5 harg5 arg6 harg6 arg7 harg7 arg8 harg8 arg9 harg9 hc0 hc1 x0 x1 x2 x3 y = accStep (fun _ => 0) x0 x1 x2 x3 y := by
  have hcov := scover0_A_0 c i arg3 harg3 arg4 harg4 arg5 harg5 arg6 harg6 arg7 harg7 arg8 harg8 arg9 harg9 hc0 hc1 x0 x1 x2 x3
  unfold sout0_A_0
  rw [View.read_writes_eq_canon _ _ _ hcov]
  unfold kernelRun0_A
  dsimp only
  sl_unfold_words
  simp only [View.readAt_eq_ld, harg3.read_unread, harg4.read_unread, harg5.read_unread, harg6.read_unread,
    View.readCov_unit_zero (S := S1536x1024) _ hz2, View.ld_unit_zero (S := S1x1x1024) hz3, View.ld_unit_zero (S := S1x1536x1024) hz3]
  simp (disch := decide) only [↓View.readCov_skip, View.readCov_fill]
  rw [show (k0_pay4 (F := Ideal)) = fun _ => 0 from funext pay4_apply]
  exact congrFun (canon_slabs (fun _ => 0) x0 x1 x2 x3 [⟨Rect.unit ![0, 0] S1536x2560.size inb_S1536x2560_S1536x2560_0_0, fun _ => 0⟩]) y

/-- The last point of a sweep writes its step, times `20`. -/
theorem out_C (c : Dev nD) (i : grid0.Coords) (arg3 : Memref sig .tc .vmem S1x1536x1024 .fp8e5m2) (harg3 : arg3.IsWhole) (arg4 : Memref sig .tc .vmem S1x1024x2560 .fp8e4m3) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1536x2560 .bf16) (harg7 : arg7.IsWhole) (arg8 : Memref sig .tc .vmem S1536x2560 .f32) (harg8 : arg8.IsWhole) (arg9 : Memref sig .tc .vmem S1536x1024 .bf16) (harg9 : arg9.IsWhole) (hc0 : ¬cond0_0 i) (hc1 : cond0_1 i)
    (x0 : Vec Ideal S1x1536x1024 .fp8e5m2) (x1 : Vec Ideal S1x1024x2560 .fp8e4m3) (x2 : Vec Ideal S1x1x1024 .f32) (x3 : Vec Ideal S1x1x1024 .f32) (xs0 : Vec Ideal S1536x2560 .f32) (r : Fin 1536) (l : Fin 2560) :
    out0_C_4 c i arg3 harg3 arg4 harg4 arg5 harg5 arg6 harg6 arg7 harg7 arg8 harg8 arg9 harg9 hc0 hc1 x0 x1 x2 x3 xs0 (ix3 0 r l) = accStep xs0 x0 x1 x2 x3 (ix2 r l) * Ideal.ofBits .f32 0x41A00000#32 := by
  have hcov := cover0_C_4 c i arg3 harg3 arg4 harg4 arg5 harg5 arg6 harg6 arg7 harg7 arg8 harg8 arg9 harg9 hc0 hc1 x0 x1 x2 x3 xs0
  unfold out0_C_4
  rw [View.read_writes_eq_canon _ _ _ hcov]
  unfold kernelRun0_C
  dsimp only
  sl_unfold_words
  simp only [View.readAt_eq_ld, harg3.read_unread, harg4.read_unread, harg5.read_unread, harg6.read_unread, harg8.read_unread,
    View.readCov_unit_zero (S := S1536x1024) _ hz2, View.ld_unit_zero (S := S1x1x1024) hz3, View.ld_unit_zero (S := S1x1536x1024) hz3]
  rw [View.canon_unit_zero hz3, View.readCov_eq_canon']
  refine (pay2_apply _ r l).trans (congrArg (· * Ideal.ofBits .f32 0x41A00000#32) ?_)
  refine (congrFun (canon_slabs xs0 x0 x1 x2 x3 []) _).trans (congrArg (accStep xs0 x0 x1 x2 x3) ?_)
  funext a
  match a with
  | ⟨0, _⟩ => exact Fin.ext (by show 0 + 1 * r.val = r.val; omega)
  | ⟨1, _⟩ => exact Fin.ext (by show 0 + 1 * l.val = l.val; omega)

end Cert.DqIdeal.Body
-- ==== Proof.DqKernel.lean ====
module

public import proofs.«01_k».proof.Proof.DqBody
public import Idealize.ShloMosaic.Lib.StableHlo.Run

@[expose] public section

set_option maxRecDepth 16384

namespace Cert.DqIdeal.Body

open Idealize.ShloMosaic Idealize.ShloMosaic.TcCoe Cert.DqIdeal Cert.DqIdeal.Gen Cert.DqIdeal.Value
open scoped BigOperators

variable (m : (ℓ : Loc nD τ sig) → Buf (Elt Ideal) ℓ)

/-- The windows' block indices, decided over the grid: point `t` is batch `t / 24`, column half `t / 12 % 2`, prototype block `t % 12`. -/
theorem index_facts : ∀ t : Fin cfg0.N,
    (win0_0.index t (0 : Fin 3) = t.val / 24 ∧ win0_0.index t (1 : Fin 3) = 0 ∧ win0_0.index t (2 : Fin 3) = t.val % 12)
    ∧ (win0_1.index t (0 : Fin 3) = t.val / 24 ∧ win0_1.index t (1 : Fin 3) = t.val % 12 ∧ win0_1.index t (2 : Fin 3) = t.val / 12 % 2)
    ∧ (win0_2.index t (0 : Fin 3) = t.val / 24 ∧ win0_2.index t (1 : Fin 3) = 0 ∧ win0_2.index t (2 : Fin 3) = t.val % 12)
    ∧ (win0_3.index t (0 : Fin 3) = t.val / 24 ∧ win0_3.index t (1 : Fin 3) = 0 ∧ win0_3.index t (2 : Fin 3) = t.val % 12) :=
  (by decide +kernel : ∀ t : Fin grid0.N, _)

/-- The row of the prototype scales that the region finds is the argument, row by row. -/
theorem V_v0 (c : Dev nD) (b : Fin 2) (k : Fin 12288) :
    (V m c main_v0 : Vec Ideal S2x1x12288 .f32) (ix3 b 0 k) = (m ((c : Thread nD τ).loc main_arg3) : Vec Ideal S2x12288 .f32) (ix2 b k) := by
  have e : (V m c main_v0 : Vec Ideal S2x1x12288 .f32)
      = broadcastInDim S2x1x12288 ![0, 2] bcast_S2x12288_S2x1x12288_0_2 (m ((c : Thread nD τ).loc main_arg3) : Vec Ideal S2x12288 .f32) := by
    unfold V; after_results
  rw [e]
  pointwise

/-- The row of the logit-gradient scales that the region finds is the argument, row by row. -/
theorem V_v1 (c : Dev nD) (b : Fin 2) (k : Fin 12288) :
    (V m c main_v1 : Vec Ideal S2x1x12288 .f32) (ix3 b 0 k) = (m ((c : Thread nD τ).loc main_arg2) : Vec Ideal S2x12288 .f32) (ix2 b k) := by
  have e : (V m c main_v1 : Vec Ideal S2x1x12288 .f32)
      = broadcastInDim S2x1x12288 ![0, 2] bcast_S2x12288_S2x1x12288_0_2 (m ((c : Thread nD τ).loc main_arg2) : Vec Ideal S2x12288 .f32) := by
    unfold V; after_results
  rw [e]
  pointwise

/-- One term of the product: the dequantised logit gradient at (b, r, k), times the prototype's scale, times the prototype's code at (b, k, d). -/
noncomputable def term (a0 : Vec Ideal S2x1536x12288 .fp8e5m2) (a1 : Vec Ideal S2x12288x5120 .fp8e4m3) (a2 a3 : Vec Ideal S2x12288 .f32)
    (b : Fin 2) (r : Fin 1536) (d : Fin 5120) (k : Fin 12288) : EReal :=
  (a0 (ix3 b r k) * a2 (ix2 b k) * a3 (ix2 b k)) * a1 (ix3 b k d)

/-- The block product of point `t`: the terms of the 1024 prototypes of block `t % 12`. -/
theorem blockProd_eq (c : Dev nD) (t : Fin cfg0.N) (b : Fin 2) (n : Fin 2) (s : Fin 12) (ht : t.val = 24 * b.val + 12 * n.val + s.val)
    (r : Fin 1536) (l : Fin 2560) :
    blockProd (iblk m c 0 t) (iblk m c 1 t) (iblk m c 2 t) (iblk m c 3 t) (ix2 r l)
      = ∑ k : Fin 1024, term (m ((c : Thread nD τ).loc main_arg0)) (m ((c : Thread nD τ).loc main_arg1)) (m ((c : Thread nD τ).loc main_arg2))
          (m ((c : Thread nD τ).loc main_arg3)) b r ⟨n.val * 2560 + l.val, by omega⟩ ⟨s.val * 1024 + k.val, by omega⟩ := by
  obtain ⟨⟨e0, e1, e2⟩, ⟨f0, f1, f2⟩, ⟨g0, g1, g2⟩, ⟨h0, h1, h2⟩⟩ := index_facts t
  have d24 : t.val / 24 = b.val := by omega
  have d12 : t.val % 12 = s.val := by omega
  have dn : t.val / 12 % 2 = n.val := by omega
  unfold blockProd term
  refine Finset.sum_congr rfl fun k _ => ?_
  refine congrArg₂ (· * ·) (congrArg₂ (· * ·) (congrArg₂ (· * ·) ?_ ?_) ?_) ?_
  · show V m c main_arg0 (((cfg0.win 0).blk t).view.emb _) = _
    rw [V_main_arg0]
    refine congrArg (m ((c : Thread nD τ).loc main_arg0)) (funext fun a => Fin.ext ?_)
    match a with
    | ⟨0, _⟩ => show win0_0.index t (0 : Fin 3) * 1 + 1 * 0 = b.val; omega
    | ⟨1, _⟩ => show win0_0.index t (1 : Fin 3) * 1536 + 1 * r.val = r.val; omega
    | ⟨2, _⟩ => show win0_0.index t (2 : Fin 3) * 1024 + 1 * k.val = s.val * 1024 + k.val; omega
  · refine Eq.trans ?_ (V_v1 m c b _)
    show V m c main_v1 (((cfg0.win 2).blk t).view.emb _) = _
    refine congrArg (V m c main_v1) (funext fun a => Fin.ext ?_)
    match a with
    | ⟨0, _⟩ => show win0_2.index t (0 : Fin 3) * 1 + 1 * 0 = b.val; omega
    | ⟨1, _⟩ => show win0_2.index t (1 : Fin 3) * 1 + 1 * 0 = 0; omega
    | ⟨2, _⟩ => show win0_2.index t (2 : Fin 3) * 1024 + 1 * k.val = s.val * 1024 + k.val; omega
  · refine Eq.trans ?_ (V_v0 m c b _)
    show V m c main_v0 (((cfg0.win 3).blk t).view.emb _) = _
    refine congrArg (V m c main_v0) (funext fun a => Fin.ext ?_)
    match a with
    | ⟨0, _⟩ => show win0_3.index t (0 : Fin 3) * 1 + 1 * 0 = b.val; omega
    | ⟨1, _⟩ => show win0_3.index t (1 : Fin 3) * 1 + 1 * 0 = 0; omega
    | ⟨2, _⟩ => show win0_3.index t (2 : Fin 3) * 1024 + 1 * k.val = s.val * 1024 + k.val; omega
  · show V m c main_arg1 (((cfg0.win 1).blk t).view.emb _) = _
    rw [V_main_arg1]
    refine congrArg (m ((c : Thread nD τ).loc main_arg1)) (funext fun a => Fin.ext ?_)
    match a with
    | ⟨0, _⟩ => show win0_1.index t (0 : Fin 3) * 1 + 1 * 0 = b.val; omega
    | ⟨1, _⟩ => show win0_1.index t (1 : Fin 3) * 1024 + 1 * k.val = s.val * 1024 + k.val; omega
    | ⟨2, _⟩ => show win0_1.index t (2 : Fin 3) * 2560 + 1 * l.val = n.val * 2560 + l.val; omega

/-- Point `n`'s addend to the accumulator (zero past the grid). -/
noncomputable def addend (c : Dev nD) (n : ℕ) (y : S1536x2560.Idx) : EReal :=
  if h : n < cfg0.N then blockProd (iblk m c 0 ⟨n, h⟩) (iblk m c 1 ⟨n, h⟩) (iblk m c 2 ⟨n, h⟩) (iblk m c 3 ⟨n, h⟩) y else 0

/-- The accumulator after any point before the last of its sweep: the sum of the sweep's block products so far. -/
theorem acc_eq (c : Dev nD) (t : Fin cfg0.N) (ht : t.val % 12 ≤ 10) (y : S1536x2560.Idx) :
    (outsAt0 m c t.val t.isLt).2 y = ∑ s ∈ Finset.range (t.val % 12 + 1), addend m c (12 * (t.val / 12) + s) y := by
  have hN : cfg0.N = 48 := N_0
  rw [soutsAt0_0_eq]
  rw [Pipeline.accAt_add_apply (β := EReal) (fun n h => scAt0_0 m c n h (VS0_0.read (Elt Ideal) VS0_0.junk)) (scAt0_0 m c) (fun _ => 0)
    (addend m c) (12 * (t.val / 12)) 10 ?_ ?_ (t.val % 12) ht, zero_add]
  · intro h i
    unfold scAt0_0
    rw [dif_pos (by omega), dif_neg (by omega), sout_A]
    unfold accStep addend
    rw [dif_pos h]
  · intro n h acc i h1 h2
    unfold scAt0_0
    rw [dif_neg (by omega), dif_neg (by omega), sout_B]
    unfold accStep addend
    rw [dif_pos h]

/-- THE KERNEL'S RESULT: at (b, r, d), twenty times the sum of the 12288 terms. -/
theorem kernel_value (c : Dev nD) (b : Fin 2) (r : Fin 1536) (d : Fin 5120) :
    G4 m c (ix3 b r d) = (∑ k : Fin 12288, term (m ((c : Thread nD τ).loc main_arg0)) (m ((c : Thread nD τ).loc main_arg1))
        (m ((c : Thread nD τ).loc main_arg2)) (m ((c : Thread nD τ).loc main_arg3)) b r d k) * Ideal.ofBits .f32 0x41A00000#32 := by
  have hN : cfg0.N = 48 := N_0
  have hq : pt4Of (ix3 b r d) = 12 * (2 * b.val + d.val / 2560) + 11 := by
    show 12 * (2 * (b.val / 1 - 0) + 2 * (r.val / 1536 - 0) + 1 * (d.val / 2560 - 0)) + 11 = _
    omega
  have hlt : pt4Of (ix3 b r d) < cfg0.N := by omega
  obtain ⟨p, hp⟩ : ∃ p : Fin cfg0.N, p.val = pt4Of (ix3 b r d) := ⟨⟨_, hlt⟩, rfl⟩
  unfold G4
  rw [dif_pos hlt, ← outsAt0_sweep m c _ hlt]
  have e : outsAt0 m c (pt4Of (ix3 b r d)) hlt = outsAt0 m c p.val p.isLt := by simp only [hp]
  rw [e, outsAt0_C m c p (by omega) (by omega)]
  have hl : loc4Of (ix3 b r d) = ix3 0 r ⟨d.val % 2560, by omega⟩ := by
    funext a; apply Fin.ext
    match a with
    | ⟨0, _⟩ => show b.val % 1 = 0; omega
    | ⟨1, _⟩ => show r.val % 1536 = r.val; omega
    | ⟨2, _⟩ => rfl
  rw [hl]
  dsimp only
  rw [out_C]
  refine congrArg (· * Ideal.ofBits .f32 0x41A00000#32) ?_
  unfold accStep
  have hp1 : p.val - 1 < cfg0.N := by omega
  rw [acc_eq m c ⟨p.val - 1, hp1⟩ (by show (p.val - 1) % 12 ≤ 10; omega)]
  have hp11 : p.val = 12 * (2 * b.val + d.val / 2560) + 11 := hp.trans hq
  have e11 : blockProd (iblk m c 0 p) (iblk m c 1 p) (iblk m c 2 p) (iblk m c 3 p) (ix2 r ⟨d.val % 2560, by omega⟩)
      = addend m c (12 * (2 * b.val + d.val / 2560) + 11) (ix2 r ⟨d.val % 2560, by omega⟩) := by
    rw [← hp11]
    unfold addend
    rw [dif_pos p.isLt]
  have a1 : (p.val - 1) % 12 + 1 = 11 := by omega
  have a2 : 12 * ((p.val - 1) / 12) = 12 * (2 * b.val + d.val / 2560) := by omega
  dsimp only
  rw [e11, a1, a2, ← Finset.sum_range_succ (fun s => addend m c (12 * (2 * b.val + d.val / 2560) + s) (ix2 r ⟨d.val % 2560, by omega⟩)) 11,
    Finset.sum_range, Fin.sum_univ_tiles 12 1024 (N := 12288) (by decide)]
  refine Finset.sum_congr rfl fun s _ => ?_
  unfold addend
  have hs : 12 * (2 * b.val + d.val / 2560) + s.val < cfg0.N := by omega
  rw [dif_pos hs, blockProd_eq m c ⟨_, hs⟩ b ⟨d.val / 2560, by omega⟩ s (by show 12 * (2 * b.val + d.val / 2560) + s.val = 24 * b.val + 12 * (d.val / 2560) + s.val; omega)]
  refine Finset.sum_congr rfl fun k _ => ?_
  congr 1
  exact Fin.ext (by show d.val / 2560 * 2560 + d.val % 2560 = d.val; omega)

end Cert.DqIdeal.Body
-- ==== Proof.DqReference.lean ====
module

public import proofs.«01_k».proof.Proof.Gen.DqRefIdeal.Value
public import proofs.«01_k».proof.Proof.DqKernel
public import Idealize.ShloMosaic.Lib.MatmulPlain
public import Idealize.ShloMosaic.Lib.Pointwise

@[expose] public section

set_option maxRecDepth 16384

namespace Cert.DqRefIdeal.Body

open Idealize.ShloMosaic Idealize.ShloMosaic.TcCoe Cert.DqRefIdeal Cert.DqRefIdeal.Gen
open scoped BigOperators

/-- What the reference stores for one batch, at row `r` and column `d`: twenty times the sum over the prototypes of the dequantised
    logit gradient times the dequantised prototype. -/
theorem pay2_apply (x0 : Vec Ideal S1x1536x12288 .fp8e5m2) (x2 : Vec Ideal S1x12288 .f32) (x1 : Vec Ideal S1x12288x5120 .fp8e4m3)
    (x3 : Vec Ideal S1x12288 .f32) (r : Fin 1536) (d : Fin 5120) :
    k0_pay2 x0 x2 x1 x3 (ix3 0 r d)
      = (∑ k : Fin 12288, (x0 (ix3 0 r k) * x2 (ix2 0 k)) * (x1 (ix3 0 k d) * x3 (ix2 0 k))) * Ideal.ofBits .f32 0x41A00000#32 := by
  pointwise [k0_pay2]

theorem pay1_apply (x0 : Vec Ideal S1x1536x12288 .fp8e5m2) (x2 : Vec Ideal S1x12288 .f32) (x1 : Vec Ideal S1x12288x5120 .fp8e4m3)
    (x3 : Vec Ideal S1x12288 .f32) (r : Fin 1536) (d : Fin 5120) :
    k0_pay1 (k0_pay3 x0 x2) (k0_pay4 x1) x3 (ix3 0 r d)
      = (∑ k : Fin 12288, (x0 (ix3 0 r k) * x2 (ix2 0 k)) * (x1 (ix3 0 k d) * x3 (ix2 0 k))) * Ideal.ofBits .f32 0x41A00000#32 := by
  pointwise [k0_pay1, k0_pay3, k0_pay4]

/-- Two indices of a rank-3 shape with the same three coordinates are equal. -/
theorem ix3_ext {n0 n1 n2 : ℕ} (x y : (⟨3, ![n0, n1, n2]⟩ : Shape).Idx) (h0 : (x 0).val = (y 0).val) (h1 : (x 1).val = (y 1).val)
    (h2 : (x 2).val = (y 2).val) : x = y := by
  funext a; apply Fin.ext
  match a with
  | ⟨0, _⟩ => exact h0
  | ⟨1, _⟩ => exact h1
  | ⟨2, _⟩ => exact h2

/-- The same at rank 2. -/
theorem ix2_ext {n0 n1 : ℕ} (x y : (⟨2, ![n0, n1]⟩ : Shape).Idx) (h0 : (x 0).val = (y 0).val) (h1 : (x 1).val = (y 1).val) : x = y := by
  funext a; apply Fin.ext
  match a with
  | ⟨0, _⟩ => exact h0
  | ⟨1, _⟩ => exact h1

/-- THE REFERENCE'S RESULT at (b, r, d). -/
theorem ref_value (a0 : Vec Ideal S2x1536x12288 .fp8e5m2) (a1 : Vec Ideal S2x12288x5120 .fp8e4m3) (a2 a3 : Vec Ideal S2x12288 .f32)
    (b : Fin 2) (r : Fin 1536) (d : Fin 5120) :
    Value.G4 a0 a1 a2 a3 (ix3 b r d)
      = (∑ k : Fin 12288, (a0 (ix3 b r k) * a2 (ix2 b k)) * (a1 (ix3 b k d) * a3 (ix2 b k))) * Ideal.ofBits .f32 0x41A00000#32 := by
  match b with
  | ⟨0, _⟩ =>
    refine (View.canon_cons_of_not_mem _ _ ?_).trans ?_
    · rw [Rect.mem_set_unit]
      intro h
      have h0 : 1 ≤ 0 := (h (0 : Fin 3)).1
      omega
    have e : (ix3 0 r d : S2x1536x5120.Idx) = r0_3.emb (ix3 0 r d : S1x1536x5120.Idx) := by
      funext a
      match a with
      | ⟨0, _⟩ => rfl
      | ⟨1, _⟩ => exact Fin.ext (by show r.val = 0 + 1 * r.val; omega)
      | ⟨2, _⟩ => exact Fin.ext (by show d.val = 0 + 1 * d.val; omega)
    refine (congrArg _ e).trans ((View.canon_cons_emb ..).trans ?_)
    refine (pay2_apply _ _ _ _ r d).trans (congrArg (· * Ideal.ofBits .f32 0x41A00000#32) ?_)
    refine Finset.sum_congr rfl fun k _ => ?_
    refine congrArg₂ (· * ·) (congrArg₂ (· * ·) ?_ ?_) (congrArg₂ (· * ·) ?_ ?_)
    · exact congrArg a0 (ix3_ext _ _ rfl (by show 0 + 1 * r.val = r.val; omega) (by show 0 + 1 * k.val = k.val; omega))
    · exact congrArg a2 (ix2_ext _ _ rfl (by show 0 + 1 * k.val = k.val; omega))
    · exact congrArg a1 (ix3_ext _ _ rfl (by show 0 + 1 * k.val = k.val; omega) (by show 0 + 1 * d.val = d.val; omega))
    · exact congrArg a3 (ix2_ext _ _ rfl (by show 0 + 1 * k.val = k.val; omega))
  | ⟨1, _⟩ =>
    have e : (ix3 1 r d : S2x1536x5120.Idx) = r0_7.emb (ix3 0 r d : S1x1536x5120.Idx) := by
      funext a
      match a with
      | ⟨0, _⟩ => rfl
      | ⟨1, _⟩ => exact Fin.ext (by show r.val = 0 + 1 * r.val; omega)
      | ⟨2, _⟩ => exact Fin.ext (by show d.val = 0 + 1 * d.val; omega)
    refine (congrArg _ e).trans ((View.canon_cons_emb ..).trans ?_)
    refine (pay1_apply _ _ _ _ r d).trans (congrArg (· * Ideal.ofBits .f32 0x41A00000#32) ?_)
    refine Finset.sum_congr rfl fun k _ => ?_
    refine congrArg₂ (· * ·) (congrArg₂ (· * ·) ?_ ?_) (congrArg₂ (· * ·) ?_ ?_)
    · exact congrArg a0 (ix3_ext _ _ rfl (by show 0 + 1 * r.val = r.val; omega) (by show 0 + 1 * k.val = k.val; omega))
    · exact congrArg a2 (ix2_ext _ _ rfl (by show 0 + 1 * k.val = k.val; omega))
    · exact congrArg a1 (ix3_ext _ _ rfl (by show 0 + 1 * k.val = k.val; omega) (by show 0 + 1 * d.val = d.val; omega))
    · exact congrArg a3 (ix2_ext _ _ rfl (by show 0 + 1 * k.val = k.val; omega))

/-- The two sums are the same, term by term: only the order of the four factors differs. -/
theorem sum_eq (a0 : Vec Ideal S2x1536x12288 .fp8e5m2) (a1 : Vec Ideal S2x12288x5120 .fp8e4m3) (a2 a3 : Vec Ideal S2x12288 .f32)
    (b : Fin 2) (r : Fin 1536) (d : Fin 5120) :
    (∑ k : Fin 12288, Cert.DqIdeal.Body.term a0 a1 a2 a3 b r d k)
      = ∑ k : Fin 12288, (a0 (ix3 b r k) * a2 (ix2 b k)) * (a1 (ix3 b k d) * a3 (ix2 b k)) := by
  refine Finset.sum_congr rfl fun k _ => ?_
  unfold Cert.DqIdeal.Body.term
  generalize hw : (a0 (ix3 b r k) : EReal) * a2 (ix2 b k) = w
  show w * (a3 (ix2 b k) : EReal) * a1 (ix3 b k d) = w * ((a1 (ix3 b k d) : EReal) * a3 (ix2 b k))
  rw [mul_assoc, mul_comm (a3 (ix2 b k) : EReal)]

end Cert.DqRefIdeal.Body
-- ==== Proof.LgStep.lean ====
module

public import proofs.«01_k».proof.Proof.Gen.LgIdeal.Skeleton
public import Idealize.ShloMosaic.Lib.Pipeline.ReadBack
public import Idealize.ShloMosaic.Lib.MatmulPlain
public import Idealize.ShloMosaic.Lib.Pointwise

/-!
What one stage of the logits kernel computes, index by index, and that the slabs its body works on are blocks of it.

The body keeps three scratch arrays: a block of logits (1536 rows × 512 prototypes), and for every row and each of 128 lanes
a running maximum and a running sum of exponentials. The statistics are updated in chunks of 16 rows, each chunk folding the four
128-lane slabs of the logits block into the running values; the logits block itself is written in four 128-lane slabs.
-/

@[expose] public section

set_option maxRecDepth 16384

namespace Cert.LgIdeal.Body

open Idealize.ShloMosaic Cert.LgIdeal Cert.LgIdeal.Gen
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- Slab `j`'s entry for lane `l` of row `r` in a block of logits. -/
noncomputable def slabAt (s : Vec Ideal S1536x512 .f32) (j : Fin 4) (r : Fin 1536) (l : Fin 128) : EReal :=
  s (ix2 r ⟨128 * j.val + l.val, by omega⟩)

/-- The running maximum of a row's lane after the four slabs of the block `s`. -/
noncomputable def maxAt (s : Vec Ideal S1536x512 .f32) (m : Vec Ideal S1536x128 .f32) (r : Fin 1536) (l : Fin 128) : EReal :=
  max (max (max (max (m (ix2 r l)) (slabAt s 0 r l)) (slabAt s 1 r l)) (slabAt s 2 r l)) (slabAt s 3 r l)

/-- The running maxima after the block `s`. -/
noncomputable def stepM (s : Vec Ideal S1536x512 .f32) (m : Vec Ideal S1536x128 .f32) : Vec Ideal S1536x128 .f32 :=
  fun y => maxAt s m (y 0) (y 1)

/-- The running sums of exponentials after the block `s`: the old sum rescaled to the new maximum, plus the four new terms. -/
noncomputable def stepL (s : Vec Ideal S1536x512 .f32) (m l : Vec Ideal S1536x128 .f32) : Vec Ideal S1536x128 .f32 :=
  fun y => l (ix2 (y 0) (y 1)) * Ideal.exp (m (ix2 (y 0) (y 1)) - maxAt s m (y 0) (y 1))
    + Ideal.exp (slabAt s 0 (y 0) (y 1) - maxAt s m (y 0) (y 1)) + Ideal.exp (slabAt s 1 (y 0) (y 1) - maxAt s m (y 0) (y 1))
    + Ideal.exp (slabAt s 2 (y 0) (y 1) - maxAt s m (y 0) (y 1)) + Ideal.exp (slabAt s 3 (y 0) (y 1) - maxAt s m (y 0) (y 1))

/-- The maximum of a chunk's five operands, index by index. -/
theorem max5_apply (a b0 b1 b2 b3 : FVec Ideal S16x128 .f32) (h : S16x128.ShapeCasts S16x128) (r : Fin 16) (l : Fin 128) :
    shapeCast S16x128 (maximumf (maximumf (maximumf (maximumf a b0) b1) b2) b3) h (ix2 r l)
      = max (max (max (max (a (ix2 r l)) (b0 (ix2 r l))) (b1 (ix2 r l))) (b2 (ix2 r l))) (b3 (ix2 r l)) := by
  pointwise

/-- The rescaled sum of a chunk, index by index, over any maximum. -/
theorem sum5_apply (M a c b0 b1 b2 b3 : FVec Ideal S16x128 .f32) (h : S16x128.ShapeCasts S16x128) (r : Fin 16) (l : Fin 128) :
    shapeCast S16x128 (addf (addf (addf (addf (mulf c (exp (subf a M))) (exp (subf b0 M))) (exp (subf b1 M))) (exp (subf b2 M))) (exp (subf b3 M))) h (ix2 r l)
      = c (ix2 r l) * Ideal.exp (a (ix2 r l) - M (ix2 r l)) + Ideal.exp (b0 (ix2 r l) - M (ix2 r l)) + Ideal.exp (b1 (ix2 r l) - M (ix2 r l))
        + Ideal.exp (b2 (ix2 r l) - M (ix2 r l)) + Ideal.exp (b3 (ix2 r l) - M (ix2 r l)) := by
  pointwise

theorem max5_raw (a b0 b1 b2 b3 : FVec Ideal S16x128 .f32) (r : Fin 16) (l : Fin 128) :
    maximumf (maximumf (maximumf (maximumf a b0) b1) b2) b3 (ix2 r l)
      = max (max (max (max (a (ix2 r l)) (b0 (ix2 r l))) (b1 (ix2 r l))) (b2 (ix2 r l))) (b3 (ix2 r l)) := by
  pointwise

/-- A chunk's slab of the logits block. -/
theorem ld_slab (s : Vec Ideal S1536x512 .f32) (o : ℕ) (j : Fin 4) (p : ℕ) (hp : p = 128 * j.val)
    (h : ∀ a, (![o, p] : Fin 2 → ℕ) a + S16x128.size a ≤ S1536x512.size a) (r : Fin 16) (l : Fin 128) (ho : o + r.val < 1536) :
    View.ld s (Rect.unit (s := S1536x512) ![o, p] S16x128.size h) (ix2 r l) = slabAt s j ⟨o + r.val, ho⟩ l := by
  unfold slabAt
  refine congrArg s (funext fun a => Fin.ext ?_)
  match a with
  | ⟨0, _⟩ => show o + 1 * r.val = o + r.val; omega
  | ⟨1, _⟩ => show p + 1 * l.val = 128 * j.val + l.val; omega

/-- A chunk of a running array. -/
theorem ld_chunk (m : Vec Ideal S1536x128 .f32) (o : ℕ) (h : ∀ a, (![o, 0] : Fin 2 → ℕ) a + S16x128.size a ≤ S1536x128.size a)
    (r : Fin 16) (l : Fin 128) (ho : o + r.val < 1536) :
    View.ld m (Rect.unit (s := S1536x128) ![o, 0] S16x128.size h) (ix2 r l) = m (ix2 ⟨o + r.val, ho⟩ l) := by
  refine congrArg m (funext fun a => Fin.ext ?_)
  match a with
  | ⟨0, _⟩ => show o + 1 * r.val = o + r.val; omega
  | ⟨1, _⟩ => show 0 + 1 * l.val = l.val; omega

theorem emb_chunk (o : ℕ) (h : ∀ a, (![o, 0] : Fin 2 → ℕ) a + S16x128.size a ≤ S1536x128.size a) (r : Fin 16) (l : Fin 128) (ho : o + r.val < 1536) :
    (Rect.unit (s := S1536x128) ![o, 0] S16x128.size h).emb (ix2 r l) = (ix2 ⟨o + r.val, ho⟩ l : S1536x128.Idx) := by
  funext a
  match a with
  | ⟨0, _⟩ => exact Fin.ext (by show o + 1 * r.val = o + r.val; omega)
  | ⟨1, _⟩ => exact Fin.ext (by show 0 + 1 * l.val = l.val; omega)

theorem ix2_surj {n k : ℕ} (x : (⟨2, ![n, k]⟩ : Shape).Idx) : ∃ (r : Fin n) (l : Fin k), x = ix2 r l := ⟨x 0, x 1, by
  funext a; match a with
  | ⟨0, _⟩ => rfl
  | ⟨1, _⟩ => rfl⟩

theorem ix3_surj {n k d : ℕ} (x : (⟨3, ![n, k, d]⟩ : Shape).Idx) : ∃ (q : Fin n) (r : Fin k) (l : Fin d), x = ix3 q r l := ⟨x 0, x 1, x 2, by
  funext a; match a with
  | ⟨0, _⟩ => rfl
  | ⟨1, _⟩ => rfl
  | ⟨2, _⟩ => rfl⟩

theorem row_lt (o : ℕ) (h : ∀ a, (![o, 0] : Fin 2 → ℕ) a + S16x128.size a ≤ S1536x128.size a) (r : Fin 16) : o + r.val < 1536 := by
  have := h 0
  have e : o + 16 ≤ 1536 := this
  omega

/-- The chunk of rows `o … o + 15` of the new maxima. -/
theorem chunkM (s : Vec Ideal S1536x512 .f32) (m : Vec Ideal S1536x128 .f32) (o : ℕ)
    (h : ∀ a, (![o, 0] : Fin 2 → ℕ) a + S16x128.size a ≤ S1536x128.size a)
    (h0 : ∀ a, (![o, 0] : Fin 2 → ℕ) a + S16x128.size a ≤ S1536x512.size a) (h1 : ∀ a, (![o, 128] : Fin 2 → ℕ) a + S16x128.size a ≤ S1536x512.size a)
    (h2 : ∀ a, (![o, 256] : Fin 2 → ℕ) a + S16x128.size a ≤ S1536x512.size a) (h3 : ∀ a, (![o, 384] : Fin 2 → ℕ) a + S16x128.size a ≤ S1536x512.size a)
    (hc : S16x128.ShapeCasts S16x128) (x : S16x128.Idx) :
    (shapeCast S16x128 (maximumf (maximumf (maximumf (maximumf (View.ld m (Rect.unit (s := S1536x128) ![o, 0] S16x128.size h))
        (View.ld s (Rect.unit (s := S1536x512) ![o, 0] S16x128.size h0))) (View.ld s (Rect.unit (s := S1536x512) ![o, 128] S16x128.size h1)))
        (View.ld s (Rect.unit (s := S1536x512) ![o, 256] S16x128.size h2))) (View.ld s (Rect.unit (s := S1536x512) ![o, 384] S16x128.size h3))) hc : FVec Ideal S16x128 .f32) x
      = stepM s m ((Rect.unit (s := S1536x128) ![o, 0] S16x128.size h).emb x) := by
  obtain ⟨r, l, rfl⟩ := ix2_surj x
  have ho := row_lt o h r
  refine (max5_apply _ _ _ _ _ hc r l).trans ?_
  rw [ld_slab s o 0 0 rfl h0 r l ho, ld_slab s o 1 128 rfl h1 r l ho, ld_slab s o 2 256 rfl h2 r l ho, ld_slab s o 3 384 rfl h3 r l ho,
    ld_chunk m o h r l ho, emb_chunk o h r l ho]
  rfl

/-- The chunk of rows `o … o + 15` of the new sums. -/
theorem chunkL (s : Vec Ideal S1536x512 .f32) (m c : Vec Ideal S1536x128 .f32) (o : ℕ)
    (h : ∀ a, (![o, 0] : Fin 2 → ℕ) a + S16x128.size a ≤ S1536x128.size a)
    (h0 : ∀ a, (![o, 0] : Fin 2 → ℕ) a + S16x128.size a ≤ S1536x512.size a) (h1 : ∀ a, (![o, 128] : Fin 2 → ℕ) a + S16x128.size a ≤ S1536x512.size a)
    (h2 : ∀ a, (![o, 256] : Fin 2 → ℕ) a + S16x128.size a ≤ S1536x512.size a) (h3 : ∀ a, (![o, 384] : Fin 2 → ℕ) a + S16x128.size a ≤ S1536x512.size a)
    (hc : S16x128.ShapeCasts S16x128) (x : S16x128.Idx) (M : FVec Ideal S16x128 .f32)
    (hM : M = maximumf (maximumf (maximumf (maximumf (View.ld m (Rect.unit (s := S1536x128) ![o, 0] S16x128.size h))
        (View.ld s (Rect.unit (s := S1536x512) ![o, 0] S16x128.size h0))) (View.ld s (Rect.unit (s := S1536x512) ![o, 128] S16x128.size h1)))
        (View.ld s (Rect.unit (s := S1536x512) ![o, 256] S16x128.size h2))) (View.ld s (Rect.unit (s := S1536x512) ![o, 384] S16x128.size h3))) :
    (shapeCast S16x128 (addf (addf (addf (addf (mulf (View.ld c (Rect.unit (s := S1536x128) ![o, 0] S16x128.size h))
        (exp (subf (View.ld m (Rect.unit (s := S1536x128) ![o, 0] S16x128.size h)) M)))
        (exp (subf (View.ld s (Rect.unit (s := S1536x512) ![o, 0] S16x128.size h0)) M))) (exp (subf (View.ld s (Rect.unit (s := S1536x512) ![o, 128] S16x128.size h1)) M)))
        (exp (subf (View.ld s (Rect.unit (s := S1536x512) ![o, 256] S16x128.size h2)) M))) (exp (subf (View.ld s (Rect.unit (s := S1536x512) ![o, 384] S16x128.size h3)) M))) hc : FVec Ideal S16x128 .f32) x
      = stepL s m c ((Rect.unit (s := S1536x128) ![o, 0] S16x128.size h).emb x) := by
  obtain ⟨r, l, rfl⟩ := ix2_surj x
  have ho := row_lt o h r
  have eM : M (ix2 r l) = maxAt s m ⟨o + r.val, ho⟩ l := by
    rw [hM]
    refine (max5_raw _ _ _ _ _ r l).trans ?_
    rw [ld_slab s o 0 0 rfl h0 r l ho, ld_slab s o 1 128 rfl h1 r l ho, ld_slab s o 2 256 rfl h2 r l ho, ld_slab s o 3 384 rfl h3 r l ho,
      ld_chunk m o h r l ho]
    rfl
  refine (sum5_apply M _ _ _ _ _ _ hc r l).trans ?_
  rw [ld_slab s o 0 0 rfl h0 r l ho, ld_slab s o 1 128 rfl h1 r l ho, ld_slab s o 2 256 rfl h2 r l ho, ld_slab s o 3 384 rfl h3 r l ho,
    ld_chunk m o h r l ho, ld_chunk c o h r l ho, emb_chunk o h r l ho, eM]
  rfl

/-- The logits of one block: codes' product, times the prototype's scale, times the row's scale (which carries the factor `1 / TAU`). -/
noncomputable def blockAt (x0 : Vec Ideal S1x1536x5120 .fp8e4m3) (x1 : Vec Ideal S1x512x5120 .fp8e4m3) (x2 : Vec Ideal S1x1536x128 .f32)
    (x3 : Vec Ideal S1x1x512 .f32) (r : Fin 1536) (k : Fin 512) : EReal :=
  (∑ d : Fin 5120, x0 (ix3 0 r d) * x1 (ix3 0 k d)) * x3 (ix3 0 0 k) * x2 (ix3 0 r ⟨k.val % 128, by omega⟩)

/-- The block of logits as the scratch holds it. -/
noncomputable def blockS (x0 : Vec Ideal S1x1536x5120 .fp8e4m3) (x1 : Vec Ideal S1x512x5120 .fp8e4m3) (x2 : Vec Ideal S1x1536x128 .f32)
    (x3 : Vec Ideal S1x1x512 .f32) : Vec Ideal S1536x512 .f32 := fun y => blockAt x0 x1 x2 x3 (y 0) (y 1)

/-- The block of logits as the output block holds it. -/
noncomputable def blockO (x0 : Vec Ideal S1x1536x5120 .fp8e4m3) (x1 : Vec Ideal S1x512x5120 .fp8e4m3) (x2 : Vec Ideal S1x1536x128 .f32)
    (x3 : Vec Ideal S1x1x512 .f32) : Vec Ideal S1x1536x512 .f32 := fun y => blockAt x0 x1 x2 x3 (y 1) (y 2)

/-- What the body computes for a slab: lanes `0 …` of a 256-wide product, times the columns' scales, times the rows' scales. -/
noncomputable abbrev prod0 (A : FVec Ideal S1x1536x5120 .fp8e4m3) (B : FVec Ideal S1x256x5120 .fp8e4m3) (C : FVec Ideal S1x1x256 .f32) (D : FVec Ideal S1x1536x128 .f32)
    (ha : S1x1536x5120.ShapeCasts S1536x5120) (hb : S1x256x5120.ShapeCasts S256x5120) (hs : S1536x256.Slices ![0, 0] S1536x128)
    (hx : S1x1x256.ShapeCasts S1x256) (ht : S1x256.Slices ![0, 0] S1x128) (hbr : S1x128.Broadcasts S1536x128) (hd : S1x1536x128.ShapeCasts S1536x128) : FVec Ideal S1536x128 .f32 :=
  mulf (mulf (extractStridedSlice S1536x128 ![0, 0] (matmul dot_S1536x5120_S256x5120_S1536x256_1_1_0_0_n_n none (shapeCast S1536x5120 A ha)
        (shapeCast S256x5120 B hb) (constant S1536x256 .f32 0#32)) hs)
        (broadcastTo S1536x128 (extractStridedSlice S1x128 ![0, 0] (shapeCast S1x256 C hx) ht) hbr)) (shapeCast S1536x128 D hd)

/-- A slab's value over abstract operands: lanes `0 … 127` of a 256-wide product. -/
theorem prod0_apply (A : FVec Ideal S1x1536x5120 .fp8e4m3) (B : FVec Ideal S1x256x5120 .fp8e4m3) (C : FVec Ideal S1x1x256 .f32) (D : FVec Ideal S1x1536x128 .f32)
    (ha : S1x1536x5120.ShapeCasts S1536x5120) (hb : S1x256x5120.ShapeCasts S256x5120) (hs : S1536x256.Slices ![0, 0] S1536x128)
    (hx : S1x1x256.ShapeCasts S1x256) (ht : S1x256.Slices ![0, 0] S1x128) (hbr : S1x128.Broadcasts S1536x128) (hd : S1x1536x128.ShapeCasts S1536x128)
    (r : Fin 1536) (l : Fin 128) :
    prod0 A B C D ha hb hs hx ht hbr hd (ix2 r l)
      = (∑ d : Fin 5120, A (ix3 0 r d) * B (ix3 0 ⟨l.val, by omega⟩ d)) * C (ix3 0 0 ⟨l.val, by omega⟩) * D (ix3 0 r l) := by
  pointwise [prod0]

/-- What the body computes for a slab: lanes `128 …` of a 256-wide product, times the columns' scales, times the rows' scales. -/
noncomputable abbrev prod1 (A : FVec Ideal S1x1536x5120 .fp8e4m3) (B : FVec Ideal S1x256x5120 .fp8e4m3) (C : FVec Ideal S1x1x256 .f32) (D : FVec Ideal S1x1536x128 .f32)
    (ha : S1x1536x5120.ShapeCasts S1536x5120) (hb : S1x256x5120.ShapeCasts S256x5120) (hs : S1536x256.Slices ![0, 128] S1536x128)
    (hx : S1x1x256.ShapeCasts S1x256) (ht : S1x256.Slices ![0, 128] S1x128) (hbr : S1x128.Broadcasts S1536x128) (hd : S1x1536x128.ShapeCasts S1536x128) : FVec Ideal S1536x128 .f32 :=
  mulf (mulf (extractStridedSlice S1536x128 ![0, 128] (matmul dot_S1536x5120_S256x5120_S1536x256_1_1_0_0_n_n none (shapeCast S1536x5120 A ha)
        (shapeCast S256x5120 B hb) (constant S1536x256 .f32 0#32)) hs)
        (broadcastTo S1536x128 (extractStridedSlice S1x128 ![0, 128] (shapeCast S1x256 C hx) ht) hbr)) (shapeCast S1536x128 D hd)

/-- The same for lanes `128 … 255`. -/
theorem prod1_apply (A : FVec Ideal S1x1536x5120 .fp8e4m3) (B : FVec Ideal S1x256x5120 .fp8e4m3) (C : FVec Ideal S1x1x256 .f32) (D : FVec Ideal S1x1536x128 .f32)
    (ha : S1x1536x5120.ShapeCasts S1536x5120) (hb : S1x256x5120.ShapeCasts S256x5120) (hs : S1536x256.Slices ![0, 128] S1536x128)
    (hx : S1x1x256.ShapeCasts S1x256) (ht : S1x256.Slices ![0, 128] S1x128) (hbr : S1x128.Broadcasts S1536x128) (hd : S1x1536x128.ShapeCasts S1536x128)
    (r : Fin 1536) (l : Fin 128) :
    prod1 A B C D ha hb hs hx ht hbr hd (ix2 r l)
      = (∑ d : Fin 5120, A (ix3 0 r d) * B (ix3 0 ⟨128 + l.val, by omega⟩ d)) * C (ix3 0 0 ⟨128 + l.val, by omega⟩) * D (ix3 0 r l) := by
  pointwise

/-- A read of the first 256-row half of the prototypes' block, or of the second. -/
theorem ld_half (x1 : Vec Ideal S1x512x5120 .fp8e4m3) (o : ℕ) (h : ∀ a, (![0, o, 0] : Fin 3 → ℕ) a + S1x256x5120.size a ≤ S1x512x5120.size a)
    (k : Fin 256) (d : Fin 5120) (ho : o + k.val < 512) :
    View.ld x1 (Rect.unit (s := S1x512x5120) ![0, o, 0] S1x256x5120.size h) (ix3 0 k d) = x1 (ix3 0 ⟨o + k.val, ho⟩ d) := by
  refine congrArg x1 (funext fun a => Fin.ext ?_)
  match a with
  | ⟨0, _⟩ => rfl
  | ⟨1, _⟩ => show o + 1 * k.val = o + k.val; omega
  | ⟨2, _⟩ => show 0 + 1 * d.val = d.val; omega

/-- The same half of the prototypes' scales. -/
theorem ld_halfRow (x3 : Vec Ideal S1x1x512 .f32) (o : ℕ) (h : ∀ a, (![0, 0, o] : Fin 3 → ℕ) a + S1x1x256.size a ≤ S1x1x512.size a)
    (k : Fin 256) (ho : o + k.val < 512) :
    View.ld x3 (Rect.unit (s := S1x1x512) ![0, 0, o] S1x1x256.size h) (ix3 0 0 k) = x3 (ix3 0 0 ⟨o + k.val, ho⟩) := by
  refine congrArg x3 (funext fun a => Fin.ext ?_)
  match a with
  | ⟨0, _⟩ => rfl
  | ⟨1, _⟩ => rfl
  | ⟨2, _⟩ => show o + 1 * k.val = o + k.val; omega

/-- A slab of the block, lanes `0 … 127` of the half at `o`: its value. -/
theorem half0 (x0 : Vec Ideal S1x1536x5120 .fp8e4m3) (x1 : Vec Ideal S1x512x5120 .fp8e4m3) (x2 : Vec Ideal S1x1536x128 .f32) (x3 : Vec Ideal S1x1x512 .f32)
    (o : ℕ) (p : ℕ) (hp : p = o) (h128 : o % 128 = 0)
    (z0 : ∀ a, (![0, 0, 0] : Fin 3 → ℕ) a + S1x1536x5120.size a ≤ S1x1536x5120.size a)
    (z2 : ∀ a, (![0, 0, 0] : Fin 3 → ℕ) a + S1x1536x128.size a ≤ S1x1536x128.size a)
    (h1 : ∀ a, (![0, o, 0] : Fin 3 → ℕ) a + S1x256x5120.size a ≤ S1x512x5120.size a)
    (h3 : ∀ a, (![0, 0, o] : Fin 3 → ℕ) a + S1x1x256.size a ≤ S1x1x512.size a)
    (ha : S1x1536x5120.ShapeCasts S1536x5120) (hb : S1x256x5120.ShapeCasts S256x5120) (hs : S1536x256.Slices ![0, 0] S1536x128)
    (hx : S1x1x256.ShapeCasts S1x256) (ht : S1x256.Slices ![0, 0] S1x128) (hbr : S1x128.Broadcasts S1536x128) (hd : S1x1536x128.ShapeCasts S1536x128)
    (r : Fin 1536) (l : Fin 128) (hl : p + l.val < 512) :
    prod0 (View.ld x0 (Rect.unit (s := S1x1536x5120) ![0, 0, 0] S1x1536x5120.size z0)) (View.ld x1 (Rect.unit (s := S1x512x5120) ![0, o, 0] S1x256x5120.size h1))
        (View.ld x3 (Rect.unit (s := S1x1x512) ![0, 0, o] S1x1x256.size h3)) (View.ld x2 (Rect.unit (s := S1x1536x128) ![0, 0, 0] S1x1536x128.size z2))
        ha hb hs hx ht hbr hd (ix2 r l)
      = blockAt x0 x1 x2 x3 r ⟨p + l.val, hl⟩ := by
  subst hp
  refine (prod0_apply _ _ _ _ ha hb hs hx ht hbr hd r l).trans ?_
  rw [View.ld_unit_zero (S := S1x1536x5120) hz3, View.ld_unit_zero (S := S1x1536x128) hz3]
  unfold blockAt
  refine congrArg₂ (· * ·) (congrArg₂ (· * ·) (Finset.sum_congr rfl fun d _ => congrArg (x0 (ix3 0 r d) * ·) ?_) ?_) ?_
  · exact ld_half x1 p h1 _ d hl
  · exact ld_halfRow x3 p h3 _ hl
  · refine congrArg (fun e => x2 (ix3 0 r e)) (Fin.ext ?_)
    show l.val = (p + l.val) % 128
    omega

/-- A slab of the block, lanes `128 … 255` of the half at `o`: its value. -/
theorem half1 (x0 : Vec Ideal S1x1536x5120 .fp8e4m3) (x1 : Vec Ideal S1x512x5120 .fp8e4m3) (x2 : Vec Ideal S1x1536x128 .f32) (x3 : Vec Ideal S1x1x512 .f32)
    (o : ℕ) (p : ℕ) (hp : p = o + 128) (h128 : o % 128 = 0)
    (z0 : ∀ a, (![0, 0, 0] : Fin 3 → ℕ) a + S1x1536x5120.size a ≤ S1x1536x5120.size a)
    (z2 : ∀ a, (![0, 0, 0] : Fin 3 → ℕ) a + S1x1536x128.size a ≤ S1x1536x128.size a)
    (h1 : ∀ a, (![0, o, 0] : Fin 3 → ℕ) a + S1x256x5120.size a ≤ S1x512x5120.size a)
    (h3 : ∀ a, (![0, 0, o] : Fin 3 → ℕ) a + S1x1x256.size a ≤ S1x1x512.size a)
    (ha : S1x1536x5120.ShapeCasts S1536x5120) (hb : S1x256x5120.ShapeCasts S256x5120) (hs : S1536x256.Slices ![0, 128] S1536x128)
    (hx : S1x1x256.ShapeCasts S1x256) (ht : S1x256.Slices ![0, 128] S1x128) (hbr : S1x128.Broadcasts S1536x128) (hd : S1x1536x128.ShapeCasts S1536x128)
    (r : Fin 1536) (l : Fin 128) (hl : p + l.val < 512) :
    prod1 (View.ld x0 (Rect.unit (s := S1x1536x5120) ![0, 0, 0] S1x1536x5120.size z0)) (View.ld x1 (Rect.unit (s := S1x512x5120) ![0, o, 0] S1x256x5120.size h1))
        (View.ld x3 (Rect.unit (s := S1x1x512) ![0, 0, o] S1x1x256.size h3)) (View.ld x2 (Rect.unit (s := S1x1536x128) ![0, 0, 0] S1x1536x128.size z2))
        ha hb hs hx ht hbr hd (ix2 r l)
      = blockAt x0 x1 x2 x3 r ⟨p + l.val, hl⟩ := by
  subst hp
  refine (prod1_apply _ _ _ _ ha hb hs hx ht hbr hd r l).trans ?_
  rw [View.ld_unit_zero (S := S1x1536x5120) hz3, View.ld_unit_zero (S := S1x1536x128) hz3]
  unfold blockAt
  refine congrArg₂ (· * ·) (congrArg₂ (· * ·) (Finset.sum_congr rfl fun d _ => congrArg (x0 (ix3 0 r d) * ·) ?_) ?_) ?_
  · refine (ld_half x1 o h1 _ d (by show o + (128 + l.val) < 512; omega)).trans (congrArg (fun e => x1 (ix3 0 e d)) (Fin.ext ?_))
    show o + (128 + l.val) = o + 128 + l.val
    omega
  · refine (ld_halfRow x3 o h3 _ (by show o + (128 + l.val) < 512; omega)).trans (congrArg (fun e => x3 (ix3 0 0 e)) (Fin.ext ?_))
    show o + (128 + l.val) = o + 128 + l.val
    omega
  · refine congrArg (fun e => x2 (ix3 0 r e)) (Fin.ext ?_)
    show l.val = (o + 128 + l.val) % 128
    omega

/-- A payload stored into the scratch is that slab of the block. -/
theorem slabS (x0 : Vec Ideal S1x1536x5120 .fp8e4m3) (x1 : Vec Ideal S1x512x5120 .fp8e4m3) (x2 : Vec Ideal S1x1536x128 .f32) (x3 : Vec Ideal S1x1x512 .f32)
    (w : FVec Ideal S1536x128 .f32) (p : ℕ) (hc : S1536x128.ShapeCasts S1536x128) (hp : ∀ a, (![0, p] : Fin 2 → ℕ) a + S1536x128.size a ≤ S1536x512.size a)
    (hw : ∀ (r : Fin 1536) (l : Fin 128) (hl : p + l.val < 512), w (ix2 r l) = blockAt x0 x1 x2 x3 r ⟨p + l.val, hl⟩) (x : S1536x128.Idx) :
    shapeCast S1536x128 w hc x = blockS x0 x1 x2 x3 ((Rect.unit (s := S1536x512) ![0, p] S1536x128.size hp).emb x) := by
  obtain ⟨r, l, rfl⟩ := ix2_surj x
  have hl : p + l.val < 512 := by
    have e : p + 128 ≤ 512 := hp 1
    omega
  have e : shapeCast S1536x128 w hc (ix2 r l) = w (ix2 r l) := by pointwise
  rw [e, hw r l hl]
  unfold blockS
  refine congrArg₂ (blockAt x0 x1 x2 x3) (Fin.ext ?_) (Fin.ext ?_)
  · show r.val = 0 + 1 * r.val; omega
  · show p + l.val = p + 1 * l.val; omega

/-- A payload stored into the output block is that slab of the block. -/
theorem slabO (x0 : Vec Ideal S1x1536x5120 .fp8e4m3) (x1 : Vec Ideal S1x512x5120 .fp8e4m3) (x2 : Vec Ideal S1x1536x128 .f32) (x3 : Vec Ideal S1x1x512 .f32)
    (w : FVec Ideal S1536x128 .f32) (p : ℕ) (hc : S1536x128.ShapeCasts S1x1536x128) (hp : ∀ a, (![0, 0, p] : Fin 3 → ℕ) a + S1x1536x128.size a ≤ S1x1536x512.size a)
    (hw : ∀ (r : Fin 1536) (l : Fin 128) (hl : p + l.val < 512), w (ix2 r l) = blockAt x0 x1 x2 x3 r ⟨p + l.val, hl⟩) (x : S1x1536x128.Idx) :
    shapeCast S1x1536x128 w hc x = blockO x0 x1 x2 x3 ((Rect.unit (s := S1x1536x512) ![0, 0, p] S1x1536x128.size hp).emb x) := by
  obtain ⟨z, r, l, rfl⟩ := ix3_surj x
  have hl : p + l.val < 512 := by
    have e : p + 128 ≤ 512 := hp 2
    omega
  have e : shapeCast S1x1536x128 w hc (ix3 z r l) = w (ix2 r l) := by
    obtain rfl : z = 0 := Subsingleton.elim _ _
    pointwise
  rw [e, hw r l hl]
  unfold blockO
  refine congrArg₂ (blockAt x0 x1 x2 x3) (Fin.ext ?_) (Fin.ext ?_)
  · show r.val = 0 + 1 * r.val; omega
  · show p + l.val = p + 1 * l.val; omega

/-- A read inside a rectangle that was stored last, when the store is a block of `G`. -/
theorem readCov_block {sig : RefSig} {κ : Kind} {sp : Space} {s : Shape} {e : EltTy} (v : View sig κ sp s e) (G : s.Idx → Elt Ideal e)
    (r : Rect s) (w : r.shape.Idx → Elt Ideal e) (L : List (View.Piece (Elt Ideal) s e)) (B : Rect s)
    (hw : ∀ x, w x = G (r.emb x)) (hB : ∀ y : B.shape.Idx, B.emb y ∈ r.set) :
    v.readCov (⟨r, w⟩ :: L) B.toLoadRect = View.ld G B := by
  rw [View.readCov_eq_canon']
  funext y
  exact View.canon_append_of_piecesOf G L [⟨r, w⟩] ⟨hw, trivial⟩ (B.emb y) ⟨_, .head _, hB y⟩

/-- The first `n` pieces of a list (the last `n` stores) are blocks of `G`. -/
def FirstOf {s : Shape} {e : EltTy} (G : s.Idx → Elt Ideal e) : ℕ → List (View.Piece (Elt Ideal) s e) → Prop
  | 0, _ => True
  | _ + 1, [] => True
  | n + 1, p :: L => (∀ x : p.1.shape.Idx, p.2 x = G (p.1.emb x)) ∧ FirstOf G n L

/-- What the last `n` stores leave, when they are blocks of `G` and cover the array, is `G`. -/
theorem canon_of_first {s : Shape} {e : EltTy} (G : s.Idx → Elt Ideal e) (n : ℕ) (L : List (View.Piece (Elt Ideal) s e))
    (hc : ∀ y, ∃ p ∈ L.take n, y ∈ p.1.set) (h : FirstOf G n L) (y : s.Idx) : View.canon L y = G y := by
  have key : ∀ (n : ℕ) (L : List (View.Piece (Elt Ideal) s e)), FirstOf G n L → View.PiecesOf G (L.take n) := by
    intro n
    induction n with
    | zero => intro L _; exact trivial
    | succ n ih =>
      intro L h
      cases L with
      | nil => exact trivial
      | cons p L => exact ⟨h.1, ih L h.2⟩
  have := View.canon_append_of_piecesOf G (L.drop n) (L.take n) (key n L h) y (hc y)
  rwa [List.take_append_drop] at this

/-- What a whole list of stores leaves, when they are blocks of `G` and cover the array, is `G`. -/
theorem canon_of_all {s : Shape} {e : EltTy} (G : s.Idx → Elt Ideal e) (L : List (View.Piece (Elt Ideal) s e))
    (hc : ∀ y, ∃ p ∈ L, y ∈ p.1.set) (h : View.PiecesOf G L) (y : s.Idx) : View.canon L y = G y := by
  have := View.canon_append_of_piecesOf G [] L h y (hc y)
  rwa [List.append_nil] at this

/-- A read of the rectangle that was stored last reads what was stored. -/
theorem readCov_same {sig : RefSig} {κ : Kind} {sp : Space} {s : Shape} {e : EltTy} (v : View sig κ sp s e)
    (r : Rect s) (w : r.shape.Idx → Elt Ideal e) (L : List (View.Piece (Elt Ideal) s e)) : v.readCov (⟨r, w⟩ :: L) r.toLoadRect = w := by
  rw [View.readCov_eq_canon']
  funext y
  exact View.canon_cons_emb r w L y

/-- A chunk of the new maxima, over operands known only by their values. -/
theorem chunkM' (s : Vec Ideal S1536x512 .f32) (m : Vec Ideal S1536x128 .f32) (o : ℕ)
    (h : ∀ a, (![o, 0] : Fin 2 → ℕ) a + S16x128.size a ≤ S1536x128.size a)
    (h0 : ∀ a, (![o, 0] : Fin 2 → ℕ) a + S16x128.size a ≤ S1536x512.size a) (h1 : ∀ a, (![o, 128] : Fin 2 → ℕ) a + S16x128.size a ≤ S1536x512.size a)
    (h2 : ∀ a, (![o, 256] : Fin 2 → ℕ) a + S16x128.size a ≤ S1536x512.size a) (h3 : ∀ a, (![o, 384] : Fin 2 → ℕ) a + S16x128.size a ≤ S1536x512.size a)
    (hc : S16x128.ShapeCasts S16x128) (a b0 b1 b2 b3 : FVec Ideal S16x128 .f32)
    (ha : ∀ x : S16x128.Idx, a x = m ((Rect.unit (s := S1536x128) ![o, 0] S16x128.size h).emb x))
    (hb0 : b0 = View.ld s (Rect.unit (s := S1536x512) ![o, 0] S16x128.size h0)) (hb1 : b1 = View.ld s (Rect.unit (s := S1536x512) ![o, 128] S16x128.size h1))
    (hb2 : b2 = View.ld s (Rect.unit (s := S1536x512) ![o, 256] S16x128.size h2)) (hb3 : b3 = View.ld s (Rect.unit (s := S1536x512) ![o, 384] S16x128.size h3))
    (x : S16x128.Idx) :
    shapeCast S16x128 (maximumf (maximumf (maximumf (maximumf a b0) b1) b2) b3) hc x
      = stepM s m ((Rect.unit (s := S1536x128) ![o, 0] S16x128.size h).emb x) := by
  have e : a = View.ld m (Rect.unit (s := S1536x128) ![o, 0] S16x128.size h) := funext ha
  subst e hb0 hb1 hb2 hb3
  exact chunkM s m o h h0 h1 h2 h3 hc x

/-- A chunk of the new sums, over operands known only by their values. -/
theorem chunkL' (s : Vec Ideal S1536x512 .f32) (m c : Vec Ideal S1536x128 .f32) (o : ℕ)
    (h : ∀ a, (![o, 0] : Fin 2 → ℕ) a + S16x128.size a ≤ S1536x128.size a)
    (h0 : ∀ a, (![o, 0] : Fin 2 → ℕ) a + S16x128.size a ≤ S1536x512.size a) (h1 : ∀ a, (![o, 128] : Fin 2 → ℕ) a + S16x128.size a ≤ S1536x512.size a)
    (h2 : ∀ a, (![o, 256] : Fin 2 → ℕ) a + S16x128.size a ≤ S1536x512.size a) (h3 : ∀ a, (![o, 384] : Fin 2 → ℕ) a + S16x128.size a ≤ S1536x512.size a)
    (hc : S16x128.ShapeCasts S16x128) (a d b0 b1 b2 b3 : FVec Ideal S16x128 .f32)
    (ha : ∀ x : S16x128.Idx, a x = m ((Rect.unit (s := S1536x128) ![o, 0] S16x128.size h).emb x))
    (hd : ∀ x : S16x128.Idx, d x = c ((Rect.unit (s := S1536x128) ![o, 0] S16x128.size h).emb x))
    (hb0 : b0 = View.ld s (Rect.unit (s := S1536x512) ![o, 0] S16x128.size h0)) (hb1 : b1 = View.ld s (Rect.unit (s := S1536x512) ![o, 128] S16x128.size h1))
    (hb2 : b2 = View.ld s (Rect.unit (s := S1536x512) ![o, 256] S16x128.size h2)) (hb3 : b3 = View.ld s (Rect.unit (s := S1536x512) ![o, 384] S16x128.size h3))
    (x : S16x128.Idx) :
    shapeCast S16x128 (addf (addf (addf (addf (mulf d (exp (subf a (maximumf (maximumf (maximumf (maximumf a b0) b1) b2) b3))))
        (exp (subf b0 (maximumf (maximumf (maximumf (maximumf a b0) b1) b2) b3)))) (exp (subf b1 (maximumf (maximumf (maximumf (maximumf a b0) b1) b2) b3))))
        (exp (subf b2 (maximumf (maximumf (maximumf (maximumf a b0) b1) b2) b3)))) (exp (subf b3 (maximumf (maximumf (maximumf (maximumf a b0) b1) b2) b3)))) hc x
      = stepL s m c ((Rect.unit (s := S1536x128) ![o, 0] S16x128.size h).emb x) := by
  have e : a = View.ld m (Rect.unit (s := S1536x128) ![o, 0] S16x128.size h) := funext ha
  have e' : d = View.ld c (Rect.unit (s := S1536x128) ![o, 0] S16x128.size h) := funext hd
  subst e e' hb0 hb1 hb2 hb3
  exact chunkL s m c o h h0 h1 h2 h3 hc x _ rfl

/-- A chunk's read of a slab of the scratch that was stored last. -/
theorem readSlab (x0 : Vec Ideal S1x1536x5120 .fp8e4m3) (x1 : Vec Ideal S1x512x5120 .fp8e4m3) (x2 : Vec Ideal S1x1536x128 .f32) (x3 : Vec Ideal S1x1x512 .f32)
    {sig : RefSig} {κ : Kind} {sp : Space} (v : View sig κ sp S1536x512 .f32) (o p : ℕ)
    (hp : ∀ a, (![0, p] : Fin 2 → ℕ) a + S1536x128.size a ≤ S1536x512.size a) (h : ∀ a, (![o, p] : Fin 2 → ℕ) a + S16x128.size a ≤ S1536x512.size a)
    (w : S1536x128.Idx → Elt Ideal .f32) (L : List (View.Piece (Elt Ideal) S1536x512 .f32))
    (hw : ∀ x, w x = blockS x0 x1 x2 x3 ((Rect.unit (s := S1536x512) ![0, p] S1536x128.size hp).emb x)) :
    v.readCov (⟨Rect.unit ![0, p] S1536x128.size hp, w⟩ :: L) (Rect.unit (s := S1536x512) ![o, p] S16x128.size h).toLoadRect
      = View.ld (blockS x0 x1 x2 x3) (Rect.unit (s := S1536x512) ![o, p] S16x128.size h) := by
  refine readCov_block v (blockS x0 x1 x2 x3) (Rect.unit (s := S1536x512) ![0, p] S1536x128.size hp) w L
    (Rect.unit (s := S1536x512) ![o, p] S16x128.size h) hw fun y => ?_
  have y0 : (y 0 : ℕ) < 16 := (y 0).isLt
  have y1 : (y 1 : ℕ) < 128 := (y 1).isLt
  have ho : o + 16 ≤ 1536 := h 0
  rw [Rect.mem_set_unit]
  intro a
  match a with
  | ⟨0, _⟩ => exact ⟨Nat.zero_le _, by show o + 1 * (y 0 : ℕ) < 0 + 1536; omega⟩
  | ⟨1, _⟩ => exact ⟨by show p ≤ p + 1 * (y 1 : ℕ); omega, by show p + 1 * (y 1 : ℕ) < p + 128; omega⟩

end Cert.LgIdeal.Body
-- ==== Proof.LgBlockA.lean ====
module

public import proofs.«01_k».proof.Proof.Gen.LgIdeal.Frame
public import proofs.«01_k».proof.Proof.LgStep

/-!
The block of logits the first point of a sweep writes and keeps.
-/

@[expose] public section

set_option maxRecDepth 65536

namespace Cert.LgIdeal.Body

open Idealize.ShloMosaic Cert.LgIdeal Cert.LgIdeal.Gen

set_option maxHeartbeats 4000000 in
/-- The first point writes its block of logits. -/
theorem out_A (c : Dev nD) (i : grid0.Coords) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg6 : Memref sig .tc .vmem S1x1536x512 .f32) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (hc0 : cond0_0 i) (hc1 : ¬cond0_1 i)
    (x0 : Vec Ideal S1x1536x5120 .fp8e4m3) (x1 : Vec Ideal S1x512x5120 .fp8e4m3) (x2 : Vec Ideal S1x1536x128 .f32) (x3 : Vec Ideal S1x1x512 .f32) (y : S1x1536x512.Idx) :
    out0_A_4 c i arg2 harg2 arg3 harg3 arg4 harg4 arg5 harg5 arg6 harg6 arg7 harg7 arg8 harg8 arg9 harg9 arg10 harg10 arg11 harg11 hc0 hc1 x0 x1 x2 x3 y = (blockO x0 x1 x2 x3) y := by
  have hcov := cover0_A_4 c i arg2 harg2 arg3 harg3 arg4 harg4 arg5 harg5 arg6 harg6 arg7 harg7 arg8 harg8 arg9 harg9 arg10 harg10 arg11 harg11 hc0 hc1 x0 x1 x2 x3
  unfold out0_A_4
  rw [View.read_writes_eq_canon _ _ _ hcov]
  refine canon_of_all (blockO x0 x1 x2 x3) _ hcov ?_ y
  clear hcov
  unfold kernelRun0_A
  dsimp only
  sl_unfold_words
  simp only [View.readAt_eq_ld, harg2.read_unread, harg3.read_unread, harg4.read_unread, harg5.read_unread]
  exact ⟨fun x => slabO x0 x1 x2 x3 _ 384 _ inb_S1x1536x512_S1x1536x128_0_0_384 (fun r l hl => half1 x0 x1 x2 x3 256 384 rfl rfl _ _ _ _ _ _ _ _ _ _ _ r l hl) x,
    fun x => slabO x0 x1 x2 x3 _ 256 _ inb_S1x1536x512_S1x1536x128_0_0_256 (fun r l hl => half0 x0 x1 x2 x3 256 256 rfl rfl _ _ _ _ _ _ _ _ _ _ _ r l hl) x,
    fun x => slabO x0 x1 x2 x3 _ 128 _ inb_S1x1536x512_S1x1536x128_0_0_128 (fun r l hl => half1 x0 x1 x2 x3 0 128 rfl rfl _ _ _ _ _ _ _ _ _ _ _ r l hl) x,
    fun x => slabO x0 x1 x2 x3 _ 0 _ inb_S1x1536x512_S1x1536x128_0_0_0 (fun r l hl => half0 x0 x1 x2 x3 0 0 rfl rfl _ _ _ _ _ _ _ _ _ _ _ r l hl) x, trivial⟩

set_option maxHeartbeats 4000000 in
/-- The first point leaves its block of logits in the scratch. -/
theorem scr_A (c : Dev nD) (i : grid0.Coords) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg6 : Memref sig .tc .vmem S1x1536x512 .f32) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (hc0 : cond0_0 i) (hc1 : ¬cond0_1 i)
    (x0 : Vec Ideal S1x1536x5120 .fp8e4m3) (x1 : Vec Ideal S1x512x5120 .fp8e4m3) (x2 : Vec Ideal S1x1536x128 .f32) (x3 : Vec Ideal S1x1x512 .f32) (y : S1536x512.Idx) :
    sout0_A_0 c i arg2 harg2 arg3 harg3 arg4 harg4 arg5 harg5 arg6 harg6 arg7 harg7 arg8 harg8 arg9 harg9 arg10 harg10 arg11 harg11 hc0 hc1 x0 x1 x2 x3 y = (blockS x0 x1 x2 x3) y := by
  have hcov := scover0_A_0 c i arg2 harg2 arg3 harg3 arg4 harg4 arg5 harg5 arg6 harg6 arg7 harg7 arg8 harg8 arg9 harg9 arg10 harg10 arg11 harg11 hc0 hc1 x0 x1 x2 x3
  unfold sout0_A_0
  rw [View.read_writes_eq_canon _ _ _ hcov]
  refine canon_of_first (blockS x0 x1 x2 x3) 4 _ (fun y => View.cover_of_tiledL ((kernelRun0_A (F := Ideal) c i arg2 harg2 arg3 harg3 arg4 harg4 arg5 harg5 arg6 harg6 arg7 harg7 arg8 harg8 arg9 harg9 arg10 harg10 arg11 harg11 hc0 hc1 x0 x1 x2 x3).2.2.2.1.take 4) S1536x128.size (by sl_kernel_rfl) y) ?_ y
  clear hcov
  unfold kernelRun0_A
  dsimp only
  sl_unfold_words
  simp only [View.readAt_eq_ld, harg2.read_unread, harg3.read_unread, harg4.read_unread, harg5.read_unread]
  exact ⟨fun x => slabS x0 x1 x2 x3 _ 384 _ inb_S1536x512_S1536x128_0_384 (fun r l hl => half1 x0 x1 x2 x3 256 384 rfl rfl _ _ _ _ _ _ _ _ _ _ _ r l hl) x,
    fun x => slabS x0 x1 x2 x3 _ 256 _ inb_S1536x512_S1536x128_0_256 (fun r l hl => half0 x0 x1 x2 x3 256 256 rfl rfl _ _ _ _ _ _ _ _ _ _ _ r l hl) x,
    fun x => slabS x0 x1 x2 x3 _ 128 _ inb_S1536x512_S1536x128_0_128 (fun r l hl => half1 x0 x1 x2 x3 0 128 rfl rfl _ _ _ _ _ _ _ _ _ _ _ r l hl) x,
    fun x => slabS x0 x1 x2 x3 _ 0 _ inb_S1536x512_S1536x128_0_0 (fun r l hl => half0 x0 x1 x2 x3 0 0 rfl rfl _ _ _ _ _ _ _ _ _ _ _ r l hl) x, trivial⟩

end Cert.LgIdeal.Body
-- ==== Proof.LgBlockB.lean ====
module

public import proofs.«01_k».proof.Proof.Gen.LgIdeal.Frame
public import proofs.«01_k».proof.Proof.LgStep

/-!
The block of logits a middle point of the kernel writes and keeps.
-/

@[expose] public section

set_option maxRecDepth 65536

namespace Cert.LgIdeal.Body

open Idealize.ShloMosaic Cert.LgIdeal Cert.LgIdeal.Gen

set_option maxHeartbeats 4000000 in
/-- A middle point writes its block of logits. -/
theorem out_B (c : Dev nD) (i : grid0.Coords) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg6 : Memref sig .tc .vmem S1x1536x512 .f32) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (hc0 : ¬cond0_0 i) (hc1 : ¬cond0_1 i)
    (x0 : Vec Ideal S1x1536x5120 .fp8e4m3) (x1 : Vec Ideal S1x512x5120 .fp8e4m3) (x2 : Vec Ideal S1x1536x128 .f32) (x3 : Vec Ideal S1x1x512 .f32) (xs0 : Vec Ideal S1536x512 .f32) (xs1 : Vec Ideal S1536x128 .f32) (xs2 : Vec Ideal S1536x128 .f32) (y : S1x1536x512.Idx) :
    out0_B_4 c i arg2 harg2 arg3 harg3 arg4 harg4 arg5 harg5 arg6 harg6 arg7 harg7 arg8 harg8 arg9 harg9 arg10 harg10 arg11 harg11 hc0 hc1 x0 x1 x2 x3 xs0 xs1 xs2 y = (blockO x0 x1 x2 x3) y := by
  have hcov := cover0_B_4 c i arg2 harg2 arg3 harg3 arg4 harg4 arg5 harg5 arg6 harg6 arg7 harg7 arg8 harg8 arg9 harg9 arg10 harg10 arg11 harg11 hc0 hc1 x0 x1 x2 x3 xs0 xs1 xs2
  unfold out0_B_4
  rw [View.read_writes_eq_canon _ _ _ hcov]
  refine canon_of_all (blockO x0 x1 x2 x3) _ hcov ?_ y
  clear hcov
  unfold kernelRun0_B
  dsimp only
  sl_unfold_words
  simp only [View.readAt_eq_ld, harg2.read_unread, harg3.read_unread, harg4.read_unread, harg5.read_unread, harg9.read_unread, harg10.read_unread, harg11.read_unread]
  exact ⟨fun x => slabO x0 x1 x2 x3 _ 384 _ inb_S1x1536x512_S1x1536x128_0_0_384 (fun r l hl => half1 x0 x1 x2 x3 256 384 rfl rfl _ _ _ _ _ _ _ _ _ _ _ r l hl) x,
    fun x => slabO x0 x1 x2 x3 _ 256 _ inb_S1x1536x512_S1x1536x128_0_0_256 (fun r l hl => half0 x0 x1 x2 x3 256 256 rfl rfl _ _ _ _ _ _ _ _ _ _ _ r l hl) x,
    fun x => slabO x0 x1 x2 x3 _ 128 _ inb_S1x1536x512_S1x1536x128_0_0_128 (fun r l hl => half1 x0 x1 x2 x3 0 128 rfl rfl _ _ _ _ _ _ _ _ _ _ _ r l hl) x,
    fun x => slabO x0 x1 x2 x3 _ 0 _ inb_S1x1536x512_S1x1536x128_0_0_0 (fun r l hl => half0 x0 x1 x2 x3 0 0 rfl rfl _ _ _ _ _ _ _ _ _ _ _ r l hl) x, trivial⟩

set_option maxHeartbeats 4000000 in
/-- A middle point leaves its block of logits in the scratch. -/
theorem scr_B (c : Dev nD) (i : grid0.Coords) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg6 : Memref sig .tc .vmem S1x1536x512 .f32) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (hc0 : ¬cond0_0 i) (hc1 : ¬cond0_1 i)
    (x0 : Vec Ideal S1x1536x5120 .fp8e4m3) (x1 : Vec Ideal S1x512x5120 .fp8e4m3) (x2 : Vec Ideal S1x1536x128 .f32) (x3 : Vec Ideal S1x1x512 .f32) (xs0 : Vec Ideal S1536x512 .f32) (xs1 : Vec Ideal S1536x128 .f32) (xs2 : Vec Ideal S1536x128 .f32) (y : S1536x512.Idx) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 y = (blockS x0 x1 x2 x3) y := by
  have hcov := scover0_B_0 c i arg2 harg2 arg3 harg3 arg4 harg4 arg5 harg5 arg6 harg6 arg7 harg7 arg8 harg8 arg9 harg9 arg10 harg10 arg11 harg11 hc0 hc1 x0 x1 x2 x3 xs0 xs1 xs2
  unfold sout0_B_0
  rw [View.read_writes_eq_canon _ _ _ hcov]
  refine canon_of_all (blockS x0 x1 x2 x3) _ hcov ?_ y
  clear hcov
  unfold kernelRun0_B
  dsimp only
  sl_unfold_words
  simp only [View.readAt_eq_ld, harg2.read_unread, harg3.read_unread, harg4.read_unread, harg5.read_unread, harg9.read_unread, harg10.read_unread, harg11.read_unread]
  exact ⟨fun x => slabS x0 x1 x2 x3 _ 384 _ inb_S1536x512_S1536x128_0_384 (fun r l hl => half1 x0 x1 x2 x3 256 384 rfl rfl _ _ _ _ _ _ _ _ _ _ _ r l hl) x,
    fun x => slabS x0 x1 x2 x3 _ 256 _ inb_S1536x512_S1536x128_0_256 (fun r l hl => half0 x0 x1 x2 x3 256 256 rfl rfl _ _ _ _ _ _ _ _ _ _ _ r l hl) x,
    fun x => slabS x0 x1 x2 x3 _ 128 _ inb_S1536x512_S1536x128_0_128 (fun r l hl => half1 x0 x1 x2 x3 0 128 rfl rfl _ _ _ _ _ _ _ _ _ _ _ r l hl) x,
    fun x => slabS x0 x1 x2 x3 _ 0 _ inb_S1536x512_S1536x128_0_0 (fun r l hl => half0 x0 x1 x2 x3 0 0 rfl rfl _ _ _ _ _ _ _ _ _ _ _ r l hl) x, trivial⟩

end Cert.LgIdeal.Body
-- ==== Proof.LgMaxA.lean ====
module

public import proofs.«01_k».proof.Proof.Gen.LgIdeal.Frame
public import proofs.«01_k».proof.Proof.LgStep

/-!
The running maxima the first point of a sweep leaves: those of the fill.
-/

@[expose] public section

set_option maxRecDepth 65536

namespace Cert.LgIdeal.Body

open Idealize.ShloMosaic Cert.LgIdeal Cert.LgIdeal.Gen

set_option maxHeartbeats 4000000 in
/-- The first point resets the scratch, then folds the reset block into the reset maxima. -/
theorem max_A (c : Dev nD) (i : grid0.Coords) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg6 : Memref sig .tc .vmem S1x1536x512 .f32) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (hc0 : cond0_0 i) (hc1 : ¬cond0_1 i)
    (x0 : Vec Ideal S1x1536x5120 .fp8e4m3) (x1 : Vec Ideal S1x512x5120 .fp8e4m3) (x2 : Vec Ideal S1x1536x128 .f32) (x3 : Vec Ideal S1x1x512 .f32) (y : S1536x128.Idx) :
    sout0_A_1 c i arg2 harg2 arg3 harg3 arg4 harg4 arg5 harg5 arg6 harg6 arg7 harg7 arg8 harg8 arg9 harg9 arg10 harg10 arg11 harg11 hc0 hc1 x0 x1 x2 x3 y = (stepM (k0_pay351 (F := Ideal)) (k0_pay352 (F := Ideal))) y := by
  have hcov := scover0_A_1 c i arg2 harg2 arg3 harg3 arg4 harg4 arg5 harg5 arg6 harg6 arg7 harg7 arg8 harg8 arg9 harg9 arg10 harg10 arg11 harg11 hc0 hc1 x0 x1 x2 x3
  unfold sout0_A_1
  rw [View.read_writes_eq_canon _ _ _ hcov]
  refine canon_of_first (stepM (k0_pay351 (F := Ideal)) (k0_pay352 (F := Ideal))) 96 _ (fun y => View.cover_of_tiledL ((kernelRun0_A (F := Ideal) c i arg2 harg2 arg3 harg3 arg4 harg4 arg5 harg5 arg6 harg6 arg7 harg7 arg8 harg8 arg9 harg9 arg10 harg10 arg11 harg11 hc0 hc1 x0 x1 x2 x3).2.2.2.2.1.take 96) S16x128.size (by sl_kernel_rfl) y) ?_ y
  clear hcov
  unfold kernelRun0_A
  dsimp only
  sl_unfold_words
  simp only [View.readAt_eq_ld, harg2.read_unread, harg3.read_unread, harg4.read_unread, harg5.read_unread]
  simp (disch := decide) only [↓View.readCov_skip, View.readCov_fill]
  repeat first | exact trivial | refine ⟨fun x => chunkM (k0_pay351 (F := Ideal)) (k0_pay352 (F := Ideal)) _ _ _ _ _ _ _ x, ?_⟩

end Cert.LgIdeal.Body
-- ==== Proof.LgMaxB.lean ====
module

public import proofs.«01_k».proof.Proof.Gen.LgIdeal.Frame
public import proofs.«01_k».proof.Proof.LgStep

/-!
The running maxima a middle point of the kernel leaves.
-/

@[expose] public section

set_option maxRecDepth 65536

namespace Cert.LgIdeal.Body

open Idealize.ShloMosaic Cert.LgIdeal Cert.LgIdeal.Gen

set_option maxHeartbeats 4000000 in
/-- A middle point folds the block it found in the scratch into the running maxima. -/
theorem max_B (c : Dev nD) (i : grid0.Coords) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg6 : Memref sig .tc .vmem S1x1536x512 .f32) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (hc0 : ¬cond0_0 i) (hc1 : ¬cond0_1 i)
    (x0 : Vec Ideal S1x1536x5120 .fp8e4m3) (x1 : Vec Ideal S1x512x5120 .fp8e4m3) (x2 : Vec Ideal S1x1536x128 .f32) (x3 : Vec Ideal S1x1x512 .f32) (xs0 : Vec Ideal S1536x512 .f32) (xs1 : Vec Ideal S1536x128 .f32) (xs2 : Vec Ideal S1536x128 .f32) (y : S1536x128.Idx) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 y = (stepM xs0 xs1) y := by
  have hcov := scover0_B_1 c i arg2 harg2 arg3 harg3 arg4 harg4 arg5 harg5 arg6 harg6 arg7 harg7 arg8 harg8 arg9 harg9 arg10 harg10 arg11 harg11 hc0 hc1 x0 x1 x2 x3 xs0 xs1 xs2
  unfold sout0_B_1
  rw [View.read_writes_eq_canon _ _ _ hcov]
  refine canon_of_all (stepM xs0 xs1) _ hcov ?_ y
  clear hcov
  unfold kernelRun0_B
  dsimp only
  sl_unfold_words
  simp only [View.readAt_eq_ld, harg2.read_unread, harg3.read_unread, harg4.read_unread, harg5.read_unread, harg9.read_unread, harg10.read_unread, harg11.read_unread]
  repeat first | exact trivial | refine ⟨fun x => chunkM xs0 xs1 _ _ _ _ _ _ _ x, ?_⟩

end Cert.LgIdeal.Body
-- ==== Proof.LgSumA.lean ====
module

public import proofs.«01_k».proof.Proof.Gen.LgIdeal.Frame
public import proofs.«01_k».proof.Proof.LgStep

/-!
The running sums the first point of a sweep leaves: those of the fill.
-/

@[expose] public section

set_option maxRecDepth 65536

namespace Cert.LgIdeal.Body

open Idealize.ShloMosaic Cert.LgIdeal Cert.LgIdeal.Gen

set_option maxHeartbeats 4000000 in
/-- The first point resets the scratch, then folds the reset block into the reset sums. -/
theorem sum_A (c : Dev nD) (i : grid0.Coords) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg6 : Memref sig .tc .vmem S1x1536x512 .f32) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (hc0 : cond0_0 i) (hc1 : ¬cond0_1 i)
    (x0 : Vec Ideal S1x1536x5120 .fp8e4m3) (x1 : Vec Ideal S1x512x5120 .fp8e4m3) (x2 : Vec Ideal S1x1536x128 .f32) (x3 : Vec Ideal S1x1x512 .f32) (y : S1536x128.Idx) :
    sout0_A_2 c i arg2 harg2 arg3 harg3 arg4 harg4 arg5 harg5 arg6 harg6 arg7 harg7 arg8 harg8 arg9 harg9 arg10 harg10 arg11 harg11 hc0 hc1 x0 x1 x2 x3 y = (stepL (k0_pay351 (F := Ideal)) (k0_pay352 (F := Ideal)) (k0_pay353 (F := Ideal))) y := by
  have hcov := scover0_A_2 c i arg2 harg2 arg3 harg3 arg4 harg4 arg5 harg5 arg6 harg6 arg7 harg7 arg8 harg8 arg9 harg9 arg10 harg10 arg11 harg11 hc0 hc1 x0 x1 x2 x3
  unfold sout0_A_2
  rw [View.read_writes_eq_canon _ _ _ hcov]
  refine canon_of_first (stepL (k0_pay351 (F := Ideal)) (k0_pay352 (F := Ideal)) (k0_pay353 (F := Ideal))) 96 _ (fun y => View.cover_of_tiledL ((kernelRun0_A (F := Ideal) c i arg2 harg2 arg3 harg3 arg4 harg4 arg5 harg5 arg6 harg6 arg7 harg7 arg8 harg8 arg9 harg9 arg10 harg10 arg11 harg11 hc0 hc1 x0 x1 x2 x3).2.2.2.2.2.1.take 96) S16x128.size (by sl_kernel_rfl) y) ?_ y
  clear hcov
  unfold kernelRun0_A
  dsimp only
  sl_unfold_words
  simp only [View.readAt_eq_ld, harg2.read_unread, harg3.read_unread, harg4.read_unread, harg5.read_unread]
  simp (disch := decide) only [↓View.readCov_skip, View.readCov_fill]
  repeat first | exact trivial | refine ⟨fun x => chunkL (k0_pay351 (F := Ideal)) (k0_pay352 (F := Ideal)) (k0_pay353 (F := Ideal)) _ _ _ _ _ _ _ x _ rfl, ?_⟩

end Cert.LgIdeal.Body
-- ==== Proof.LgSumB.lean ====
module

public import proofs.«01_k».proof.Proof.Gen.LgIdeal.Frame
public import proofs.«01_k».proof.Proof.LgStep

/-!
The running sums a middle point of the kernel leaves.
-/

@[expose] public section

set_option maxRecDepth 65536

namespace Cert.LgIdeal.Body

open Idealize.ShloMosaic Cert.LgIdeal Cert.LgIdeal.Gen

set_option maxHeartbeats 4000000 in
/-- A middle point folds the block it found in the scratch into the running sums. -/
theorem sum_B (c : Dev nD) (i : grid0.Coords) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg6 : Memref sig .tc .vmem S1x1536x512 .f32) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (hc0 : ¬cond0_0 i) (hc1 : ¬cond0_1 i)
    (x0 : Vec Ideal S1x1536x5120 .fp8e4m3) (x1 : Vec Ideal S1x512x5120 .fp8e4m3) (x2 : Vec Ideal S1x1536x128 .f32) (x3 : Vec Ideal S1x1x512 .f32) (xs0 : Vec Ideal S1536x512 .f32) (xs1 : Vec Ideal S1536x128 .f32) (xs2 : Vec Ideal S1536x128 .f32) (y : S1536x128.Idx) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 y = (stepL xs0 xs1 xs2) y := by
  have hcov := scover0_B_2 c i arg2 harg2 arg3 harg3 arg4 harg4 arg5 harg5 arg6 harg6 arg7 harg7 arg8 harg8 arg9 harg9 arg10 harg10 arg11 harg11 hc0 hc1 x0 x1 x2 x3 xs0 xs1 xs2
  unfold sout0_B_2
  rw [View.read_writes_eq_canon _ _ _ hcov]
  refine canon_of_all (stepL xs0 xs1 xs2) _ hcov ?_ y
  clear hcov
  unfold kernelRun0_B
  dsimp only
  sl_unfold_words
  simp only [View.readAt_eq_ld, harg2.read_unread, harg3.read_unread, harg4.read_unread, harg5.read_unread, harg9.read_unread, harg10.read_unread, harg11.read_unread]
  repeat first | exact trivial | refine ⟨fun x => chunkL xs0 xs1 xs2 _ _ _ _ _ _ _ x _ rfl, ?_⟩

end Cert.LgIdeal.Body
-- ==== Proof.OnlineLse.lean ====
module

public import Idealize.ShloMosaic.PureOps.Ideal
public import Idealize.ShloMosaic.Lib.Pointwise

@[expose] public section

/-! The online log-sum-exp over the extended reals. A lane sees a sequence of values `y`; it carries the maximum of those seen and
the sum of their exponentials relative to that maximum. Nothing is asked of the values: at the infinities too, `exp (x - m)` times
`exp (m - M)` is `exp (x - M)` when `x ≤ m ≤ M`. -/

namespace Cert.OnlineLse

open Idealize.ShloMosaic
open scoped BigOperators

theorem exp_nonneg (x : EReal) : 0 ≤ Ideal.exp x := by
  induction x with
  | bot => exact le_refl _
  | coe r => rw [Ideal.exp_coe]; exact_mod_cast (Real.exp_pos r).le
  | top => exact le_top

/-- Moving the reference point of an exponential up. -/
theorem exp_shift {x m M : EReal} (h1 : x ≤ m) (h2 : m ≤ M) : Ideal.exp (x - m) * Ideal.exp (m - M) = Ideal.exp (x - M) := by
  induction M with
  | bot =>
    obtain rfl := le_bot_iff.mp h2
    obtain rfl := le_bot_iff.mp h1
    have e : (⊥ : EReal) - ⊥ = ⊥ := rfl
    rw [e]
    show (0 : EReal) * 0 = 0
    exact zero_mul _
  | top =>
    have e : ∀ z : EReal, z - ⊤ = ⊥ := fun z => by induction z <;> rfl
    rw [e, e]
    show _ * (0 : EReal) = 0
    exact mul_zero _
  | coe M =>
    induction m with
    | top => exact absurd h2 (by simp)
    | bot =>
      obtain rfl := le_bot_iff.mp h1
      have e : ∀ r : ℝ, (⊥ : EReal) - (r : EReal) = ⊥ := fun r => rfl
      rw [e]
      show _ * (0 : EReal) = 0
      exact mul_zero _
    | coe m =>
      induction x with
      | top => exact absurd h1 (by simp)
      | bot =>
        have e : ∀ r : ℝ, (⊥ : EReal) - (r : EReal) = ⊥ := fun r => rfl
        rw [e, e]
        show (0 : EReal) * _ = 0
        exact zero_mul _
      | coe x =>
        rw [← EReal.coe_sub, ← EReal.coe_sub, ← EReal.coe_sub, Ideal.exp_coe, Ideal.exp_coe, Ideal.exp_coe, ← EReal.coe_mul,
          ← Real.exp_add]
        congr 2
        ring

/-- The maximum of the first `n` values of a lane (`⊥` for none). -/
noncomputable def top (y : ℕ → EReal) (n : ℕ) : EReal := (Finset.range n).sup y

/-- The sum of the exponentials of the first `n` values, relative to their maximum. -/
noncomputable def tot (y : ℕ → EReal) (n : ℕ) : EReal := ∑ i ∈ Finset.range n, Ideal.exp (y i - top y n)

theorem top_succ (y : ℕ → EReal) (n : ℕ) : top y (n + 1) = max (top y n) (y n) := by
  unfold top
  rw [Finset.range_add_one, Finset.sup_insert, sup_comm]

theorem le_top' (y : ℕ → EReal) {n i : ℕ} (h : i < n) : y i ≤ top y n := Finset.le_sup (f := y) (Finset.mem_range.mpr h)

theorem top_mono (y : ℕ → EReal) {n k : ℕ} (h : n ≤ k) : top y n ≤ top y k :=
  Finset.sup_mono (Finset.range_mono h)

/-- Rescaling a sum of exponentials to a larger reference point. -/
theorem tot_mul (y : ℕ → EReal) (n : ℕ) {M : EReal} (h : top y n ≤ M) :
    tot y n * Ideal.exp (top y n - M) = ∑ i ∈ Finset.range n, Ideal.exp (y i - M) := by
  unfold tot
  have hmul : ∀ (s : Finset ℕ) (c : EReal), (∑ i ∈ s, Ideal.exp (y i - top y n)) * c = ∑ i ∈ s, Ideal.exp (y i - top y n) * c := by
    intro s c
    induction s using Finset.induction_on with
    | empty => simp
    | insert a s ha ih =>
      rw [Finset.sum_insert ha, Finset.sum_insert ha,
        EReal.right_distrib_of_nonneg (exp_nonneg _) (Finset.sum_nonneg fun i _ => exp_nonneg _), ih]
  rw [hmul]
  exact Finset.sum_congr rfl fun i hi => exp_shift (le_top' y (Finset.mem_range.mp hi)) h

/-- One step of a lane takes in four values: the maximum … -/
theorem top_step (y : ℕ → EReal) (n : ℕ) :
    max (max (max (max (top y n) (y n)) (y (n + 1))) (y (n + 2))) (y (n + 3)) = top y (n + 4) := by
  rw [← top_succ, ← top_succ, ← top_succ, ← top_succ]

/-- … and the sum. -/
theorem tot_step (y : ℕ → EReal) (n : ℕ) :
    tot y n * Ideal.exp (top y n - top y (n + 4)) + Ideal.exp (y n - top y (n + 4)) + Ideal.exp (y (n + 1) - top y (n + 4))
      + Ideal.exp (y (n + 2) - top y (n + 4)) + Ideal.exp (y (n + 3) - top y (n + 4)) = tot y (n + 4) := by
  rw [tot_mul y n (top_mono y (by omega))]
  show _ = ∑ i ∈ Finset.range (n + 3 + 1), Ideal.exp (y i - top y (n + 4))
  rw [Finset.sum_range_succ, Finset.sum_range_succ, Finset.sum_range_succ, Finset.sum_range_succ]

theorem top_zero (y : ℕ → EReal) : top y 0 = ⊥ := rfl
theorem tot_zero (y : ℕ → EReal) : tot y 0 = 0 := rfl

/-- The `i`-th value of lane `l` of a row of 12288 = 96 × 128. -/
noncomputable def lane (x : Fin 12288 → EReal) (l : Fin 128) (i : ℕ) : EReal := if h : i < 96 then x ⟨i * 128 + l.val, by omega⟩ else ⊥

/-- The maximum over the lanes of the lanes' maxima is the row's. -/
theorem max_lanes (x : Fin 12288 → EReal) :
    (Finset.univ.fold max ⊥ fun l : Fin 128 => top (lane x l) 96) = Finset.univ.fold max ⊥ x := by
  show Finset.univ.sup (fun l : Fin 128 => top (lane x l) 96) = Finset.univ.sup x
  apply le_antisymm
  · refine Finset.sup_le fun l _ => Finset.sup_le fun i hi => ?_
    unfold lane
    rw [dif_pos (Finset.mem_range.mp hi)]
    exact Finset.le_sup (Finset.mem_univ _)
  · refine Finset.sup_le fun k _ => ?_
    refine le_trans ?_ (Finset.le_sup (f := fun l : Fin 128 => top (lane x l) 96) (Finset.mem_univ (⟨k.val % 128, by omega⟩ : Fin 128)))
    refine le_trans (le_of_eq ?_) (le_top' (lane x ⟨k.val % 128, by omega⟩) (show k.val / 128 < 96 by omega))
    unfold lane
    rw [dif_pos (show k.val / 128 < 96 by omega)]
    exact congrArg x (Fin.ext (by show k.val = k.val / 128 * 128 + k.val % 128; omega))

theorem le_fold {n : ℕ} (f : Fin n → EReal) (l : Fin n) : f l ≤ Finset.univ.fold max ⊥ f := by
  show f l ≤ Finset.univ.sup f
  exact Finset.le_sup (Finset.mem_univ _)

/-- The sum over the lanes of their sums, rescaled to the row's maximum, is the row's sum of exponentials. -/
theorem sum_lanes (x : Fin 12288 → EReal) :
    (∑ l : Fin 128, tot (lane x l) 96 * Ideal.exp (top (lane x l) 96 - Finset.univ.fold max ⊥ x))
      = ∑ k : Fin 12288, Ideal.exp (x k - Finset.univ.fold max ⊥ x) := by
  rw [Fin.sum_univ_tiles 96 128 (N := 12288) (by decide), Finset.sum_comm]
  refine Finset.sum_congr rfl fun l _ => ?_
  rw [tot_mul _ _ (by rw [← max_lanes]; exact le_fold (fun l : Fin 128 => top (lane x l) 96) l), Finset.sum_range]
  refine Finset.sum_congr rfl fun i _ => ?_
  unfold lane
  rw [dif_pos i.isLt]

end Cert.OnlineLse
-- ==== Proof.LgEndBody.lean ====
module

public import proofs.«01_k».proof.Proof.LgStep
public import proofs.«01_k».proof.Proof.OnlineLse

/-!
The running statistics as functions of the row's logits, and the two statistics a sweep ends with.
-/

@[expose] public section

set_option maxRecDepth 16384

namespace Cert.LgIdeal.Body

open Idealize.ShloMosaic Cert.LgIdeal Cert.LgIdeal.Gen Cert.OnlineLse
open scoped BigOperators

theorem negInf : Ideal.ofBits .f32 0xFF800000#32 = ⊥ := by
  simp [Ideal.ofBits, Ideal.ieee]

theorem pay348_apply (M : Vec Ideal S1536x128 .f32) (r : Fin 1536) :
    k0_pay348 M (ix2 r 0) = Finset.univ.fold max ⊥ (fun k : Fin 128 => M (ix2 r k)) := by
  pointwise [k0_pay348, negInf]

/-- The maximum the last point stores: the maximum over the lanes of the running maxima. -/
theorem end_max (M : Vec Ideal S1536x128 .f32) (r : Fin 1536) (l : Fin 128) :
    k0_pay1 (k0_pay350 M) (ix3 0 r l) = Finset.univ.fold max ⊥ (fun k : Fin 128 => M (ix2 r k)) := by
  pointwise [k0_pay1, k0_pay350, pay348_apply]

/-- The logarithm the last point stores: of the lanes' running sums, each rescaled to the row's maximum. -/
theorem end_lse (M L : Vec Ideal S1536x128 .f32) (r : Fin 1536) (l : Fin 128) :
    k0_pay2 (k0_pay349 M L) (ix3 0 r l)
      = Ideal.log (∑ k : Fin 128, L (ix2 r k) * Ideal.exp (M (ix2 r k) - Finset.univ.fold max ⊥ (fun k : Fin 128 => M (ix2 r k)))) := by
  pointwise [k0_pay2, k0_pay349, pay348_apply]

/-- The scratch holds the four slabs `j` of the rows `X`: the prototypes `512 j … 512 j + 511`. -/
def Holds (X : Fin 1536 → Fin 12288 → EReal) (j : ℕ) (s : Vec Ideal S1536x512 .f32) : Prop :=
  ∀ (i : Fin 4) (r : Fin 1536) (l : Fin 128), slabAt s i r l = lane (X r) l (4 * j + i.val)

/-- The running maxima after `j` blocks. -/
noncomputable def topAt (X : Fin 1536 → Fin 12288 → EReal) (j : ℕ) : Vec Ideal S1536x128 .f32 := fun y => top (lane (X (y 0)) (y 1)) (4 * j)

/-- The running sums after `j` blocks. -/
noncomputable def totAt (X : Fin 1536 → Fin 12288 → EReal) (j : ℕ) : Vec Ideal S1536x128 .f32 := fun y => tot (lane (X (y 0)) (y 1)) (4 * j)

theorem maxAt_top (X : Fin 1536 → Fin 12288 → EReal) (j : ℕ) (s : Vec Ideal S1536x512 .f32) (h : Holds X j s) (r : Fin 1536) (l : Fin 128) :
    maxAt s (topAt X j) r l = top (lane (X r) l) (4 * j + 4) := by
  unfold maxAt
  rw [h 0 r l, h 1 r l, h 2 r l, h 3 r l]
  exact top_step (lane (X r) l) (4 * j)

/-- Folding block `j` into the maxima of the blocks before it. -/
theorem stepM_top (X : Fin 1536 → Fin 12288 → EReal) (j : ℕ) (s : Vec Ideal S1536x512 .f32) (h : Holds X j s) :
    stepM s (topAt X j) = topAt X (j + 1) := by
  funext y
  exact (maxAt_top X j s h (y 0) (y 1)).trans rfl

/-- Folding block `j` into the sums of the blocks before it. -/
theorem stepL_tot (X : Fin 1536 → Fin 12288 → EReal) (j : ℕ) (s : Vec Ideal S1536x512 .f32) (h : Holds X j s) :
    stepL s (topAt X j) (totAt X j) = totAt X (j + 1) := by
  funext y
  obtain ⟨r, l, rfl⟩ := ix2_surj y
  show _ * Ideal.exp (_ - maxAt s (topAt X j) r l) + Ideal.exp (slabAt s 0 r l - maxAt s (topAt X j) r l) + Ideal.exp (slabAt s 1 r l - maxAt s (topAt X j) r l)
    + Ideal.exp (slabAt s 2 r l - maxAt s (topAt X j) r l) + Ideal.exp (slabAt s 3 r l - maxAt s (topAt X j) r l) = _
  rw [maxAt_top X j s h r l, h 0 r l, h 1 r l, h 2 r l, h 3 r l]
  exact tot_step (lane (X r) l) (4 * j)

theorem named_neg : (Named.named κ "neg" 0xF149F2CA#32 : Ideal .f32) = (⊥ : EReal) := rfl

theorem pay351_apply (r : Fin 1536) (k : Fin 512) : k0_pay351 (F := Ideal) (ix2 r k) = ⊥ := by
  pointwise [k0_pay351, named_neg]

theorem pay352_apply (r : Fin 1536) (k : Fin 128) : k0_pay352 (F := Ideal) (ix2 r k) = ⊥ := by
  pointwise [k0_pay352, named_neg]

theorem pay353_apply (r : Fin 1536) (k : Fin 128) : k0_pay353 (F := Ideal) (ix2 r k) = 0 := by
  pointwise [k0_pay353]

theorem start_max (r : Fin 1536) (l : Fin 128) : maxAt (k0_pay351 (F := Ideal)) (k0_pay352 (F := Ideal)) r l = ⊥ := by
  unfold maxAt slabAt
  rw [pay352_apply, pay351_apply, pay351_apply, pay351_apply, pay351_apply]
  simp only [max_self]

/-- A sweep starts its maxima at −∞ and folds a block of −∞ into them: the maxima of no block. -/
theorem startM (X : Fin 1536 → Fin 12288 → EReal) : stepM (k0_pay351 (F := Ideal)) (k0_pay352 (F := Ideal)) = topAt X 0 := by
  funext y
  exact start_max (y 0) (y 1)

theorem stepL_apply (s : Vec Ideal S1536x512 .f32) (m c : Vec Ideal S1536x128 .f32) (r : Fin 1536) (l : Fin 128) :
    stepL s m c (ix2 r l) = c (ix2 r l) * Ideal.exp (m (ix2 r l) - maxAt s m r l) + Ideal.exp (slabAt s 0 r l - maxAt s m r l)
      + Ideal.exp (slabAt s 1 r l - maxAt s m r l) + Ideal.exp (slabAt s 2 r l - maxAt s m r l) + Ideal.exp (slabAt s 3 r l - maxAt s m r l) := rfl

/-- A sweep starts its sums at zero: folding a block of −∞ in, against a maximum of −∞, adds nothing. -/
theorem startL (X : Fin 1536 → Fin 12288 → EReal) :
    stepL (k0_pay351 (F := Ideal)) (k0_pay352 (F := Ideal)) (k0_pay353 (F := Ideal)) = totAt X 0 := by
  funext y
  obtain ⟨r, l, rfl⟩ := ix2_surj y
  refine Eq.trans ?_ (show (0 : EReal) = _ from rfl)
  rw [stepL_apply, start_max, pay352_apply, pay353_apply]
  unfold slabAt
  rw [pay351_apply, pay351_apply, pay351_apply, pay351_apply]
  have e : Ideal.exp ((⊥ : EReal) - ⊥) = 0 := by rw [show ((⊥ : EReal) - ⊥) = ⊥ from rfl]; rfl
  rw [e]
  simp only [mul_zero, add_zero]

end Cert.LgIdeal.Body
-- ==== Proof.LgSweep.lean ====
module

public import proofs.«01_k».proof.Proof.Gen.LgIdeal.Value
public import proofs.«01_k».proof.Proof.LgBlockA
public import proofs.«01_k».proof.Proof.LgBlockB
public import proofs.«01_k».proof.Proof.LgMaxA
public import proofs.«01_k».proof.Proof.LgMaxB
public import proofs.«01_k».proof.Proof.LgSumA
public import proofs.«01_k».proof.Proof.LgSumB
public import proofs.«01_k».proof.Proof.LgEndBody
public import Idealize.ShloMosaic.Lib.StableHlo.Run

/-!
The logits kernel's scratch arrays after each point of a sweep.

Point `24 b + j` works on batch `b` and prototype block `j`. It leaves the block's logits in the first scratch array, and in the
running arrays the statistics of the blocks BEFORE it: a block is folded in by the point after it.
-/

@[expose] public section

set_option maxRecDepth 16384

namespace Cert.LgIdeal.Body

open Idealize.ShloMosaic Idealize.ShloMosaic.TcCoe Cert.LgIdeal Cert.LgIdeal.Gen Cert.LgIdeal.Value Cert.OnlineLse
open scoped BigOperators

variable (m : (ℓ : Loc nD τ sig) → Buf (Elt Ideal) ℓ)

/-- The windows' block indices, decided over the grid: point `t` is batch `t / 24`, prototype block `t % 24`. -/
theorem index_facts : ∀ t : Fin cfg0.N,
    (win0_0.index t (0 : Fin 3) = t.val / 24 ∧ win0_0.index t (1 : Fin 3) = 0 ∧ win0_0.index t (2 : Fin 3) = 0)
    ∧ (win0_1.index t (0 : Fin 3) = t.val / 24 ∧ win0_1.index t (1 : Fin 3) = t.val % 24 ∧ win0_1.index t (2 : Fin 3) = 0)
    ∧ (win0_2.index t (0 : Fin 3) = t.val / 24 ∧ win0_2.index t (1 : Fin 3) = 0 ∧ win0_2.index t (2 : Fin 3) = 0)
    ∧ (win0_3.index t (0 : Fin 3) = t.val / 24 ∧ win0_3.index t (1 : Fin 3) = 0 ∧ win0_3.index t (2 : Fin 3) = t.val % 24) :=
  (by decide +kernel : ∀ t : Fin grid0.N, _)

/-- The row of the prototype scales that the region finds is the argument, row by row. -/
theorem V_v2 (c : Dev nD) (b : Fin 2) (k : Fin 12288) :
    (V m c main_v2 : Vec Ideal S2x1x12288 .f32) (ix3 b 0 k) = (m ((c : Thread nD τ).loc main_arg3) : Vec Ideal S2x12288 .f32) (ix2 b k) := by
  have e : (V m c main_v2 : Vec Ideal S2x1x12288 .f32)
      = broadcastInDim S2x1x12288 ![0, 2] bcast_S2x12288_S2x1x12288_0_2 (m ((c : Thread nD τ).loc main_arg3) : Vec Ideal S2x12288 .f32) := by
    unfold V; after_results
  rw [e]
  pointwise

/-- The product of two extended reals. -/
noncomputable abbrev mulE (x y : EReal) : EReal := x * y

/-- The query scales that the region finds, on every lane: the argument times twenty. -/
theorem V_v4 (c : Dev nD) (b : Fin 2) (r : Fin 1536) (l : Fin 128) :
    (V m c main_v4 : Vec Ideal S2x1536x128 .f32) (ix3 b r l)
      = mulE ((m ((c : Thread nD τ).loc main_arg1) : Vec Ideal S2x1536 .f32) (ix2 b r)) (Ideal.ofBits .f32 0x41A00000#32) := by
  have e : (V m c main_v4 : Vec Ideal S2x1536x128 .f32)
      = (mulf (F := Ideal) (broadcastInDim S2x1536x128 ![0, 1, 2] bcast_S2x1536x1_S2x1536x128_0_1_2 (broadcastInDim S2x1536x1 ![0, 1] bcast_S2x1536_S2x1536x1_0_1
          (m ((c : Thread nD τ).loc main_arg1) : Vec Ideal S2x1536 .f32)))
        (broadcastInDim S2x1536x128 ![] bcast_S_S2x1536x128 (constant S_ .f32 0x41A00000#32)) : FVec Ideal S2x1536x128 .f32) := by
    unfold V; after_results
  rw [e]
  unfold mulE
  pointwise

/-- A row's logits, in the kernel's order of the scale factors. -/
noncomputable def klogit (a0 : Vec Ideal S2x1536x5120 .fp8e4m3) (a1 : Vec Ideal S2x1536 .f32) (a2 : Vec Ideal S2x12288x5120 .fp8e4m3)
    (a3 : Vec Ideal S2x12288 .f32) (b : Fin 2) (r : Fin 1536) (k : Fin 12288) : EReal :=
  (∑ d : Fin 5120, a0 (ix3 b r d) * a2 (ix3 b k d)) * a3 (ix2 b k) * (a1 (ix2 b r) * Ideal.ofBits .f32 0x41A00000#32)

/-- The rows' logits of batch `b`, of the arrays the kernel is launched on. -/
noncomputable def rows (c : Dev nD) (b : Fin 2) : Fin 1536 → Fin 12288 → EReal :=
  klogit (m ((c : Thread nD τ).loc main_arg0)) (m ((c : Thread nD τ).loc main_arg1)) (m ((c : Thread nD τ).loc main_arg2)) (m ((c : Thread nD τ).loc main_arg3)) b

/-- Point `24 b + j` computes the logits of the prototypes `512 j … 512 j + 511`. -/
theorem blockAt_eq (c : Dev nD) (t : Fin cfg0.N) (b : Fin 2) (j : Fin 24) (ht : t.val = 24 * b.val + j.val) (r : Fin 1536) (k : Fin 512) :
    blockAt (iblk m c 0 t) (iblk m c 1 t) (iblk m c 2 t) (iblk m c 3 t) r k = rows m c b r ⟨512 * j.val + k.val, by omega⟩ := by
  obtain ⟨⟨e0, e1, e2⟩, ⟨f0, f1, f2⟩, ⟨g0, g1, g2⟩, ⟨h0, h1, h2⟩⟩ := index_facts t
  have d24 : t.val / 24 = b.val := by omega
  have dj : t.val % 24 = j.val := by omega
  unfold blockAt rows klogit
  refine congrArg₂ (· * ·) (congrArg₂ (· * ·) (Finset.sum_congr rfl fun d _ => congrArg₂ (· * ·) ?_ ?_) ?_) ?_
  · show V m c main_arg0 (((cfg0.win 0).blk t).view.emb _) = _
    rw [V_main_arg0]
    refine congrArg (m ((c : Thread nD τ).loc main_arg0)) (funext fun a => Fin.ext ?_)
    match a with
    | ⟨0, _⟩ => show win0_0.index t (0 : Fin 3) * 1 + 1 * 0 = b.val; omega
    | ⟨1, _⟩ => show win0_0.index t (1 : Fin 3) * 1536 + 1 * r.val = r.val; omega
    | ⟨2, _⟩ => show win0_0.index t (2 : Fin 3) * 5120 + 1 * d.val = d.val; omega
  · show V m c main_arg2 (((cfg0.win 1).blk t).view.emb _) = _
    rw [V_main_arg2]
    refine congrArg (m ((c : Thread nD τ).loc main_arg2)) (funext fun a => Fin.ext ?_)
    match a with
    | ⟨0, _⟩ => show win0_1.index t (0 : Fin 3) * 1 + 1 * 0 = b.val; omega
    | ⟨1, _⟩ => show win0_1.index t (1 : Fin 3) * 512 + 1 * k.val = 512 * j.val + k.val; omega
    | ⟨2, _⟩ => show win0_1.index t (2 : Fin 3) * 5120 + 1 * d.val = d.val; omega
  · refine Eq.trans ?_ (V_v2 m c b _)
    show V m c main_v2 (((cfg0.win 3).blk t).view.emb _) = _
    refine congrArg (V m c main_v2) (funext fun a => Fin.ext ?_)
    match a with
    | ⟨0, _⟩ => show win0_3.index t (0 : Fin 3) * 1 + 1 * 0 = b.val; omega
    | ⟨1, _⟩ => show win0_3.index t (1 : Fin 3) * 1 + 1 * 0 = 0; omega
    | ⟨2, _⟩ => show win0_3.index t (2 : Fin 3) * 512 + 1 * k.val = 512 * j.val + k.val; omega
  · refine Eq.trans ?_ (V_v4 m c b r ⟨k.val % 128, by omega⟩)
    show V m c main_v4 (((cfg0.win 2).blk t).view.emb _) = _
    refine congrArg (V m c main_v4) (funext fun a => Fin.ext ?_)
    match a with
    | ⟨0, _⟩ => show win0_2.index t (0 : Fin 3) * 1 + 1 * 0 = b.val; omega
    | ⟨1, _⟩ => show win0_2.index t (1 : Fin 3) * 1536 + 1 * r.val = r.val; omega
    | ⟨2, _⟩ => show win0_2.index t (2 : Fin 3) * 128 + 1 * (k.val % 128) = k.val % 128; omega

/-- … so the block it leaves holds block `j` of the rows. -/
theorem holds_block (c : Dev nD) (t : Fin cfg0.N) (b : Fin 2) (j : Fin 24) (ht : t.val = 24 * b.val + j.val) :
    Holds (rows m c b) j.val (blockS (iblk m c 0 t) (iblk m c 1 t) (iblk m c 2 t) (iblk m c 3 t)) := by
  intro i r l
  refine (blockAt_eq m c t b j ht r ⟨128 * i.val + l.val, by omega⟩).trans ?_
  unfold lane
  have h : 4 * j.val + i.val < 96 := by omega
  rw [dif_pos h]
  exact congrArg (rows m c b r) (Fin.ext (by show 512 * j.val + (128 * i.val + l.val) = (4 * j.val + i.val) * 128 + l.val; omega))

/-- The scratch arrays after every point of a sweep but the last. -/
theorem state (c : Dev nD) (b : Fin 2) : ∀ (j : ℕ) (hj : j < 23) (t : Fin cfg0.N), t.val = 24 * b.val + j →
    Holds (rows m c b) j (outsAt0 m c t.val t.isLt).2.2.2.1
      ∧ (outsAt0 m c t.val t.isLt).2.2.2.2.1 = topAt (rows m c b) j
      ∧ (outsAt0 m c t.val t.isLt).2.2.2.2.2 = totAt (rows m c b) j := by
  have hN : cfg0.N = 48 := N_0
  intro j
  induction j with
  | zero =>
    intro _ t ht
    rw [outsAt0_A m c t (by omega) (by omega)]
    dsimp only
    refine ⟨?_, ?_, ?_⟩
    · rw [show sout0_A_0 _ _ _ _ _ _ _ _ _ _ _ _ _ _ _ _ _ _ _ _ _ _ _ _ _ _ _ _ = _ from funext fun y => scr_A _ _ _ _ _ _ _ _ _ _ _ _ _ _ _ _ _ _ _ _ _ _ _ _ _ _ _ _ y]
      exact holds_block m c t b 0 ht
    · exact (funext fun y => max_A _ _ _ _ _ _ _ _ _ _ _ _ _ _ _ _ _ _ _ _ _ _ _ _ _ _ _ _ y).trans (startM _)
    · exact (funext fun y => sum_A _ _ _ _ _ _ _ _ _ _ _ _ _ _ _ _ _ _ _ _ _ _ _ _ _ _ _ _ y).trans (startL _)
  | succ j ih =>
    intro hj t ht
    have hp : t.val - 1 < cfg0.N := by omega
    obtain ⟨i0, i1, i2⟩ := ih (by omega) ⟨t.val - 1, hp⟩ (by show t.val - 1 = _; omega)
    rw [outsAt0_B m c t (by omega) (by omega)]
    dsimp only at i0 i1 i2 ⊢
    refine ⟨?_, ?_, ?_⟩
    · rw [show sout0_B_0 _ _ _ _ _ _ _ _ _ _ _ _ _ _ _ _ _ _ _ _ _ _ _ _ _ _ _ _ _ _ _ = _ from funext fun y => scr_B _ _ _ _ _ _ _ _ _ _ _ _ _ _ _ _ _ _ _ _ _ _ _ _ _ _ _ _ _ _ _ y]
      exact holds_block m c t b ⟨j + 1, by omega⟩ ht
    · refine (funext fun y => max_B _ _ _ _ _ _ _ _ _ _ _ _ _ _ _ _ _ _ _ _ _ _ _ _ _ _ _ _ _ _ _ y).trans ?_
      rw [i1]
      exact stepM_top _ _ _ i0
    · refine (funext fun y => sum_B _ _ _ _ _ _ _ _ _ _ _ _ _ _ _ _ _ _ _ _ _ _ _ _ _ _ _ _ _ _ _ y).trans ?_
      rw [i1, i2]
      exact stepL_tot _ _ _ i0

end Cert.LgIdeal.Body
-- ==== Proof.LgBlockC.lean ====
module

public import proofs.«01_k».proof.Proof.Gen.LgIdeal.Frame
public import proofs.«01_k».proof.Proof.LgStep

/-!
The block of logits the last point of a sweep writes.
-/

@[expose] public section

set_option maxRecDepth 65536

namespace Cert.LgIdeal.Body

open Idealize.ShloMosaic Cert.LgIdeal Cert.LgIdeal.Gen

set_option maxHeartbeats 4000000 in
/-- The last point writes its block of logits. -/
theorem out_C (c : Dev nD) (i : grid0.Coords) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg6 : Memref sig .tc .vmem S1x1536x512 .f32) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (hc0 : ¬cond0_0 i) (hc1 : cond0_1 i)
    (x0 : Vec Ideal S1x1536x5120 .fp8e4m3) (x1 : Vec Ideal S1x512x5120 .fp8e4m3) (x2 : Vec Ideal S1x1536x128 .f32) (x3 : Vec Ideal S1x1x512 .f32) (xs0 : Vec Ideal S1536x512 .f32) (xs1 : Vec Ideal S1536x128 .f32) (xs2 : Vec Ideal S1536x128 .f32) (y : S1x1536x512.Idx) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 y = (blockO x0 x1 x2 x3) y := by
  have hcov := cover0_C_4 c i arg2 harg2 arg3 harg3 arg4 harg4 arg5 harg5 arg6 harg6 arg7 harg7 arg8 harg8 arg9 harg9 arg10 harg10 arg11 harg11 hc0 hc1 x0 x1 x2 x3 xs0 xs1 xs2
  unfold out0_C_4
  rw [View.read_writes_eq_canon _ _ _ hcov]
  refine canon_of_all (blockO x0 x1 x2 x3) _ hcov ?_ y
  clear hcov
  unfold kernelRun0_C
  dsimp only
  sl_unfold_words
  simp only [View.readAt_eq_ld, harg2.read_unread, harg3.read_unread, harg4.read_unread, harg5.read_unread, harg9.read_unread, harg10.read_unread, harg11.read_unread]
  exact ⟨fun x => slabO x0 x1 x2 x3 _ 384 _ inb_S1x1536x512_S1x1536x128_0_0_384 (fun r l hl => half1 x0 x1 x2 x3 256 384 rfl rfl _ _ _ _ _ _ _ _ _ _ _ r l hl) x,
    fun x => slabO x0 x1 x2 x3 _ 256 _ inb_S1x1536x512_S1x1536x128_0_0_256 (fun r l hl => half0 x0 x1 x2 x3 256 256 rfl rfl _ _ _ _ _ _ _ _ _ _ _ r l hl) x,
    fun x => slabO x0 x1 x2 x3 _ 128 _ inb_S1x1536x512_S1x1536x128_0_0_128 (fun r l hl => half1 x0 x1 x2 x3 0 128 rfl rfl _ _ _ _ _ _ _ _ _ _ _ r l hl) x,
    fun x => slabO x0 x1 x2 x3 _ 0 _ inb_S1x1536x512_S1x1536x128_0_0_0 (fun r l hl => half0 x0 x1 x2 x3 0 0 rfl rfl _ _ _ _ _ _ _ _ _ _ _ r l hl) x, trivial⟩

end Cert.LgIdeal.Body
-- ==== Proof.LgFirstC.lean ====
module

public import proofs.«01_k».proof.Proof.Gen.LgIdeal.Frame
public import proofs.«01_k».proof.Proof.LgStep

/-!
The last point's block of logits, and its first pass over the running arrays: the block it found, folded in.
-/

@[expose] public section

set_option maxRecDepth 65536

namespace Cert.LgIdeal.Body

open Idealize.ShloMosaic Cert.LgIdeal Cert.LgIdeal.Gen

set_option maxHeartbeats 4000000 in
/-- The block the last point leaves in the scratch. -/
theorem block_C (c : Dev nD) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (x0 : Vec Ideal S1x1536x5120 .fp8e4m3) (x1 : Vec Ideal S1x512x5120 .fp8e4m3) (x2 : Vec Ideal S1x1536x128 .f32) (x3 : Vec Ideal S1x1x512 .f32) (y : S1536x512.Idx) :
    View.canon (kernelRun0_C.sl.HS0_4 (F := Ideal) c arg2 harg2 arg3 harg3 arg4 harg4 arg5 harg5 x0 x1 x2 x3) y = blockS x0 x1 x2 x3 y := by
  refine canon_of_all (blockS x0 x1 x2 x3) _ (fun y => View.cover_of_tiledL (kernelRun0_C.sl.HS0_4 (F := Ideal) c arg2 harg2 arg3 harg3 arg4 harg4 arg5 harg5 x0 x1 x2 x3) S1536x128.size (by sl_kernel_rfl) y) ?_ y
  sl_unfold_words
  simp only [View.readAt_eq_ld, harg2.read_unread, harg3.read_unread, harg4.read_unread, harg5.read_unread]
  exact ⟨fun x => slabS x0 x1 x2 x3 _ 384 _ inb_S1536x512_S1536x128_0_384 (fun r l hl => half1 x0 x1 x2 x3 256 384 rfl rfl _ _ _ _ _ _ _ _ _ _ _ r l hl) x,
    fun x => slabS x0 x1 x2 x3 _ 256 _ inb_S1536x512_S1536x128_0_256 (fun r l hl => half0 x0 x1 x2 x3 256 256 rfl rfl _ _ _ _ _ _ _ _ _ _ _ r l hl) x,
    fun x => slabS x0 x1 x2 x3 _ 128 _ inb_S1536x512_S1536x128_0_128 (fun r l hl => half1 x0 x1 x2 x3 0 128 rfl rfl _ _ _ _ _ _ _ _ _ _ _ r l hl) x,
    fun x => slabS x0 x1 x2 x3 _ 0 _ inb_S1536x512_S1536x128_0_0 (fun r l hl => half0 x0 x1 x2 x3 0 0 rfl rfl _ _ _ _ _ _ _ _ _ _ _ r l hl) x, trivial⟩

set_option maxHeartbeats 4000000 in
/-- The last point first folds the block it found into the maxima … -/
theorem first_M (c : Dev nD) (arg9 : Memref sig .tc .vmem S1536x512 .f32) (harg9 : arg9.IsWhole) (arg10 : Memref sig .tc .vmem S1536x128 .f32) (harg10 : arg10.IsWhole) (xs0 : Vec Ideal S1536x512 .f32) (xs1 : Vec Ideal S1536x128 .f32) (y : S1536x128.Idx) :
    View.canon (kernelRun0_C.sl.HS1_96 (F := Ideal) c arg9 harg9 arg10 harg10 xs0 xs1) y = (stepM xs0 xs1) y := by
  refine canon_of_all ((stepM xs0 xs1)) _ (fun y => View.cover_of_tiledL (kernelRun0_C.sl.HS1_96 (F := Ideal) c arg9 harg9 arg10 harg10 xs0 xs1) S16x128.size (by sl_kernel_rfl) y) ?_ y
  sl_unfold_words
  simp only [View.readAt_eq_ld, harg9.read_unread, harg10.read_unread]
  repeat first | exact trivial | refine ⟨fun x => chunkM xs0 xs1 _ _ _ _ _ _ _ x, ?_⟩

end Cert.LgIdeal.Body
-- ==== Proof.LgLast.lean ====
module

public import proofs.«01_k».proof.Proof.LgStep

/-!
The last point of a sweep updates the running arrays twice: with the block it finds, then with its own. The second pass reads what
the first stored, chunk by chunk, while it overwrites it. These lemmas follow it: after each chunk, the rows below the chunk's end
hold the new values and the rows above it the old ones.
-/

@[expose] public section

set_option maxRecDepth 16384

namespace Cert.LgIdeal.Body

open Idealize.ShloMosaic Cert.LgIdeal Cert.LgIdeal.Gen

/-- Rows before `o` hold `g`, the others `m`. -/
def Inv (m g : Vec Ideal S1536x128 .f32) (o : ℕ) (L : List (View.Piece (Elt Ideal) S1536x128 .f32)) : Prop :=
  ∀ (r : Fin 1536) (l : Fin 128), View.canon L (ix2 r l) = if r.val < o then g (ix2 r l) else m (ix2 r l)

/-- Before the pass. -/
theorem inv_start (m g : Vec Ideal S1536x128 .f32) (L : List (View.Piece (Elt Ideal) S1536x128 .f32)) (h : ∀ y, View.canon L y = m y) :
    Inv m g 0 L := by
  intro r l
  rw [h, if_neg (by omega)]

/-- After it. -/
theorem inv_end (m g : Vec Ideal S1536x128 .f32) (L : List (View.Piece (Elt Ideal) S1536x128 .f32)) (h : Inv m g 1536 L) (y : S1536x128.Idx) :
    View.canon L y = g y := by
  obtain ⟨r, l, rfl⟩ := ix2_surj y
  rw [h r l, if_pos r.isLt]

/-- One chunk. -/
theorem inv_cons (m g : Vec Ideal S1536x128 .f32) (o : ℕ) (L : List (View.Piece (Elt Ideal) S1536x128 .f32)) (hI : Inv m g o L)
    (h : ∀ a, (![o, 0] : Fin 2 → ℕ) a + S16x128.size a ≤ S1536x128.size a) (w : S16x128.Idx → EReal)
    (hw : ∀ x, w x = g ((Rect.unit (s := S1536x128) ![o, 0] S16x128.size h).emb x)) :
    Inv m g (o + 16) (⟨Rect.unit (s := S1536x128) ![o, 0] S16x128.size h, w⟩ :: L) := by
  intro r l
  by_cases h1 : o ≤ r.val ∧ r.val < o + 16
  · have e : (ix2 r l : S1536x128.Idx) = (Rect.unit (s := S1536x128) ![o, 0] S16x128.size h).emb (ix2 ⟨r.val - o, by omega⟩ l : S16x128.Idx) := by
      funext a
      match a with
      | ⟨0, _⟩ => exact Fin.ext (by show r.val = o + 1 * (r.val - o); omega)
      | ⟨1, _⟩ => exact Fin.ext (by show l.val = 0 + 1 * l.val; omega)
    rw [if_pos h1.2]
    refine (congrArg _ e).trans ((View.canon_cons_emb ..).trans ((hw _).trans (congrArg g e.symm)))
  · refine (View.canon_cons_of_not_mem _ _ ?_).trans ?_
    · rw [Rect.mem_set_unit]
      intro hm
      have h0 : o ≤ r.val ∧ r.val < o + 16 := hm (0 : Fin 2)
      exact h1 h0
    · rw [hI r l]
      by_cases h2 : r.val < o
      · rw [if_pos h2, if_pos (by omega)]
      · rw [if_neg h2, if_neg (by omega)]

/-- The chunk about to be overwritten still reads the old values. -/
theorem inv_read {sp} (v : View sig .tc sp S1536x128 .f32) (m g : Vec Ideal S1536x128 .f32) (o : ℕ) (L : List (View.Piece (Elt Ideal) S1536x128 .f32))
    (hI : Inv m g o L) (h : ∀ a, (![o, 0] : Fin 2 → ℕ) a + S16x128.size a ≤ S1536x128.size a) :
    v.readCov L (Rect.unit (s := S1536x128) ![o, 0] S16x128.size h).toLoadRect = View.ld m (Rect.unit (s := S1536x128) ![o, 0] S16x128.size h) := by
  rw [View.readCov_eq_canon']
  funext y
  obtain ⟨r, l, rfl⟩ := ix2_surj y
  have ho := row_lt o h r
  have e := emb_chunk o h r l ho
  refine (congrArg (View.canon L) e).trans ((hI _ _).trans ?_)
  rw [if_neg (by show ¬ o + r.val < o; omega)]
  exact (congrArg m e).symm

/-- A chunk's slab of the logits block reads the block. -/
theorem read_of_canon {sp} (v : View sig .tc sp S1536x512 .f32) (s : Vec Ideal S1536x512 .f32) (S : List (View.Piece (Elt Ideal) S1536x512 .f32))
    (hS : ∀ y, View.canon S y = s y) (B : Rect S1536x512) : v.readCov S B.toLoadRect = View.ld s B := by
  rw [View.readCov_eq_canon']
  exact funext fun y => hS _

/-- One chunk of the second pass over the maxima. -/
theorem inv_M {sp0 sp1} (v0 : View sig .tc sp0 S1536x512 .f32) (v1 : View sig .tc sp1 S1536x128 .f32)
    (s : Vec Ideal S1536x512 .f32) (m : Vec Ideal S1536x128 .f32) (S : List (View.Piece (Elt Ideal) S1536x512 .f32)) (hS : ∀ y, View.canon S y = s y)
    (o : ℕ) (L : List (View.Piece (Elt Ideal) S1536x128 .f32)) (hI : Inv m (stepM s m) o L)
    (h : ∀ a, (![o, 0] : Fin 2 → ℕ) a + S16x128.size a ≤ S1536x128.size a)
    (h0 : ∀ a, (![o, 0] : Fin 2 → ℕ) a + S16x128.size a ≤ S1536x512.size a) (h1 : ∀ a, (![o, 128] : Fin 2 → ℕ) a + S16x128.size a ≤ S1536x512.size a)
    (h2 : ∀ a, (![o, 256] : Fin 2 → ℕ) a + S16x128.size a ≤ S1536x512.size a) (h3 : ∀ a, (![o, 384] : Fin 2 → ℕ) a + S16x128.size a ≤ S1536x512.size a)
    (hc : S16x128.ShapeCasts S16x128) :
    Inv m (stepM s m) (o + 16) (⟨Rect.unit (s := S1536x128) ![o, 0] S16x128.size h,
      (shapeCast S16x128 (maximumf (maximumf (maximumf (maximumf (v1.readCov L (Rect.unit (s := S1536x128) ![o, 0] S16x128.size h).toLoadRect)
        (v0.readCov S (Rect.unit (s := S1536x512) ![o, 0] S16x128.size h0).toLoadRect)) (v0.readCov S (Rect.unit (s := S1536x512) ![o, 128] S16x128.size h1).toLoadRect))
        (v0.readCov S (Rect.unit (s := S1536x512) ![o, 256] S16x128.size h2).toLoadRect)) (v0.readCov S (Rect.unit (s := S1536x512) ![o, 384] S16x128.size h3).toLoadRect)) hc : FVec Ideal S16x128 .f32)⟩ :: L) := by
  refine inv_cons _ _ _ _ hI h _ ?_
  intro x
  rw [inv_read v1 _ _ o L hI h, read_of_canon v0 s S hS, read_of_canon v0 s S hS, read_of_canon v0 s S hS, read_of_canon v0 s S hS]
  exact chunkM s m o h h0 h1 h2 h3 hc x

/-- One chunk of the second pass over the sums. -/
theorem inv_L {sp0 sp1 sp2} (v0 : View sig .tc sp0 S1536x512 .f32) (v1 : View sig .tc sp1 S1536x128 .f32) (v2 : View sig .tc sp2 S1536x128 .f32)
    (s : Vec Ideal S1536x512 .f32) (m c : Vec Ideal S1536x128 .f32) (S : List (View.Piece (Elt Ideal) S1536x512 .f32)) (hS : ∀ y, View.canon S y = s y)
    (o : ℕ) (L1 L : List (View.Piece (Elt Ideal) S1536x128 .f32)) (hI1 : Inv m (stepM s m) o L1) (hI : Inv c (stepL s m c) o L)
    (h : ∀ a, (![o, 0] : Fin 2 → ℕ) a + S16x128.size a ≤ S1536x128.size a)
    (h0 : ∀ a, (![o, 0] : Fin 2 → ℕ) a + S16x128.size a ≤ S1536x512.size a) (h1 : ∀ a, (![o, 128] : Fin 2 → ℕ) a + S16x128.size a ≤ S1536x512.size a)
    (h2 : ∀ a, (![o, 256] : Fin 2 → ℕ) a + S16x128.size a ≤ S1536x512.size a) (h3 : ∀ a, (![o, 384] : Fin 2 → ℕ) a + S16x128.size a ≤ S1536x512.size a)
    (hc : S16x128.ShapeCasts S16x128) (M a b0 b1 b2 b3 : FVec Ideal S16x128 .f32)
    (ha : a = v1.readCov L1 (Rect.unit (s := S1536x128) ![o, 0] S16x128.size h).toLoadRect)
    (hb0 : b0 = v0.readCov S (Rect.unit (s := S1536x512) ![o, 0] S16x128.size h0).toLoadRect)
    (hb1 : b1 = v0.readCov S (Rect.unit (s := S1536x512) ![o, 128] S16x128.size h1).toLoadRect)
    (hb2 : b2 = v0.readCov S (Rect.unit (s := S1536x512) ![o, 256] S16x128.size h2).toLoadRect)
    (hb3 : b3 = v0.readCov S (Rect.unit (s := S1536x512) ![o, 384] S16x128.size h3).toLoadRect)
    (hM : M = maximumf (maximumf (maximumf (maximumf a b0) b1) b2) b3) :
    Inv c (stepL s m c) (o + 16) (⟨Rect.unit (s := S1536x128) ![o, 0] S16x128.size h,
      (shapeCast S16x128 (addf (addf (addf (addf (mulf (v2.readCov L (Rect.unit (s := S1536x128) ![o, 0] S16x128.size h).toLoadRect)
        (exp (subf a M))) (exp (subf b0 M))) (exp (subf b1 M))) (exp (subf b2 M))) (exp (subf b3 M))) hc : FVec Ideal S16x128 .f32)⟩ :: L) := by
  refine inv_cons _ _ _ _ hI h _ ?_
  intro x
  rw [read_of_canon v0 s S hS] at hb0 hb1 hb2 hb3
  rw [inv_read v1 _ _ o L1 hI1 h] at ha
  subst ha hb0 hb1 hb2 hb3
  rw [inv_read v2 _ _ o L hI h]
  exact chunkL s m c o h h0 h1 h2 h3 hc x M hM

end Cert.LgIdeal.Body
-- ==== Proof.LgMaxC.lean ====
module

public import proofs.«01_k».proof.Proof.LgFirstC
public import proofs.«01_k».proof.Proof.LgLast

/-!
The running maxima the last point of a sweep ends with.
-/

@[expose] public section

set_option maxRecDepth 65536

namespace Cert.LgIdeal.Body

open Idealize.ShloMosaic Cert.LgIdeal Cert.LgIdeal.Gen

set_option maxHeartbeats 4000000 in
/-- The last point folds the block it found, then its own, into the running maxima. -/
theorem max_C' (c : Dev nD) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg9 : Memref sig .tc .vmem S1536x512 .f32) (harg9 : arg9.IsWhole) (arg10 : Memref sig .tc .vmem S1536x128 .f32) (harg10 : arg10.IsWhole) (x0 : Vec Ideal S1x1536x5120 .fp8e4m3) (x1 : Vec Ideal S1x512x5120 .fp8e4m3) (x2 : Vec Ideal S1x1536x128 .f32) (x3 : Vec Ideal S1x1x512 .f32) (xs0 : Vec Ideal S1536x512 .f32) (xs1 : Vec Ideal S1536x128 .f32) (y : S1536x128.Idx) :
    View.canon (kernelRun0_C.sl.HS1_192 (F := Ideal) c arg2 harg2 arg3 harg3 arg4 harg4 arg5 harg5 arg9 harg9 arg10 harg10 x0 x1 x2 x3 xs0 xs1) y = stepM (blockS x0 x1 x2 x3) (stepM xs0 xs1) y := by
  have hS : ∀ y, View.canon (kernelRun0_C.sl.HS0_4 (F := Ideal) c arg2 harg2 arg3 harg3 arg4 harg4 arg5 harg5 x0 x1 x2 x3) y = (blockS x0 x1 x2 x3) y := fun y => block_C c arg2 harg2 arg3 harg3 arg4 harg4 arg5 harg5 x0 x1 x2 x3 y
  have h0 : Inv (stepM xs0 xs1) (stepM (blockS x0 x1 x2 x3) (stepM xs0 xs1)) 0 (kernelRun0_C.sl.HS1_96 (F := Ideal) c arg9 harg9 arg10 harg10 xs0 xs1) := inv_start _ _ _ fun y => first_M c arg9 harg9 arg10 harg10 xs0 xs1 y
  have h1 : Inv (stepM xs0 xs1) (stepM (blockS x0 x1 x2 x3) (stepM xs0 xs1)) 16 (kernelRun0_C.sl.HS1_97 (F := Ideal) c arg2 harg2 arg3 harg3 arg4 harg4 arg5 harg5 arg9 harg9 arg10 harg10 x0 x1 x2 x3 xs0 xs1) := inv_M _ _ _ _ _ hS 0 _ h0 _ _ _ _ _ _
  have h2 : Inv (stepM xs0 xs1) (stepM (blockS x0 x1 x2 x3) (stepM xs0 xs1)) 32 (kernelRun0_C.sl.HS1_98 (F := Ideal) c arg2 harg2 arg3 harg3 arg4 harg4 arg5 harg5 arg9 harg9 arg10 harg10 x0 x1 x2 x3 xs0 xs1) := inv_M _ _ _ _ _ hS 16 _ h1 _ _ _ _ _ _
  have h3 : Inv (stepM xs0 xs1) (stepM (blockS x0 x1 x2 x3) (stepM xs0 xs1)) 48 (kernelRun0_C.sl.HS1_99 (F := Ideal) c arg2 harg2 arg3 harg3 arg4 harg4 arg5 harg5 arg9 harg9 arg10 harg10 x0 x1 x2 x3 xs0 xs1) := inv_M _ _ _ _ _ hS 32 _ h2 _ _ _ _ _ _
  have h4 : Inv (stepM xs0 xs1) (stepM (blockS x0 x1 x2 x3) (stepM xs0 xs1)) 64 (kernelRun0_C.sl.HS1_100 (F := Ideal) c arg2 harg2 arg3 harg3 arg4 harg4 arg5 harg5 arg9 harg9 arg10 harg10 x0 x1 x2 x3 xs0 xs1) := inv_M _ _ _ _ _ hS 48 _ h3 _ _ _ _ _ _
  have h5 : Inv (stepM xs0 xs1) (stepM (blockS x0 x1 x2 x3) (stepM xs0 xs1)) 80 (kernelRun0_C.sl.HS1_101 (F := Ideal) c arg2 harg2 arg3 harg3 arg4 harg4 arg5 harg5 arg9 harg9 arg10 harg10 x0 x1 x2 x3 xs0 xs1) := inv_M _ _ _ _ _ hS 64 _ h4 _ _ _ _ _ _
  have h6 : Inv (stepM xs0 xs1) (stepM (blockS x0 x1 x2 x3) (stepM xs0 xs1)) 96 (kernelRun0_C.sl.HS1_102 (F := Ideal) c arg2 harg2 arg3 harg3 arg4 harg4 arg5 harg5 arg9 harg9 arg10 harg10 x0 x1 x2 x3 xs0 xs1) := inv_M _ _ _ _ _ hS 80 _ h5 _ _ _ _ _ _
  have h7 : Inv (stepM xs0 xs1) (stepM (blockS x0 x1 x2 x3) (stepM xs0 xs1)) 112 (kernelRun0_C.sl.HS1_103 (F := Ideal) c arg2 harg2 arg3 harg3 arg4 harg4 arg5 harg5 arg9 harg9 arg10 harg10 x0 x1 x2 x3 xs0 xs1) := inv_M _ _ _ _ _ hS 96 _ h6 _ _ _ _ _ _
  have h8 : Inv (stepM xs0 xs1) (stepM (blockS x0 x1 x2 x3) (stepM xs0 xs1)) 128 (kernelRun0_C.sl.HS1_104 (F := Ideal) c arg2 harg2 arg3 harg3 arg4 harg4 arg5 harg5 arg9 harg9 arg10 harg10 x0 x1 x2 x3 xs0 xs1) := inv_M _ _ _ _ _ hS 112 _ h7 _ _ _ _ _ _
  have h9 : Inv (stepM xs0 xs1) (stepM (blockS x0 x1 x2 x3) (stepM xs0 xs1)) 144 (kernelRun0_C.sl.HS1_105 (F := Ideal) c arg2 harg2 arg3 harg3 arg4 harg4 arg5 harg5 arg9 harg9 arg10 harg10 x0 x1 x2 x3 xs0 xs1) := inv_M _ _ _ _ _ hS 128 _ h8 _ _ _ _ _ _
  have h10 : Inv (stepM xs0 xs1) (stepM (blockS x0 x1 x2 x3) (stepM xs0 xs1)) 160 (kernelRun0_C.sl.HS1_106 (F := Ideal) c arg2 harg2 arg3 harg3 arg4 harg4 arg5 harg5 arg9 harg9 arg10 harg10 x0 x1 x2 x3 xs0 xs1) := inv_M _ _ _ _ _ hS 144 _ h9 _ _ _ _ _ _
  have h11 : Inv (stepM xs0 xs1) (stepM (blockS x0 x1 x2 x3) (stepM xs0 xs1)) 176 (kernelRun0_C.sl.HS1_107 (F := Ideal) c arg2 harg2 arg3 harg3 arg4 harg4 arg5 harg5 arg9 harg9 arg10 harg10 x0 x1 x2 x3 xs0 xs1) := inv_M _ _ _ _ _ hS 160 _ h10 _ _ _ _ _ _
  have h12 : Inv (stepM xs0 xs1) (stepM (blockS x0 x1 x2 x3) (stepM xs0 xs1)) 192 (kernelRun0_C.sl.HS1_108 (F := Ideal) c arg2 harg2 arg3 harg3 arg4 harg4 arg5 harg5 arg9 harg9 arg10 harg10 x0 x1 x2 x3 xs0 xs1) := inv_M _ _ _ _ _ hS 176 _ h11 _ _ _ _ _ _
  have h13 : Inv (stepM xs0 xs1) (stepM (blockS x0 x1 x2 x3) (stepM xs0 xs1)) 208 (kernelRun0_C.sl.HS1_109 (F := Ideal) c arg2 harg2 arg3 harg3 arg4 harg4 arg5 harg5 arg9 harg9 arg10 harg10 x0 x1 x2 x3 xs0 xs1) := inv_M _ _ _ _ _ hS 192 _ h12 _ _ _ _ _ _
  have h14 : Inv (stepM xs0 xs1) (stepM (blockS x0 x1 x2 x3) (stepM xs0 xs1)) 224 (kernelRun0_C.sl.HS1_110 (F := Ideal) c arg2 harg2 arg3 harg3 arg4 harg4 arg5 harg5 arg9 harg9 arg10 harg10 x0 x1 x2 x3 xs0 xs1) := inv_M _ _ _ _ _ hS 208 _ h13 _ _ _ _ _ _
  have h15 : Inv (stepM xs0 xs1) (stepM (blockS x0 x1 x2 x3) (stepM xs0 xs1)) 240 (kernelRun0_C.sl.HS1_111 (F := Ideal) c arg2 harg2 arg3 harg3 arg4 harg4 arg5 harg5 arg9 harg9 arg10 harg10 x0 x1 x2 x3 xs0 xs1) := inv_M _ _ _ _ _ hS 224 _ h14 _ _ _ _ _ _
  have h16 : Inv (stepM xs0 xs1) (stepM (blockS x0 x1 x2 x3) (stepM xs0 xs1)) 256 (kernelRun0_C.sl.HS1_112 (F := Ideal) c arg2 harg2 arg3 harg3 arg4 harg4 arg5 harg5 arg9 harg9 arg10 harg10 x0 x1 x2 x3 xs0 xs1) := inv_M _ _ _ _ _ hS 240 _ h15 _ _ _ _ _ _
  have h17 : Inv (stepM xs0 xs1) (stepM (blockS x0 x1 x2 x3) (stepM xs0 xs1)) 272 (kernelRun0_C.sl.HS1_113 (F := Ideal) c arg2 harg2 arg3 harg3 arg4 harg4 arg5 harg5 arg9 harg9 arg10 harg10 x0 x1 x2 x3 xs0 xs1) := inv_M _ _ _ _ _ hS 256 _ h16 _ _ _ _ _ _
  have h18 : Inv (stepM xs0 xs1) (stepM (blockS x0 x1 x2 x3) (stepM xs0 xs1)) 288 (kernelRun0_C.sl.HS1_114 (F := Ideal) c arg2 harg2 arg3 harg3 arg4 harg4 arg5 harg5 arg9 harg9 arg10 harg10 x0 x1 x2 x3 xs0 xs1) := inv_M _ _ _ _ _ hS 272 _ h17 _ _ _ _ _ _
  have h19 : Inv (stepM xs0 xs1) (stepM (blockS x0 x1 x2 x3) (stepM xs0 xs1)) 304 (kernelRun0_C.sl.HS1_115 (F := Ideal) c arg2 harg2 arg3 harg3 arg4 harg4 arg5 harg5 arg9 harg9 arg10 harg10 x0 x1 x2 x3 xs0 xs1) := inv_M _ _ _ _ _ hS 288 _ h18 _ _ _ _ _ _
  have h20 : Inv (stepM xs0 xs1) (stepM (blockS x0 x1 x2 x3) (stepM xs0 xs1)) 320 (kernelRun0_C.sl.HS1_116 (F := Ideal) c arg2 harg2 arg3 harg3 arg4 harg4 arg5 harg5 arg9 harg9 arg10 harg10 x0 x1 x2 x3 xs0 xs1) := inv_M _ _ _ _ _ hS 304 _ h19 _ _ _ _ _ _
  have h21 : Inv (stepM xs0 xs1) (stepM (blockS x0 x1 x2 x3) (stepM xs0 xs1)) 336 (kernelRun0_C.sl.HS1_117 (F := Ideal) c arg2 harg2 arg3 harg3 arg4 harg4 arg5 harg5 arg9 harg9 arg10 harg10 x0 x1 x2 x3 xs0 xs1) := inv_M _ _ _ _ _ hS 320 _ h20 _ _ _ _ _ _
  have h22 : Inv (stepM xs0 xs1) (stepM (blockS x0 x1 x2 x3) (stepM xs0 xs1)) 352 (kernelRun0_C.sl.HS1_118 (F := Ideal) c arg2 harg2 arg3 harg3 arg4 harg4 arg5 harg5 arg9 harg9 arg10 harg10 x0 x1 x2 x3 xs0 xs1) := inv_M _ _ _ _ _ hS 336 _ h21 _ _ _ _ _ _
  have h23 : Inv (stepM xs0 xs1) (stepM (blockS x0 x1 x2 x3) (stepM xs0 xs1)) 368 (kernelRun0_C.sl.HS1_119 (F := Ideal) c arg2 harg2 arg3 harg3 arg4 harg4 arg5 harg5 arg9 harg9 arg10 harg10 x0 x1 x2 x3 xs0 xs1) := inv_M _ _ _ _ _ hS 352 _ h22 _ _ _ _ _ _
  have h24 : Inv (stepM xs0 xs1) (stepM (blockS x0 x1 x2 x3) (stepM xs0 xs1)) 384 (kernelRun0_C.sl.HS1_120 (F := Ideal) c arg2 harg2 arg3 harg3 arg4 harg4 arg5 harg5 arg9 harg9 arg10 harg10 x0 x1 x2 x3 xs0 xs1) := inv_M _ _ _ _ _ hS 368 _ h23 _ _ _ _ _ _
  have h25 : Inv (stepM xs0 xs1) (stepM (blockS x0 x1 x2 x3) (stepM xs0 xs1)) 400 (kernelRun0_C.sl.HS1_121 (F := Ideal) c arg2 harg2 arg3 harg3 arg4 harg4 arg5 harg5 arg9 harg9 arg10 harg10 x0 x1 x2 x3 xs0 xs1) := inv_M _ _ _ _ _ hS 384 _ h24 _ _ _ _ _ _
  have h26 : Inv (stepM xs0 xs1) (stepM (blockS x0 x1 x2 x3) (stepM xs0 xs1)) 416 (kernelRun0_C.sl.HS1_122 (F := Ideal) c arg2 harg2 arg3 harg3 arg4 harg4 arg5 harg5 arg9 harg9 arg10 harg10 x0 x1 x2 x3 xs0 xs1) := inv_M _ _ _ _ _ hS 400 _ h25 _ _ _ _ _ _
  have h27 : Inv (stepM xs0 xs1) (stepM (blockS x0 x1 x2 x3) (stepM xs0 xs1)) 432 (kernelRun0_C.sl.HS1_123 (F := Ideal) c arg2 harg2 arg3 harg3 arg4 harg4 arg5 harg5 arg9 harg9 arg10 harg10 x0 x1 x2 x3 xs0 xs1) := inv_M _ _ _ _ _ hS 416 _ h26 _ _ _ _ _ _
  have h28 : Inv (stepM xs0 xs1) (stepM (blockS x0 x1 x2 x3) (stepM xs0 xs1)) 448 (kernelRun0_C.sl.HS1_124 (F := Ideal) c arg2 harg2 arg3 harg3 arg4 harg4 arg5 harg5 arg9 harg9 arg10 harg10 x0 x1 x2 x3 xs0 xs1) := inv_M _ _ _ _ _ hS 432 _ h27 _ _ _ _ _ _
  have h29 : Inv (stepM xs0 xs1) (stepM (blockS x0 x1 x2 x3) (stepM xs0 xs1)) 464 (kernelRun0_C.sl.HS1_125 (F := Ideal) c arg2 harg2 arg3 harg3 arg4 harg4 arg5 harg5 arg9 harg9 arg10 harg10 x0 x1 x2 x3 xs0 xs1) := inv_M _ _ _ _ _ hS 448 _ h28 _ _ _ _ _ _
  have h30 : Inv (stepM xs0 xs1) (stepM (blockS x0 x1 x2 x3) (stepM xs0 xs1)) 480 (kernelRun0_C.sl.HS1_126 (F := Ideal) c arg2 harg2 arg3 harg3 arg4 harg4 arg5 harg5 arg9 harg9 arg10 harg10 x0 x1 x2 x3 xs0 xs1) := inv_M _ _ _ _ _ hS 464 _ h29 _ _ _ _ _ _
  have h31 : Inv (stepM xs0 xs1) (stepM (blockS x0 x1 x2 x3) (stepM xs0 xs1)) 496 (kernelRun0_C.sl.HS1_127 (F := Ideal) c arg2 harg2 arg3 harg3 arg4 harg4 arg5 harg5 arg9 harg9 arg10 harg10 x0 x1 x2 x3 xs0 xs1) := inv_M _ _ _ _ _ hS 480 _ h30 _ _ _ _ _ _
  have h32 : Inv (stepM xs0 xs1) (stepM (blockS x0 x1 x2 x3) (stepM xs0 xs1)) 512 (kernelRun0_C.sl.HS1_128 (F := Ideal) c arg2 harg2 arg3 harg3 arg4 harg4 arg5 harg5 arg9 harg9 arg10 harg10 x0 x1 x2 x3 xs0 xs1) := inv_M _ _ _ _ _ hS 496 _ h31 _ _ _ _ _ _
  have h33 : Inv (stepM xs0 xs1) (stepM (blockS x0 x1 x2 x3) (stepM xs0 xs1)) 528 (kernelRun0_C.sl.HS1_129 (F := Ideal) c arg2 harg2 arg3 harg3 arg4 harg4 arg5 harg5 arg9 harg9 arg10 harg10 x0 x1 x2 x3 xs0 xs1) := inv_M _ _ _ _ _ hS 512 _ h32 _ _ _ _ _ _
  have h34 : Inv (stepM xs0 xs1) (stepM (blockS x0 x1 x2 x3) (stepM xs0 xs1)) 544 (kernelRun0_C.sl.HS1_130 (F := Ideal) c arg2 harg2 arg3 harg3 arg4 harg4 arg5 harg5 arg9 harg9 arg10 harg10 x0 x1 x2 x3 xs0 xs1) := inv_M _ _ _ _ _ hS 528 _ h33 _ _ _ _ _ _
  have h35 : Inv (stepM xs0 xs1) (stepM (blockS x0 x1 x2 x3) (stepM xs0 xs1)) 560 (kernelRun0_C.sl.HS1_131 (F := Ideal) c arg2 harg2 arg3 harg3 arg4 harg4 arg5 harg5 arg9 harg9 arg10 harg10 x0 x1 x2 x3 xs0 xs1) := inv_M _ _ _ _ _ hS 544 _ h34 _ _ _ _ _ _
  have h36 : Inv (stepM xs0 xs1) (stepM (blockS x0 x1 x2 x3) (stepM xs0 xs1)) 576 (kernelRun0_C.sl.HS1_132 (F := Ideal) c arg2 harg2 arg3 harg3 arg4 harg4 arg5 harg5 arg9 harg9 arg10 harg10 x0 x1 x2 x3 xs0 xs1) := inv_M _ _ _ _ _ hS 560 _ h35 _ _ _ _ _ _
  have h37 : Inv (stepM xs0 xs1) (stepM (blockS x0 x1 x2 x3) (stepM xs0 xs1)) 592 (kernelRun0_C.sl.HS1_133 (F := Ideal) c arg2 harg2 arg3 harg3 arg4 harg4 arg5 harg5 arg9 harg9 arg10 harg10 x0 x1 x2 x3 xs0 xs1) := inv_M _ _ _ _ _ hS 576 _ h36 _ _ _ _ _ _
  have h38 : Inv (stepM xs0 xs1) (stepM (blockS x0 x1 x2 x3) (stepM xs0 xs1)) 608 (kernelRun0_C.sl.HS1_134 (F := Ideal) c arg2 harg2 arg3 harg3 arg4 harg4 arg5 harg5 arg9 harg9 arg10 harg10 x0 x1 x2 x3 xs0 xs1) := inv_M _ _ _ _ _ hS 592 _ h37 _ _ _ _ _ _
  have h39 : Inv (stepM xs0 xs1) (stepM (blockS x0 x1 x2 x3) (stepM xs0 xs1)) 624 (kernelRun0_C.sl.HS1_135 (F := Ideal) c arg2 harg2 arg3 harg3 arg4 harg4 arg5 harg5 arg9 harg9 arg10 harg10 x0 x1 x2 x3 xs0 xs1) := inv_M _ _ _ _ _ hS 608 _ h38 _ _ _ _ _ _
  have h40 : Inv (stepM xs0 xs1) (stepM (blockS x0 x1 x2 x3) (stepM xs0 xs1)) 640 (kernelRun0_C.sl.HS1_136 (F := Ideal) c arg2 harg2 arg3 harg3 arg4 harg4 arg5 harg5 arg9 harg9 arg10 harg10 x0 x1 x2 x3 xs0 xs1) := inv_M _ _ _ _ _ hS 624 _ h39 _ _ _ _ _ _
  have h41 : Inv (stepM xs0 xs1) (stepM (blockS x0 x1 x2 x3) (stepM xs0 xs1)) 656 (kernelRun0_C.sl.HS1_137 (F := Ideal) c arg2 harg2 arg3 harg3 arg4 harg4 arg5 harg5 arg9 harg9 arg10 harg10 x0 x1 x2 x3 xs0 xs1) := inv_M _ _ _ _ _ hS 640 _ h40 _ _ _ _ _ _
  have h42 : Inv (stepM xs0 xs1) (stepM (blockS x0 x1 x2 x3) (stepM xs0 xs1)) 672 (kernelRun0_C.sl.HS1_138 (F := Ideal) c arg2 harg2 arg3 harg3 arg4 harg4 arg5 harg5 arg9 harg9 arg10 harg10 x0 x1 x2 x3 xs0 xs1) := inv_M _ _ _ _ _ hS 656 _ h41 _ _ _ _ _ _
  have h43 : Inv (stepM xs0 xs1) (stepM (blockS x0 x1 x2 x3) (stepM xs0 xs1)) 688 (kernelRun0_C.sl.HS1_139 (F := Ideal) c arg2 harg2 arg3 harg3 arg4 harg4 arg5 harg5 arg9 harg9 arg10 harg10 x0 x1 x2 x3 xs0 xs1) := inv_M _ _ _ _ _ hS 672 _ h42 _ _ _ _ _ _
  have h44 : Inv (stepM xs0 xs1) (stepM (blockS x0 x1 x2 x3) (stepM xs0 xs1)) 704 (kernelRun0_C.sl.HS1_140 (F := Ideal) c arg2 harg2 arg3 harg3 arg4 harg4 arg5 harg5 arg9 harg9 arg10 harg10 x0 x1 x2 x3 xs0 xs1) := inv_M _ _ _ _ _ hS 688 _ h43 _ _ _ _ _ _
  have h45 : Inv (stepM xs0 xs1) (stepM (blockS x0 x1 x2 x3) (stepM xs0 xs1)) 720 (kernelRun0_C.sl.HS1_141 (F := Ideal) c arg2 harg2 arg3 harg3 arg4 harg4 arg5 harg5 arg9 harg9 arg10 harg10 x0 x1 x2 x3 xs0 xs1) := inv_M _ _ _ _ _ hS 704 _ h44 _ _ _ _ _ _
  have h46 : Inv (stepM xs0 xs1) (stepM (blockS x0 x1 x2 x3) (stepM xs0 xs1)) 736 (kernelRun0_C.sl.HS1_142 (F := Ideal) c arg2 harg2 arg3 harg3 arg4 harg4 arg5 harg5 arg9 harg9 arg10 harg10 x0 x1 x2 x3 xs0 xs1) := inv_M _ _ _ _ _ hS 720 _ h45 _ _ _ _ _ _
  have h47 : Inv (stepM xs0 xs1) (stepM (blockS x0 x1 x2 x3) (stepM xs0 xs1)) 752 (kernelRun0_C.sl.HS1_143 (F := Ideal) c arg2 harg2 arg3 harg3 arg4 harg4 arg5 harg5 arg9 harg9 arg10 harg10 x0 x1 x2 x3 xs0 xs1) := inv_M _ _ _ _ _ hS 736 _ h46 _ _ _ _ _ _
  have h48 : Inv (stepM xs0 xs1) (stepM (blockS x0 x1 x2 x3) (stepM xs0 xs1)) 768 (kernelRun0_C.sl.HS1_144 (F := Ideal) c arg2 harg2 arg3 harg3 arg4 harg4 arg5 harg5 arg9 harg9 arg10 harg10 x0 x1 x2 x3 xs0 xs1) := inv_M _ _ _ _ _ hS 752 _ h47 _ _ _ _ _ _
  have h49 : Inv (stepM xs0 xs1) (stepM (blockS x0 x1 x2 x3) (stepM xs0 xs1)) 784 (kernelRun0_C.sl.HS1_145 (F := Ideal) c arg2 harg2 arg3 harg3 arg4 harg4 arg5 harg5 arg9 harg9 arg10 harg10 x0 x1 x2 x3 xs0 xs1) := inv_M _ _ _ _ _ hS 768 _ h48 _ _ _ _ _ _
  have h50 : Inv (stepM xs0 xs1) (stepM (blockS x0 x1 x2 x3) (stepM xs0 xs1)) 800 (kernelRun0_C.sl.HS1_146 (F := Ideal) c arg2 harg2 arg3 harg3 arg4 harg4 arg5 harg5 arg9 harg9 arg10 harg10 x0 x1 x2 x3 xs0 xs1) := inv_M _ _ _ _ _ hS 784 _ h49 _ _ _ _ _ _
  have h51 : Inv (stepM xs0 xs1) (stepM (blockS x0 x1 x2 x3) (stepM xs0 xs1)) 816 (kernelRun0_C.sl.HS1_147 (F := Ideal) c arg2 harg2 arg3 harg3 arg4 harg4 arg5 harg5 arg9 harg9 arg10 harg10 x0 x1 x2 x3 xs0 xs1) := inv_M _ _ _ _ _ hS 800 _ h50 _ _ _ _ _ _
  have h52 : Inv (stepM xs0 xs1) (stepM (blockS x0 x1 x2 x3) (stepM xs0 xs1)) 832 (kernelRun0_C.sl.HS1_148 (F := Ideal) c arg2 harg2 arg3 harg3 arg4 harg4 arg5 harg5 arg9 harg9 arg10 harg10 x0 x1 x2 x3 xs0 xs1) := inv_M _ _ _ _ _ hS 816 _ h51 _ _ _ _ _ _
  have h53 : Inv (stepM xs0 xs1) (stepM (blockS x0 x1 x2 x3) (stepM xs0 xs1)) 848 (kernelRun0_C.sl.HS1_149 (F := Ideal) c arg2 harg2 arg3 harg3 arg4 harg4 arg5 harg5 arg9 harg9 arg10 harg10 x0 x1 x2 x3 xs0 xs1) := inv_M _ _ _ _ _ hS 832 _ h52 _ _ _ _ _ _
  have h54 : Inv (stepM xs0 xs1) (stepM (blockS x0 x1 x2 x3) (stepM xs0 xs1)) 864 (kernelRun0_C.sl.HS1_150 (F := Ideal) c arg2 harg2 arg3 harg3 arg4 harg4 arg5 harg5 arg9 harg9 arg10 harg10 x0 x1 x2 x3 xs0 xs1) := inv_M _ _ _ _ _ hS 848 _ h53 _ _ _ _ _ _
  have h55 : Inv (stepM xs0 xs1) (stepM (blockS x0 x1 x2 x3) (stepM xs0 xs1)) 880 (kernelRun0_C.sl.HS1_151 (F := Ideal) c arg2 harg2 arg3 harg3 arg4 harg4 arg5 harg5 arg9 harg9 arg10 harg10 x0 x1 x2 x3 xs0 xs1) := inv_M _ _ _ _ _ hS 864 _ h54 _ _ _ _ _ _
  have h56 : Inv (stepM xs0 xs1) (stepM (blockS x0 x1 x2 x3) (stepM xs0 xs1)) 896 (kernelRun0_C.sl.HS1_152 (F := Ideal) c arg2 harg2 arg3 harg3 arg4 harg4 arg5 harg5 arg9 harg9 arg10 harg10 x0 x1 x2 x3 xs0 xs1) := inv_M _ _ _ _ _ hS 880 _ h55 _ _ _ _ _ _
  have h57 : Inv (stepM xs0 xs1) (stepM (blockS x0 x1 x2 x3) (stepM xs0 xs1)) 912 (kernelRun0_C.sl.HS1_153 (F := Ideal) c arg2 harg2 arg3 harg3 arg4 harg4 arg5 harg5 arg9 harg9 arg10 harg10 x0 x1 x2 x3 xs0 xs1) := inv_M _ _ _ _ _ hS 896 _ h56 _ _ _ _ _ _
  have h58 : Inv (stepM xs0 xs1) (stepM (blockS x0 x1 x2 x3) (stepM xs0 xs1)) 928 (kernelRun0_C.sl.HS1_154 (F := Ideal) c arg2 harg2 arg3 harg3 arg4 harg4 arg5 harg5 arg9 harg9 arg10 harg10 x0 x1 x2 x3 xs0 xs1) := inv_M _ _ _ _ _ hS 912 _ h57 _ _ _ _ _ _
  have h59 : Inv (stepM xs0 xs1) (stepM (blockS x0 x1 x2 x3) (stepM xs0 xs1)) 944 (kernelRun0_C.sl.HS1_155 (F := Ideal) c arg2 harg2 arg3 harg3 arg4 harg4 arg5 harg5 arg9 harg9 arg10 harg10 x0 x1 x2 x3 xs0 xs1) := inv_M _ _ _ _ _ hS 928 _ h58 _ _ _ _ _ _
  have h60 : Inv (stepM xs0 xs1) (stepM (blockS x0 x1 x2 x3) (stepM xs0 xs1)) 960 (kernelRun0_C.sl.HS1_156 (F := Ideal) c arg2 harg2 arg3 harg3 arg4 harg4 arg5 harg5 arg9 harg9 arg10 harg10 x0 x1 x2 x3 xs0 xs1) := inv_M _ _ _ _ _ hS 944 _ h59 _ _ _ _ _ _
  have h61 : Inv (stepM xs0 xs1) (stepM (blockS x0 x1 x2 x3) (stepM xs0 xs1)) 976 (kernelRun0_C.sl.HS1_157 (F := Ideal) c arg2 harg2 arg3 harg3 arg4 harg4 arg5 harg5 arg9 harg9 arg10 harg10 x0 x1 x2 x3 xs0 xs1) := inv_M _ _ _ _ _ hS 960 _ h60 _ _ _ _ _ _
  have h62 : Inv (stepM xs0 xs1) (stepM (blockS x0 x1 x2 x3) (stepM xs0 xs1)) 992 (kernelRun0_C.sl.HS1_158 (F := Ideal) c arg2 harg2 arg3 harg3 arg4 harg4 arg5 harg5 arg9 harg9 arg10 harg10 x0 x1 x2 x3 xs0 xs1) := inv_M _ _ _ _ _ hS 976 _ h61 _ _ _ _ _ _
  have h63 : Inv (stepM xs0 xs1) (stepM (blockS x0 x1 x2 x3) (stepM xs0 xs1)) 1008 (kernelRun0_C.sl.HS1_159 (F := Ideal) c arg2 harg2 arg3 harg3 arg4 harg4 arg5 harg5 arg9 harg9 arg10 harg10 x0 x1 x2 x3 xs0 xs1) := inv_M _ _ _ _ _ hS 992 _ h62 _ _ _ _ _ _
  have h64 : Inv (stepM xs0 xs1) (stepM (blockS x0 x1 x2 x3) (stepM xs0 xs1)) 1024 (kernelRun0_C.sl.HS1_160 (F := Ideal) c arg2 harg2 arg3 harg3 arg4 harg4 arg5 harg5 arg9 harg9 arg10 harg10 x0 x1 x2 x3 xs0 xs1) := inv_M _ _ _ _ _ hS 1008 _ h63 _ _ _ _ _ _
  have h65 : Inv (stepM xs0 xs1) (stepM (blockS x0 x1 x2 x3) (stepM xs0 xs1)) 1040 (kernelRun0_C.sl.HS1_161 (F := Ideal) c arg2 harg2 arg3 harg3 arg4 harg4 arg5 harg5 arg9 harg9 arg10 harg10 x0 x1 x2 x3 xs0 xs1) := inv_M _ _ _ _ _ hS 1024 _ h64 _ _ _ _ _ _
  have h66 : Inv (stepM xs0 xs1) (stepM (blockS x0 x1 x2 x3) (stepM xs0 xs1)) 1056 (kernelRun0_C.sl.HS1_162 (F := Ideal) c arg2 harg2 arg3 harg3 arg4 harg4 arg5 harg5 arg9 harg9 arg10 harg10 x0 x1 x2 x3 xs0 xs1) := inv_M _ _ _ _ _ hS 1040 _ h65 _ _ _ _ _ _
  have h67 : Inv (stepM xs0 xs1) (stepM (blockS x0 x1 x2 x3) (stepM xs0 xs1)) 1072 (kernelRun0_C.sl.HS1_163 (F := Ideal) c arg2 harg2 arg3 harg3 arg4 harg4 arg5 harg5 arg9 harg9 arg10 harg10 x0 x1 x2 x3 xs0 xs1) := inv_M _ _ _ _ _ hS 1056 _ h66 _ _ _ _ _ _
  have h68 : Inv (stepM xs0 xs1) (stepM (blockS x0 x1 x2 x3) (stepM xs0 xs1)) 1088 (kernelRun0_C.sl.HS1_164 (F := Ideal) c arg2 harg2 arg3 harg3 arg4 harg4 arg5 harg5 arg9 harg9 arg10 harg10 x0 x1 x2 x3 xs0 xs1) := inv_M _ _ _ _ _ hS 1072 _ h67 _ _ _ _ _ _
  have h69 : Inv (stepM xs0 xs1) (stepM (blockS x0 x1 x2 x3) (stepM xs0 xs1)) 1104 (kernelRun0_C.sl.HS1_165 (F := Ideal) c arg2 harg2 arg3 harg3 arg4 harg4 arg5 harg5 arg9 harg9 arg10 harg10 x0 x1 x2 x3 xs0 xs1) := inv_M _ _ _ _ _ hS 1088 _ h68 _ _ _ _ _ _
  have h70 : Inv (stepM xs0 xs1) (stepM (blockS x0 x1 x2 x3) (stepM xs0 xs1)) 1120 (kernelRun0_C.sl.HS1_166 (F := Ideal) c arg2 harg2 arg3 harg3 arg4 harg4 arg5 harg5 arg9 harg9 arg10 harg10 x0 x1 x2 x3 xs0 xs1) := inv_M _ _ _ _ _ hS 1104 _ h69 _ _ _ _ _ _
  have h71 : Inv (stepM xs0 xs1) (stepM (blockS x0 x1 x2 x3) (stepM xs0 xs1)) 1136 (kernelRun0_C.sl.HS1_167 (F := Ideal) c arg2 harg2 arg3 harg3 arg4 harg4 arg5 harg5 arg9 harg9 arg10 harg10 x0 x1 x2 x3 xs0 xs1) := inv_M _ _ _ _ _ hS 1120 _ h70 _ _ _ _ _ _
  have h72 : Inv (stepM xs0 xs1) (stepM (blockS x0 x1 x2 x3) (stepM xs0 xs1)) 1152 (kernelRun0_C.sl.HS1_168 (F := Ideal) c arg2 harg2 arg3 harg3 arg4 harg4 arg5 harg5 arg9 harg9 arg10 harg10 x0 x1 x2 x3 xs0 xs1) := inv_M _ _ _ _ _ hS 1136 _ h71 _ _ _ _ _ _
  have h73 : Inv (stepM xs0 xs1) (stepM (blockS x0 x1 x2 x3) (stepM xs0 xs1)) 1168 (kernelRun0_C.sl.HS1_169 (F := Ideal) c arg2 harg2 arg3 harg3 arg4 harg4 arg5 harg5 arg9 harg9 arg10 harg10 x0 x1 x2 x3 xs0 xs1) := inv_M _ _ _ _ _ hS 1152 _ h72 _ _ _ _ _ _
  have h74 : Inv (stepM xs0 xs1) (stepM (blockS x0 x1 x2 x3) (stepM xs0 xs1)) 1184 (kernelRun0_C.sl.HS1_170 (F := Ideal) c arg2 harg2 arg3 harg3 arg4 harg4 arg5 harg5 arg9 harg9 arg10 harg10 x0 x1 x2 x3 xs0 xs1) := inv_M _ _ _ _ _ hS 1168 _ h73 _ _ _ _ _ _
  have h75 : Inv (stepM xs0 xs1) (stepM (blockS x0 x1 x2 x3) (stepM xs0 xs1)) 1200 (kernelRun0_C.sl.HS1_171 (F := Ideal) c arg2 harg2 arg3 harg3 arg4 harg4 arg5 harg5 arg9 harg9 arg10 harg10 x0 x1 x2 x3 xs0 xs1) := inv_M _ _ _ _ _ hS 1184 _ h74 _ _ _ _ _ _
  have h76 : Inv (stepM xs0 xs1) (stepM (blockS x0 x1 x2 x3) (stepM xs0 xs1)) 1216 (kernelRun0_C.sl.HS1_172 (F := Ideal) c arg2 harg2 arg3 harg3 arg4 harg4 arg5 harg5 arg9 harg9 arg10 harg10 x0 x1 x2 x3 xs0 xs1) := inv_M _ _ _ _ _ hS 1200 _ h75 _ _ _ _ _ _
  have h77 : Inv (stepM xs0 xs1) (stepM (blockS x0 x1 x2 x3) (stepM xs0 xs1)) 1232 (kernelRun0_C.sl.HS1_173 (F := Ideal) c arg2 harg2 arg3 harg3 arg4 harg4 arg5 harg5 arg9 harg9 arg10 harg10 x0 x1 x2 x3 xs0 xs1) := inv_M _ _ _ _ _ hS 1216 _ h76 _ _ _ _ _ _
  have h78 : Inv (stepM xs0 xs1) (stepM (blockS x0 x1 x2 x3) (stepM xs0 xs1)) 1248 (kernelRun0_C.sl.HS1_174 (F := Ideal) c arg2 harg2 arg3 harg3 arg4 harg4 arg5 harg5 arg9 harg9 arg10 harg10 x0 x1 x2 x3 xs0 xs1) := inv_M _ _ _ _ _ hS 1232 _ h77 _ _ _ _ _ _
  have h79 : Inv (stepM xs0 xs1) (stepM (blockS x0 x1 x2 x3) (stepM xs0 xs1)) 1264 (kernelRun0_C.sl.HS1_175 (F := Ideal) c arg2 harg2 arg3 harg3 arg4 harg4 arg5 harg5 arg9 harg9 arg10 harg10 x0 x1 x2 x3 xs0 xs1) := inv_M _ _ _ _ _ hS 1248 _ h78 _ _ _ _ _ _
  have h80 : Inv (stepM xs0 xs1) (stepM (blockS x0 x1 x2 x3) (stepM xs0 xs1)) 1280 (kernelRun0_C.sl.HS1_176 (F := Ideal) c arg2 harg2 arg3 harg3 arg4 harg4 arg5 harg5 arg9 harg9 arg10 harg10 x0 x1 x2 x3 xs0 xs1) := inv_M _ _ _ _ _ hS 1264 _ h79 _ _ _ _ _ _
  have h81 : Inv (stepM xs0 xs1) (stepM (blockS x0 x1 x2 x3) (stepM xs0 xs1)) 1296 (kernelRun0_C.sl.HS1_177 (F := Ideal) c arg2 harg2 arg3 harg3 arg4 harg4 arg5 harg5 arg9 harg9 arg10 harg10 x0 x1 x2 x3 xs0 xs1) := inv_M _ _ _ _ _ hS 1280 _ h80 _ _ _ _ _ _
  have h82 : Inv (stepM xs0 xs1) (stepM (blockS x0 x1 x2 x3) (stepM xs0 xs1)) 1312 (kernelRun0_C.sl.HS1_178 (F := Ideal) c arg2 harg2 arg3 harg3 arg4 harg4 arg5 harg5 arg9 harg9 arg10 harg10 x0 x1 x2 x3 xs0 xs1) := inv_M _ _ _ _ _ hS 1296 _ h81 _ _ _ _ _ _
  have h83 : Inv (stepM xs0 xs1) (stepM (blockS x0 x1 x2 x3) (stepM xs0 xs1)) 1328 (kernelRun0_C.sl.HS1_179 (F := Ideal) c arg2 harg2 arg3 harg3 arg4 harg4 arg5 harg5 arg9 harg9 arg10 harg10 x0 x1 x2 x3 xs0 xs1) := inv_M _ _ _ _ _ hS 1312 _ h82 _ _ _ _ _ _
  have h84 : Inv (stepM xs0 xs1) (stepM (blockS x0 x1 x2 x3) (stepM xs0 xs1)) 1344 (kernelRun0_C.sl.HS1_180 (F := Ideal) c arg2 harg2 arg3 harg3 arg4 harg4 arg5 harg5 arg9 harg9 arg10 harg10 x0 x1 x2 x3 xs0 xs1) := inv_M _ _ _ _ _ hS 1328 _ h83 _ _ _ _ _ _
  have h85 : Inv (stepM xs0 xs1) (stepM (blockS x0 x1 x2 x3) (stepM xs0 xs1)) 1360 (kernelRun0_C.sl.HS1_181 (F := Ideal) c arg2 harg2 arg3 harg3 arg4 harg4 arg5 harg5 arg9 harg9 arg10 harg10 x0 x1 x2 x3 xs0 xs1) := inv_M _ _ _ _ _ hS 1344 _ h84 _ _ _ _ _ _
  have h86 : Inv (stepM xs0 xs1) (stepM (blockS x0 x1 x2 x3) (stepM xs0 xs1)) 1376 (kernelRun0_C.sl.HS1_182 (F := Ideal) c arg2 harg2 arg3 harg3 arg4 harg4 arg5 harg5 arg9 harg9 arg10 harg10 x0 x1 x2 x3 xs0 xs1) := inv_M _ _ _ _ _ hS 1360 _ h85 _ _ _ _ _ _
  have h87 : Inv (stepM xs0 xs1) (stepM (blockS x0 x1 x2 x3) (stepM xs0 xs1)) 1392 (kernelRun0_C.sl.HS1_183 (F := Ideal) c arg2 harg2 arg3 harg3 arg4 harg4 arg5 harg5 arg9 harg9 arg10 harg10 x0 x1 x2 x3 xs0 xs1) := inv_M _ _ _ _ _ hS 1376 _ h86 _ _ _ _ _ _
  have h88 : Inv (stepM xs0 xs1) (stepM (blockS x0 x1 x2 x3) (stepM xs0 xs1)) 1408 (kernelRun0_C.sl.HS1_184 (F := Ideal) c arg2 harg2 arg3 harg3 arg4 harg4 arg5 harg5 arg9 harg9 arg10 harg10 x0 x1 x2 x3 xs0 xs1) := inv_M _ _ _ _ _ hS 1392 _ h87 _ _ _ _ _ _
  have h89 : Inv (stepM xs0 xs1) (stepM (blockS x0 x1 x2 x3) (stepM xs0 xs1)) 1424 (kernelRun0_C.sl.HS1_185 (F := Ideal) c arg2 harg2 arg3 harg3 arg4 harg4 arg5 harg5 arg9 harg9 arg10 harg10 x0 x1 x2 x3 xs0 xs1) := inv_M _ _ _ _ _ hS 1408 _ h88 _ _ _ _ _ _
  have h90 : Inv (stepM xs0 xs1) (stepM (blockS x0 x1 x2 x3) (stepM xs0 xs1)) 1440 (kernelRun0_C.sl.HS1_186 (F := Ideal) c arg2 harg2 arg3 harg3 arg4 harg4 arg5 harg5 arg9 harg9 arg10 harg10 x0 x1 x2 x3 xs0 xs1) := inv_M _ _ _ _ _ hS 1424 _ h89 _ _ _ _ _ _
  have h91 : Inv (stepM xs0 xs1) (stepM (blockS x0 x1 x2 x3) (stepM xs0 xs1)) 1456 (kernelRun0_C.sl.HS1_187 (F := Ideal) c arg2 harg2 arg3 harg3 arg4 harg4 arg5 harg5 arg9 harg9 arg10 harg10 x0 x1 x2 x3 xs0 xs1) := inv_M _ _ _ _ _ hS 1440 _ h90 _ _ _ _ _ _
  have h92 : Inv (stepM xs0 xs1) (stepM (blockS x0 x1 x2 x3) (stepM xs0 xs1)) 1472 (kernelRun0_C.sl.HS1_188 (F := Ideal) c arg2 harg2 arg3 harg3 arg4 harg4 arg5 harg5 arg9 harg9 arg10 harg10 x0 x1 x2 x3 xs0 xs1) := inv_M _ _ _ _ _ hS 1456 _ h91 _ _ _ _ _ _
  have h93 : Inv (stepM xs0 xs1) (stepM (blockS x0 x1 x2 x3) (stepM xs0 xs1)) 1488 (kernelRun0_C.sl.HS1_189 (F := Ideal) c arg2 harg2 arg3 harg3 arg4 harg4 arg5 harg5 arg9 harg9 arg10 harg10 x0 x1 x2 x3 xs0 xs1) := inv_M _ _ _ _ _ hS 1472 _ h92 _ _ _ _ _ _
  have h94 : Inv (stepM xs0 xs1) (stepM (blockS x0 x1 x2 x3) (stepM xs0 xs1)) 1504 (kernelRun0_C.sl.HS1_190 (F := Ideal) c arg2 harg2 arg3 harg3 arg4 harg4 arg5 harg5 arg9 harg9 arg10 harg10 x0 x1 x2 x3 xs0 xs1) := inv_M _ _ _ _ _ hS 1488 _ h93 _ _ _ _ _ _
  have h95 : Inv (stepM xs0 xs1) (stepM (blockS x0 x1 x2 x3) (stepM xs0 xs1)) 1520 (kernelRun0_C.sl.HS1_191 (F := Ideal) c arg2 harg2 arg3 harg3 arg4 harg4 arg5 harg5 arg9 harg9 arg10 harg10 x0 x1 x2 x3 xs0 xs1) := inv_M _ _ _ _ _ hS 1504 _ h94 _ _ _ _ _ _
  have h96 : Inv (stepM xs0 xs1) (stepM (blockS x0 x1 x2 x3) (stepM xs0 xs1)) 1536 (kernelRun0_C.sl.HS1_192 (F := Ideal) c arg2 harg2 arg3 harg3 arg4 harg4 arg5 harg5 arg9 harg9 arg10 harg10 x0 x1 x2 x3 xs0 xs1) := inv_M _ _ _ _ _ hS 1520 _ h95 _ _ _ _ _ _
  exact inv_end _ _ _ h96 y

/-- The maxima the run of the last point ends with. -/
theorem max_C (c : Dev nD) (i : grid0.Coords) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg6 : Memref sig .tc .vmem S1x1536x512 .f32) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (hc0 : ¬cond0_0 i) (hc1 : cond0_1 i)
    (x0 : Vec Ideal S1x1536x5120 .fp8e4m3) (x1 : Vec Ideal S1x512x5120 .fp8e4m3) (x2 : Vec Ideal S1x1536x128 .f32) (x3 : Vec Ideal S1x1x512 .f32) (xs0 : Vec Ideal S1536x512 .f32) (xs1 : Vec Ideal S1536x128 .f32) (xs2 : Vec Ideal S1536x128 .f32) (y : S1536x128.Idx) :
    View.canon (kernelRun0_C (F := Ideal) c i arg2 harg2 arg3 harg3 arg4 harg4 arg5 harg5 arg6 harg6 arg7 harg7 arg8 harg8 arg9 harg9 arg10 harg10 arg11 harg11 hc0 hc1 x0 x1 x2 x3 xs0 xs1 xs2).2.2.2.2.1 y = stepM (blockS x0 x1 x2 x3) (stepM xs0 xs1) y := by
  unfold kernelRun0_C
  exact max_C' c arg2 harg2 arg3 harg3 arg4 harg4 arg5 harg5 arg9 harg9 arg10 harg10 x0 x1 x2 x3 xs0 xs1 y

end Cert.LgIdeal.Body
-- ==== Proof.LgFirstSumC.lean ====
module

public import proofs.«01_k».proof.Proof.Gen.LgIdeal.Frame
public import proofs.«01_k».proof.Proof.LgStep

/-!
The last point's first pass over the running sums.
-/

@[expose] public section

set_option maxRecDepth 65536

namespace Cert.LgIdeal.Body

open Idealize.ShloMosaic Cert.LgIdeal Cert.LgIdeal.Gen

set_option maxHeartbeats 4000000 in
/-- … and into the sums. -/
theorem first_L (c : Dev nD) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (xs0 : Vec Ideal S1536x512 .f32) (xs1 : Vec Ideal S1536x128 .f32) (xs2 : Vec Ideal S1536x128 .f32) (y : S1536x128.Idx) :
    View.canon (kernelRun0_C.sl.HS2_96 (F := Ideal) c arg9 harg9 arg10 harg10 arg11 harg11 xs0 xs1 xs2) y = (stepL xs0 xs1 xs2) y := by
  refine canon_of_all ((stepL xs0 xs1 xs2)) _ (fun y => View.cover_of_tiledL (kernelRun0_C.sl.HS2_96 (F := Ideal) c arg9 harg9 arg10 harg10 arg11 harg11 xs0 xs1 xs2) S16x128.size (by sl_kernel_rfl) y) ?_ y
  sl_unfold_words
  simp only [View.readAt_eq_ld, harg9.read_unread, harg10.read_unread, harg11.read_unread]
  repeat first | exact trivial | refine ⟨fun x => chunkL xs0 xs1 xs2 _ _ _ _ _ _ _ x _ rfl, ?_⟩

end Cert.LgIdeal.Body
-- ==== Proof.LgSumC.lean ====
module

public import proofs.«01_k».proof.Proof.LgFirstC
public import proofs.«01_k».proof.Proof.LgFirstSumC
public import proofs.«01_k».proof.Proof.LgLast

/-!
The running sums the last point of a sweep ends with.
-/

@[expose] public section

set_option maxRecDepth 65536

namespace Cert.LgIdeal.Body

open Idealize.ShloMosaic Cert.LgIdeal Cert.LgIdeal.Gen

set_option maxHeartbeats 4000000 in
/-- The last point folds the block it found, then its own, into the running sums. -/
theorem sum_C' (c : Dev nD) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (x0 : Vec Ideal S1x1536x5120 .fp8e4m3) (x1 : Vec Ideal S1x512x5120 .fp8e4m3) (x2 : Vec Ideal S1x1536x128 .f32) (x3 : Vec Ideal S1x1x512 .f32) (xs0 : Vec Ideal S1536x512 .f32) (xs1 : Vec Ideal S1536x128 .f32) (xs2 : Vec Ideal S1536x128 .f32) (y : S1536x128.Idx) :
    View.canon (kernelRun0_C.sl.HS2_192 (F := Ideal) c arg2 harg2 arg3 harg3 arg4 harg4 arg5 harg5 arg9 harg9 arg10 harg10 arg11 harg11 x0 x1 x2 x3 xs0 xs1 xs2) y = stepL (blockS x0 x1 x2 x3) (stepM xs0 xs1) (stepL xs0 xs1 xs2) y := by
  have hS : ∀ y, View.canon (kernelRun0_C.sl.HS0_4 (F := Ideal) c arg2 harg2 arg3 harg3 arg4 harg4 arg5 harg5 x0 x1 x2 x3) y = (blockS x0 x1 x2 x3) y := fun y => block_C c arg2 harg2 arg3 harg3 arg4 harg4 arg5 harg5 x0 x1 x2 x3 y
  have h0 : Inv (stepM xs0 xs1) (stepM (blockS x0 x1 x2 x3) (stepM xs0 xs1)) 0 (kernelRun0_C.sl.HS1_96 (F := Ideal) c arg9 harg9 arg10 harg10 xs0 xs1) := inv_start _ _ _ fun y => first_M c arg9 harg9 arg10 harg10 xs0 xs1 y
  have h1 : Inv (stepM xs0 xs1) (stepM (blockS x0 x1 x2 x3) (stepM xs0 xs1)) 16 (kernelRun0_C.sl.HS1_97 (F := Ideal) c arg2 harg2 arg3 harg3 arg4 harg4 arg5 harg5 arg9 harg9 arg10 harg10 x0 x1 x2 x3 xs0 xs1) := inv_M _ _ _ _ _ hS 0 _ h0 _ _ _ _ _ _
  have h2 : Inv (stepM xs0 xs1) (stepM (blockS x0 x1 x2 x3) (stepM xs0 xs1)) 32 (kernelRun0_C.sl.HS1_98 (F := Ideal) c arg2 harg2 arg3 harg3 arg4 harg4 arg5 harg5 arg9 harg9 arg10 harg10 x0 x1 x2 x3 xs0 xs1) := inv_M _ _ _ _ _ hS 16 _ h1 _ _ _ _ _ _
  have h3 : Inv (stepM xs0 xs1) (stepM (blockS x0 x1 x2 x3) (stepM xs0 xs1)) 48 (kernelRun0_C.sl.HS1_99 (F := Ideal) c arg2 harg2 arg3 harg3 arg4 harg4 arg5 harg5 arg9 harg9 arg10 harg10 x0 x1 x2 x3 xs0 xs1) := inv_M _ _ _ _ _ hS 32 _ h2 _ _ _ _ _ _
  have h4 : Inv (stepM xs0 xs1) (stepM (blockS x0 x1 x2 x3) (stepM xs0 xs1)) 64 (kernelRun0_C.sl.HS1_100 (F := Ideal) c arg2 harg2 arg3 harg3 arg4 harg4 arg5 harg5 arg9 harg9 arg10 harg10 x0 x1 x2 x3 xs0 xs1) := inv_M _ _ _ _ _ hS 48 _ h3 _ _ _ _ _ _
  have h5 : Inv (stepM xs0 xs1) (stepM (blockS x0 x1 x2 x3) (stepM xs0 xs1)) 80 (kernelRun0_C.sl.HS1_101 (F := Ideal) c arg2 harg2 arg3 harg3 arg4 harg4 arg5 harg5 arg9 harg9 arg10 harg10 x0 x1 x2 x3 xs0 xs1) := inv_M _ _ _ _ _ hS 64 _ h4 _ _ _ _ _ _
  have h6 : Inv (stepM xs0 xs1) (stepM (blockS x0 x1 x2 x3) (stepM xs0 xs1)) 96 (kernelRun0_C.sl.HS1_102 (F := Ideal) c arg2 harg2 arg3 harg3 arg4 harg4 arg5 harg5 arg9 harg9 arg10 harg10 x0 x1 x2 x3 xs0 xs1) := inv_M _ _ _ _ _ hS 80 _ h5 _ _ _ _ _ _
  have h7 : Inv (stepM xs0 xs1) (stepM (blockS x0 x1 x2 x3) (stepM xs0 xs1)) 112 (kernelRun0_C.sl.HS1_103 (F := Ideal) c arg2 harg2 arg3 harg3 arg4 harg4 arg5 harg5 arg9 harg9 arg10 harg10 x0 x1 x2 x3 xs0 xs1) := inv_M _ _ _ _ _ hS 96 _ h6 _ _ _ _ _ _
  have h8 : Inv (stepM xs0 xs1) (stepM (blockS x0 x1 x2 x3) (stepM xs0 xs1)) 128 (kernelRun0_C.sl.HS1_104 (F := Ideal) c arg2 harg2 arg3 harg3 arg4 harg4 arg5 harg5 arg9 harg9 arg10 harg10 x0 x1 x2 x3 xs0 xs1) := inv_M _ _ _ _ _ hS 112 _ h7 _ _ _ _ _ _
  have h9 : Inv (stepM xs0 xs1) (stepM (blockS x0 x1 x2 x3) (stepM xs0 xs1)) 144 (kernelRun0_C.sl.HS1_105 (F := Ideal) c arg2 harg2 arg3 harg3 arg4 harg4 arg5 harg5 arg9 harg9 arg10 harg10 x0 x1 x2 x3 xs0 xs1) := inv_M _ _ _ _ _ hS 128 _ h8 _ _ _ _ _ _
  have h10 : Inv (stepM xs0 xs1) (stepM (blockS x0 x1 x2 x3) (stepM xs0 xs1)) 160 (kernelRun0_C.sl.HS1_106 (F := Ideal) c arg2 harg2 arg3 harg3 arg4 harg4 arg5 harg5 arg9 harg9 arg10 harg10 x0 x1 x2 x3 xs0 xs1) := inv_M _ _ _ _ _ hS 144 _ h9 _ _ _ _ _ _
  have h11 : Inv (stepM xs0 xs1) (stepM (blockS x0 x1 x2 x3) (stepM xs0 xs1)) 176 (kernelRun0_C.sl.HS1_107 (F := Ideal) c arg2 harg2 arg3 harg3 arg4 harg4 arg5 harg5 arg9 harg9 arg10 harg10 x0 x1 x2 x3 xs0 xs1) := inv_M _ _ _ _ _ hS 160 _ h10 _ _ _ _ _ _
  have h12 : Inv (stepM xs0 xs1) (stepM (blockS x0 x1 x2 x3) (stepM xs0 xs1)) 192 (kernelRun0_C.sl.HS1_108 (F := Ideal) c arg2 harg2 arg3 harg3 arg4 harg4 arg5 harg5 arg9 harg9 arg10 harg10 x0 x1 x2 x3 xs0 xs1) := inv_M _ _ _ _ _ hS 176 _ h11 _ _ _ _ _ _
  have h13 : Inv (stepM xs0 xs1) (stepM (blockS x0 x1 x2 x3) (stepM xs0 xs1)) 208 (kernelRun0_C.sl.HS1_109 (F := Ideal) c arg2 harg2 arg3 harg3 arg4 harg4 arg5 harg5 arg9 harg9 arg10 harg10 x0 x1 x2 x3 xs0 xs1) := inv_M _ _ _ _ _ hS 192 _ h12 _ _ _ _ _ _
  have h14 : Inv (stepM xs0 xs1) (stepM (blockS x0 x1 x2 x3) (stepM xs0 xs1)) 224 (kernelRun0_C.sl.HS1_110 (F := Ideal) c arg2 harg2 arg3 harg3 arg4 harg4 arg5 harg5 arg9 harg9 arg10 harg10 x0 x1 x2 x3 xs0 xs1) := inv_M _ _ _ _ _ hS 208 _ h13 _ _ _ _ _ _
  have h15 : Inv (stepM xs0 xs1) (stepM (blockS x0 x1 x2 x3) (stepM xs0 xs1)) 240 (kernelRun0_C.sl.HS1_111 (F := Ideal) c arg2 harg2 arg3 harg3 arg4 harg4 arg5 harg5 arg9 harg9 arg10 harg10 x0 x1 x2 x3 xs0 xs1) := inv_M _ _ _ _ _ hS 224 _ h14 _ _ _ _ _ _
  have h16 : Inv (stepM xs0 xs1) (stepM (blockS x0 x1 x2 x3) (stepM xs0 xs1)) 256 (kernelRun0_C.sl.HS1_112 (F := Ideal) c arg2 harg2 arg3 harg3 arg4 harg4 arg5 harg5 arg9 harg9 arg10 harg10 x0 x1 x2 x3 xs0 xs1) := inv_M _ _ _ _ _ hS 240 _ h15 _ _ _ _ _ _
  have h17 : Inv (stepM xs0 xs1) (stepM (blockS x0 x1 x2 x3) (stepM xs0 xs1)) 272 (kernelRun0_C.sl.HS1_113 (F := Ideal) c arg2 harg2 arg3 harg3 arg4 harg4 arg5 harg5 arg9 harg9 arg10 harg10 x0 x1 x2 x3 xs0 xs1) := inv_M _ _ _ _ _ hS 256 _ h16 _ _ _ _ _ _
  have h18 : Inv (stepM xs0 xs1) (stepM (blockS x0 x1 x2 x3) (stepM xs0 xs1)) 288 (kernelRun0_C.sl.HS1_114 (F := Ideal) c arg2 harg2 arg3 harg3 arg4 harg4 arg5 harg5 arg9 harg9 arg10 harg10 x0 x1 x2 x3 xs0 xs1) := inv_M _ _ _ _ _ hS 272 _ h17 _ _ _ _ _ _
  have h19 : Inv (stepM xs0 xs1) (stepM (blockS x0 x1 x2 x3) (stepM xs0 xs1)) 304 (kernelRun0_C.sl.HS1_115 (F := Ideal) c arg2 harg2 arg3 harg3 arg4 harg4 arg5 harg5 arg9 harg9 arg10 harg10 x0 x1 x2 x3 xs0 xs1) := inv_M _ _ _ _ _ hS 288 _ h18 _ _ _ _ _ _
  have h20 : Inv (stepM xs0 xs1) (stepM (blockS x0 x1 x2 x3) (stepM xs0 xs1)) 320 (kernelRun0_C.sl.HS1_116 (F := Ideal) c arg2 harg2 arg3 harg3 arg4 harg4 arg5 harg5 arg9 harg9 arg10 harg10 x0 x1 x2 x3 xs0 xs1) := inv_M _ _ _ _ _ hS 304 _ h19 _ _ _ _ _ _
  have h21 : Inv (stepM xs0 xs1) (stepM (blockS x0 x1 x2 x3) (stepM xs0 xs1)) 336 (kernelRun0_C.sl.HS1_117 (F := Ideal) c arg2 harg2 arg3 harg3 arg4 harg4 arg5 harg5 arg9 harg9 arg10 harg10 x0 x1 x2 x3 xs0 xs1) := inv_M _ _ _ _ _ hS 320 _ h20 _ _ _ _ _ _
  have h22 : Inv (stepM xs0 xs1) (stepM (blockS x0 x1 x2 x3) (stepM xs0 xs1)) 352 (kernelRun0_C.sl.HS1_118 (F := Ideal) c arg2 harg2 arg3 harg3 arg4 harg4 arg5 harg5 arg9 harg9 arg10 harg10 x0 x1 x2 x3 xs0 xs1) := inv_M _ _ _ _ _ hS 336 _ h21 _ _ _ _ _ _
  have h23 : Inv (stepM xs0 xs1) (stepM (blockS x0 x1 x2 x3) (stepM xs0 xs1)) 368 (kernelRun0_C.sl.HS1_119 (F := Ideal) c arg2 harg2 arg3 harg3 arg4 harg4 arg5 harg5 arg9 harg9 arg10 harg10 x0 x1 x2 x3 xs0 xs1) := inv_M _ _ _ _ _ hS 352 _ h22 _ _ _ _ _ _
  have h24 : Inv (stepM xs0 xs1) (stepM (blockS x0 x1 x2 x3) (stepM xs0 xs1)) 384 (kernelRun0_C.sl.HS1_120 (F := Ideal) c arg2 harg2 arg3 harg3 arg4 harg4 arg5 harg5 arg9 harg9 arg10 harg10 x0 x1 x2 x3 xs0 xs1) := inv_M _ _ _ _ _ hS 368 _ h23 _ _ _ _ _ _
  have h25 : Inv (stepM xs0 xs1) (stepM (blockS x0 x1 x2 x3) (stepM xs0 xs1)) 400 (kernelRun0_C.sl.HS1_121 (F := Ideal) c arg2 harg2 arg3 harg3 arg4 harg4 arg5 harg5 arg9 harg9 arg10 harg10 x0 x1 x2 x3 xs0 xs1) := inv_M _ _ _ _ _ hS 384 _ h24 _ _ _ _ _ _
  have h26 : Inv (stepM xs0 xs1) (stepM (blockS x0 x1 x2 x3) (stepM xs0 xs1)) 416 (kernelRun0_C.sl.HS1_122 (F := Ideal) c arg2 harg2 arg3 harg3 arg4 harg4 arg5 harg5 arg9 harg9 arg10 harg10 x0 x1 x2 x3 xs0 xs1) := inv_M _ _ _ _ _ hS 400 _ h25 _ _ _ _ _ _
  have h27 : Inv (stepM xs0 xs1) (stepM (blockS x0 x1 x2 x3) (stepM xs0 xs1)) 432 (kernelRun0_C.sl.HS1_123 (F := Ideal) c arg2 harg2 arg3 harg3 arg4 harg4 arg5 harg5 arg9 harg9 arg10 harg10 x0 x1 x2 x3 xs0 xs1) := inv_M _ _ _ _ _ hS 416 _ h26 _ _ _ _ _ _
  have h28 : Inv (stepM xs0 xs1) (stepM (blockS x0 x1 x2 x3) (stepM xs0 xs1)) 448 (kernelRun0_C.sl.HS1_124 (F := Ideal) c arg2 harg2 arg3 harg3 arg4 harg4 arg5 harg5 arg9 harg9 arg10 harg10 x0 x1 x2 x3 xs0 xs1) := inv_M _ _ _ _ _ hS 432 _ h27 _ _ _ _ _ _
  have h29 : Inv (stepM xs0 xs1) (stepM (blockS x0 x1 x2 x3) (stepM xs0 xs1)) 464 (kernelRun0_C.sl.HS1_125 (F := Ideal) c arg2 harg2 arg3 harg3 arg4 harg4 arg5 harg5 arg9 harg9 arg10 harg10 x0 x1 x2 x3 xs0 xs1) := inv_M _ _ _ _ _ hS 448 _ h28 _ _ _ _ _ _
  have h30 : Inv (stepM xs0 xs1) (stepM (blockS x0 x1 x2 x3) (stepM xs0 xs1)) 480 (kernelRun0_C.sl.HS1_126 (F := Ideal) c arg2 harg2 arg3 harg3 arg4 harg4 arg5 harg5 arg9 harg9 arg10 harg10 x0 x1 x2 x3 xs0 xs1) := inv_M _ _ _ _ _ hS 464 _ h29 _ _ _ _ _ _
  have h31 : Inv (stepM xs0 xs1) (stepM (blockS x0 x1 x2 x3) (stepM xs0 xs1)) 496 (kernelRun0_C.sl.HS1_127 (F := Ideal) c arg2 harg2 arg3 harg3 arg4 harg4 arg5 harg5 arg9 harg9 arg10 harg10 x0 x1 x2 x3 xs0 xs1) := inv_M _ _ _ _ _ hS 480 _ h30 _ _ _ _ _ _
  have h32 : Inv (stepM xs0 xs1) (stepM (blockS x0 x1 x2 x3) (stepM xs0 xs1)) 512 (kernelRun0_C.sl.HS1_128 (F := Ideal) c arg2 harg2 arg3 harg3 arg4 harg4 arg5 harg5 arg9 harg9 arg10 harg10 x0 x1 x2 x3 xs0 xs1) := inv_M _ _ _ _ _ hS 496 _ h31 _ _ _ _ _ _
  have h33 : Inv (stepM xs0 xs1) (stepM (blockS x0 x1 x2 x3) (stepM xs0 xs1)) 528 (kernelRun0_C.sl.HS1_129 (F := Ideal) c arg2 harg2 arg3 harg3 arg4 harg4 arg5 harg5 arg9 harg9 arg10 harg10 x0 x1 x2 x3 xs0 xs1) := inv_M _ _ _ _ _ hS 512 _ h32 _ _ _ _ _ _
  have h34 : Inv (stepM xs0 xs1) (stepM (blockS x0 x1 x2 x3) (stepM xs0 xs1)) 544 (kernelRun0_C.sl.HS1_130 (F := Ideal) c arg2 harg2 arg3 harg3 arg4 harg4 arg5 harg5 arg9 harg9 arg10 harg10 x0 x1 x2 x3 xs0 xs1) := inv_M _ _ _ _ _ hS 528 _ h33 _ _ _ _ _ _
  have h35 : Inv (stepM xs0 xs1) (stepM (blockS x0 x1 x2 x3) (stepM xs0 xs1)) 560 (kernelRun0_C.sl.HS1_131 (F := Ideal) c arg2 harg2 arg3 harg3 arg4 harg4 arg5 harg5 arg9 harg9 arg10 harg10 x0 x1 x2 x3 xs0 xs1) := inv_M _ _ _ _ _ hS 544 _ h34 _ _ _ _ _ _
  have h36 : Inv (stepM xs0 xs1) (stepM (blockS x0 x1 x2 x3) (stepM xs0 xs1)) 576 (kernelRun0_C.sl.HS1_132 (F := Ideal) c arg2 harg2 arg3 harg3 arg4 harg4 arg5 harg5 arg9 harg9 arg10 harg10 x0 x1 x2 x3 xs0 xs1) := inv_M _ _ _ _ _ hS 560 _ h35 _ _ _ _ _ _
  have h37 : Inv (stepM xs0 xs1) (stepM (blockS x0 x1 x2 x3) (stepM xs0 xs1)) 592 (kernelRun0_C.sl.HS1_133 (F := Ideal) c arg2 harg2 arg3 harg3 arg4 harg4 arg5 harg5 arg9 harg9 arg10 harg10 x0 x1 x2 x3 xs0 xs1) := inv_M _ _ _ _ _ hS 576 _ h36 _ _ _ _ _ _
  have h38 : Inv (stepM xs0 xs1) (stepM (blockS x0 x1 x2 x3) (stepM xs0 xs1)) 608 (kernelRun0_C.sl.HS1_134 (F := Ideal) c arg2 harg2 arg3 harg3 arg4 harg4 arg5 harg5 arg9 harg9 arg10 harg10 x0 x1 x2 x3 xs0 xs1) := inv_M _ _ _ _ _ hS 592 _ h37 _ _ _ _ _ _
  have h39 : Inv (stepM xs0 xs1) (stepM (blockS x0 x1 x2 x3) (stepM xs0 xs1)) 624 (kernelRun0_C.sl.HS1_135 (F := Ideal) c arg2 harg2 arg3 harg3 arg4 harg4 arg5 harg5 arg9 harg9 arg10 harg10 x0 x1 x2 x3 xs0 xs1) := inv_M _ _ _ _ _ hS 608 _ h38 _ _ _ _ _ _
  have h40 : Inv (stepM xs0 xs1) (stepM (blockS x0 x1 x2 x3) (stepM xs0 xs1)) 640 (kernelRun0_C.sl.HS1_136 (F := Ideal) c arg2 harg2 arg3 harg3 arg4 harg4 arg5 harg5 arg9 harg9 arg10 harg10 x0 x1 x2 x3 xs0 xs1) := inv_M _ _ _ _ _ hS 624 _ h39 _ _ _ _ _ _
  have h41 : Inv (stepM xs0 xs1) (stepM (blockS x0 x1 x2 x3) (stepM xs0 xs1)) 656 (kernelRun0_C.sl.HS1_137 (F := Ideal) c arg2 harg2 arg3 harg3 arg4 harg4 arg5 harg5 arg9 harg9 arg10 harg10 x0 x1 x2 x3 xs0 xs1) := inv_M _ _ _ _ _ hS 640 _ h40 _ _ _ _ _ _
  have h42 : Inv (stepM xs0 xs1) (stepM (blockS x0 x1 x2 x3) (stepM xs0 xs1)) 672 (kernelRun0_C.sl.HS1_138 (F := Ideal) c arg2 harg2 arg3 harg3 arg4 harg4 arg5 harg5 arg9 harg9 arg10 harg10 x0 x1 x2 x3 xs0 xs1) := inv_M _ _ _ _ _ hS 656 _ h41 _ _ _ _ _ _
  have h43 : Inv (stepM xs0 xs1) (stepM (blockS x0 x1 x2 x3) (stepM xs0 xs1)) 688 (kernelRun0_C.sl.HS1_139 (F := Ideal) c arg2 harg2 arg3 harg3 arg4 harg4 arg5 harg5 arg9 harg9 arg10 harg10 x0 x1 x2 x3 xs0 xs1) := inv_M _ _ _ _ _ hS 672 _ h42 _ _ _ _ _ _
  have h44 : Inv (stepM xs0 xs1) (stepM (blockS x0 x1 x2 x3) (stepM xs0 xs1)) 704 (kernelRun0_C.sl.HS1_140 (F := Ideal) c arg2 harg2 arg3 harg3 arg4 harg4 arg5 harg5 arg9 harg9 arg10 harg10 x0 x1 x2 x3 xs0 xs1) := inv_M _ _ _ _ _ hS 688 _ h43 _ _ _ _ _ _
  have h45 : Inv (stepM xs0 xs1) (stepM (blockS x0 x1 x2 x3) (stepM xs0 xs1)) 720 (kernelRun0_C.sl.HS1_141 (F := Ideal) c arg2 harg2 arg3 harg3 arg4 harg4 arg5 harg5 arg9 harg9 arg10 harg10 x0 x1 x2 x3 xs0 xs1) := inv_M _ _ _ _ _ hS 704 _ h44 _ _ _ _ _ _
  have h46 : Inv (stepM xs0 xs1) (stepM (blockS x0 x1 x2 x3) (stepM xs0 xs1)) 736 (kernelRun0_C.sl.HS1_142 (F := Ideal) c arg2 harg2 arg3 harg3 arg4 harg4 arg5 harg5 arg9 harg9 arg10 harg10 x0 x1 x2 x3 xs0 xs1) := inv_M _ _ _ _ _ hS 720 _ h45 _ _ _ _ _ _
  have h47 : Inv (stepM xs0 xs1) (stepM (blockS x0 x1 x2 x3) (stepM xs0 xs1)) 752 (kernelRun0_C.sl.HS1_143 (F := Ideal) c arg2 harg2 arg3 harg3 arg4 harg4 arg5 harg5 arg9 harg9 arg10 harg10 x0 x1 x2 x3 xs0 xs1) := inv_M _ _ _ _ _ hS 736 _ h46 _ _ _ _ _ _
  have h48 : Inv (stepM xs0 xs1) (stepM (blockS x0 x1 x2 x3) (stepM xs0 xs1)) 768 (kernelRun0_C.sl.HS1_144 (F := Ideal) c arg2 harg2 arg3 harg3 arg4 harg4 arg5 harg5 arg9 harg9 arg10 harg10 x0 x1 x2 x3 xs0 xs1) := inv_M _ _ _ _ _ hS 752 _ h47 _ _ _ _ _ _
  have h49 : Inv (stepM xs0 xs1) (stepM (blockS x0 x1 x2 x3) (stepM xs0 xs1)) 784 (kernelRun0_C.sl.HS1_145 (F := Ideal) c arg2 harg2 arg3 harg3 arg4 harg4 arg5 harg5 arg9 harg9 arg10 harg10 x0 x1 x2 x3 xs0 xs1) := inv_M _ _ _ _ _ hS 768 _ h48 _ _ _ _ _ _
  have h50 : Inv (stepM xs0 xs1) (stepM (blockS x0 x1 x2 x3) (stepM xs0 xs1)) 800 (kernelRun0_C.sl.HS1_146 (F := Ideal) c arg2 harg2 arg3 harg3 arg4 harg4 arg5 harg5 arg9 harg9 arg10 harg10 x0 x1 x2 x3 xs0 xs1) := inv_M _ _ _ _ _ hS 784 _ h49 _ _ _ _ _ _
  have h51 : Inv (stepM xs0 xs1) (stepM (blockS x0 x1 x2 x3) (stepM xs0 xs1)) 816 (kernelRun0_C.sl.HS1_147 (F := Ideal) c arg2 harg2 arg3 harg3 arg4 harg4 arg5 harg5 arg9 harg9 arg10 harg10 x0 x1 x2 x3 xs0 xs1) := inv_M _ _ _ _ _ hS 800 _ h50 _ _ _ _ _ _
  have h52 : Inv (stepM xs0 xs1) (stepM (blockS x0 x1 x2 x3) (stepM xs0 xs1)) 832 (kernelRun0_C.sl.HS1_148 (F := Ideal) c arg2 harg2 arg3 harg3 arg4 harg4 arg5 harg5 arg9 harg9 arg10 harg10 x0 x1 x2 x3 xs0 xs1) := inv_M _ _ _ _ _ hS 816 _ h51 _ _ _ _ _ _
  have h53 : Inv (stepM xs0 xs1) (stepM (blockS x0 x1 x2 x3) (stepM xs0 xs1)) 848 (kernelRun0_C.sl.HS1_149 (F := Ideal) c arg2 harg2 arg3 harg3 arg4 harg4 arg5 harg5 arg9 harg9 arg10 harg10 x0 x1 x2 x3 xs0 xs1) := inv_M _ _ _ _ _ hS 832 _ h52 _ _ _ _ _ _
  have h54 : Inv (stepM xs0 xs1) (stepM (blockS x0 x1 x2 x3) (stepM xs0 xs1)) 864 (kernelRun0_C.sl.HS1_150 (F := Ideal) c arg2 harg2 arg3 harg3 arg4 harg4 arg5 harg5 arg9 harg9 arg10 harg10 x0 x1 x2 x3 xs0 xs1) := inv_M _ _ _ _ _ hS 848 _ h53 _ _ _ _ _ _
  have h55 : Inv (stepM xs0 xs1) (stepM (blockS x0 x1 x2 x3) (stepM xs0 xs1)) 880 (kernelRun0_C.sl.HS1_151 (F := Ideal) c arg2 harg2 arg3 harg3 arg4 harg4 arg5 harg5 arg9 harg9 arg10 harg10 x0 x1 x2 x3 xs0 xs1) := inv_M _ _ _ _ _ hS 864 _ h54 _ _ _ _ _ _
  have h56 : Inv (stepM xs0 xs1) (stepM (blockS x0 x1 x2 x3) (stepM xs0 xs1)) 896 (kernelRun0_C.sl.HS1_152 (F := Ideal) c arg2 harg2 arg3 harg3 arg4 harg4 arg5 harg5 arg9 harg9 arg10 harg10 x0 x1 x2 x3 xs0 xs1) := inv_M _ _ _ _ _ hS 880 _ h55 _ _ _ _ _ _
  have h57 : Inv (stepM xs0 xs1) (stepM (blockS x0 x1 x2 x3) (stepM xs0 xs1)) 912 (kernelRun0_C.sl.HS1_153 (F := Ideal) c arg2 harg2 arg3 harg3 arg4 harg4 arg5 harg5 arg9 harg9 arg10 harg10 x0 x1 x2 x3 xs0 xs1) := inv_M _ _ _ _ _ hS 896 _ h56 _ _ _ _ _ _
  have h58 : Inv (stepM xs0 xs1) (stepM (blockS x0 x1 x2 x3) (stepM xs0 xs1)) 928 (kernelRun0_C.sl.HS1_154 (F := Ideal) c arg2 harg2 arg3 harg3 arg4 harg4 arg5 harg5 arg9 harg9 arg10 harg10 x0 x1 x2 x3 xs0 xs1) := inv_M _ _ _ _ _ hS 912 _ h57 _ _ _ _ _ _
  have h59 : Inv (stepM xs0 xs1) (stepM (blockS x0 x1 x2 x3) (stepM xs0 xs1)) 944 (kernelRun0_C.sl.HS1_155 (F := Ideal) c arg2 harg2 arg3 harg3 arg4 harg4 arg5 harg5 arg9 harg9 arg10 harg10 x0 x1 x2 x3 xs0 xs1) := inv_M _ _ _ _ _ hS 928 _ h58 _ _ _ _ _ _
  have h60 : Inv (stepM xs0 xs1) (stepM (blockS x0 x1 x2 x3) (stepM xs0 xs1)) 960 (kernelRun0_C.sl.HS1_156 (F := Ideal) c arg2 harg2 arg3 harg3 arg4 harg4 arg5 harg5 arg9 harg9 arg10 harg10 x0 x1 x2 x3 xs0 xs1) := inv_M _ _ _ _ _ hS 944 _ h59 _ _ _ _ _ _
  have h61 : Inv (stepM xs0 xs1) (stepM (blockS x0 x1 x2 x3) (stepM xs0 xs1)) 976 (kernelRun0_C.sl.HS1_157 (F := Ideal) c arg2 harg2 arg3 harg3 arg4 harg4 arg5 harg5 arg9 harg9 arg10 harg10 x0 x1 x2 x3 xs0 xs1) := inv_M _ _ _ _ _ hS 960 _ h60 _ _ _ _ _ _
  have h62 : Inv (stepM xs0 xs1) (stepM (blockS x0 x1 x2 x3) (stepM xs0 xs1)) 992 (kernelRun0_C.sl.HS1_158 (F := Ideal) c arg2 harg2 arg3 harg3 arg4 harg4 arg5 harg5 arg9 harg9 arg10 harg10 x0 x1 x2 x3 xs0 xs1) := inv_M _ _ _ _ _ hS 976 _ h61 _ _ _ _ _ _
  have h63 : Inv (stepM xs0 xs1) (stepM (blockS x0 x1 x2 x3) (stepM xs0 xs1)) 1008 (kernelRun0_C.sl.HS1_159 (F := Ideal) c arg2 harg2 arg3 harg3 arg4 harg4 arg5 harg5 arg9 harg9 arg10 harg10 x0 x1 x2 x3 xs0 xs1) := inv_M _ _ _ _ _ hS 992 _ h62 _ _ _ _ _ _
  have h64 : Inv (stepM xs0 xs1) (stepM (blockS x0 x1 x2 x3) (stepM xs0 xs1)) 1024 (kernelRun0_C.sl.HS1_160 (F := Ideal) c arg2 harg2 arg3 harg3 arg4 harg4 arg5 harg5 arg9 harg9 arg10 harg10 x0 x1 x2 x3 xs0 xs1) := inv_M _ _ _ _ _ hS 1008 _ h63 _ _ _ _ _ _
  have h65 : Inv (stepM xs0 xs1) (stepM (blockS x0 x1 x2 x3) (stepM xs0 xs1)) 1040 (kernelRun0_C.sl.HS1_161 (F := Ideal) c arg2 harg2 arg3 harg3 arg4 harg4 arg5 harg5 arg9 harg9 arg10 harg10 x0 x1 x2 x3 xs0 xs1) := inv_M _ _ _ _ _ hS 1024 _ h64 _ _ _ _ _ _
  have h66 : Inv (stepM xs0 xs1) (stepM (blockS x0 x1 x2 x3) (stepM xs0 xs1)) 1056 (kernelRun0_C.sl.HS1_162 (F := Ideal) c arg2 harg2 arg3 harg3 arg4 harg4 arg5 harg5 arg9 harg9 arg10 harg10 x0 x1 x2 x3 xs0 xs1) := inv_M _ _ _ _ _ hS 1040 _ h65 _ _ _ _ _ _
  have h67 : Inv (stepM xs0 xs1) (stepM (blockS x0 x1 x2 x3) (stepM xs0 xs1)) 1072 (kernelRun0_C.sl.HS1_163 (F := Ideal) c arg2 harg2 arg3 harg3 arg4 harg4 arg5 harg5 arg9 harg9 arg10 harg10 x0 x1 x2 x3 xs0 xs1) := inv_M _ _ _ _ _ hS 1056 _ h66 _ _ _ _ _ _
  have h68 : Inv (stepM xs0 xs1) (stepM (blockS x0 x1 x2 x3) (stepM xs0 xs1)) 1088 (kernelRun0_C.sl.HS1_164 (F := Ideal) c arg2 harg2 arg3 harg3 arg4 harg4 arg5 harg5 arg9 harg9 arg10 harg10 x0 x1 x2 x3 xs0 xs1) := inv_M _ _ _ _ _ hS 1072 _ h67 _ _ _ _ _ _
  have h69 : Inv (stepM xs0 xs1) (stepM (blockS x0 x1 x2 x3) (stepM xs0 xs1)) 1104 (kernelRun0_C.sl.HS1_165 (F := Ideal) c arg2 harg2 arg3 harg3 arg4 harg4 arg5 harg5 arg9 harg9 arg10 harg10 x0 x1 x2 x3 xs0 xs1) := inv_M _ _ _ _ _ hS 1088 _ h68 _ _ _ _ _ _
  have h70 : Inv (stepM xs0 xs1) (stepM (blockS x0 x1 x2 x3) (stepM xs0 xs1)) 1120 (kernelRun0_C.sl.HS1_166 (F := Ideal) c arg2 harg2 arg3 harg3 arg4 harg4 arg5 harg5 arg9 harg9 arg10 harg10 x0 x1 x2 x3 xs0 xs1) := inv_M _ _ _ _ _ hS 1104 _ h69 _ _ _ _ _ _
  have h71 : Inv (stepM xs0 xs1) (stepM (blockS x0 x1 x2 x3) (stepM xs0 xs1)) 1136 (kernelRun0_C.sl.HS1_167 (F := Ideal) c arg2 harg2 arg3 harg3 arg4 harg4 arg5 harg5 arg9 harg9 arg10 harg10 x0 x1 x2 x3 xs0 xs1) := inv_M _ _ _ _ _ hS 1120 _ h70 _ _ _ _ _ _
  have h72 : Inv (stepM xs0 xs1) (stepM (blockS x0 x1 x2 x3) (stepM xs0 xs1)) 1152 (kernelRun0_C.sl.HS1_168 (F := Ideal) c arg2 harg2 arg3 harg3 arg4 harg4 arg5 harg5 arg9 harg9 arg10 harg10 x0 x1 x2 x3 xs0 xs1) := inv_M _ _ _ _ _ hS 1136 _ h71 _ _ _ _ _ _
  have h73 : Inv (stepM xs0 xs1) (stepM (blockS x0 x1 x2 x3) (stepM xs0 xs1)) 1168 (kernelRun0_C.sl.HS1_169 (F := Ideal) c arg2 harg2 arg3 harg3 arg4 harg4 arg5 harg5 arg9 harg9 arg10 harg10 x0 x1 x2 x3 xs0 xs1) := inv_M _ _ _ _ _ hS 1152 _ h72 _ _ _ _ _ _
  have h74 : Inv (stepM xs0 xs1) (stepM (blockS x0 x1 x2 x3) (stepM xs0 xs1)) 1184 (kernelRun0_C.sl.HS1_170 (F := Ideal) c arg2 harg2 arg3 harg3 arg4 harg4 arg5 harg5 arg9 harg9 arg10 harg10 x0 x1 x2 x3 xs0 xs1) := inv_M _ _ _ _ _ hS 1168 _ h73 _ _ _ _ _ _
  have h75 : Inv (stepM xs0 xs1) (stepM (blockS x0 x1 x2 x3) (stepM xs0 xs1)) 1200 (kernelRun0_C.sl.HS1_171 (F := Ideal) c arg2 harg2 arg3 harg3 arg4 harg4 arg5 harg5 arg9 harg9 arg10 harg10 x0 x1 x2 x3 xs0 xs1) := inv_M _ _ _ _ _ hS 1184 _ h74 _ _ _ _ _ _
  have h76 : Inv (stepM xs0 xs1) (stepM (blockS x0 x1 x2 x3) (stepM xs0 xs1)) 1216 (kernelRun0_C.sl.HS1_172 (F := Ideal) c arg2 harg2 arg3 harg3 arg4 harg4 arg5 harg5 arg9 harg9 arg10 harg10 x0 x1 x2 x3 xs0 xs1) := inv_M _ _ _ _ _ hS 1200 _ h75 _ _ _ _ _ _
  have h77 : Inv (stepM xs0 xs1) (stepM (blockS x0 x1 x2 x3) (stepM xs0 xs1)) 1232 (kernelRun0_C.sl.HS1_173 (F := Ideal) c arg2 harg2 arg3 harg3 arg4 harg4 arg5 harg5 arg9 harg9 arg10 harg10 x0 x1 x2 x3 xs0 xs1) := inv_M _ _ _ _ _ hS 1216 _ h76 _ _ _ _ _ _
  have h78 : Inv (stepM xs0 xs1) (stepM (blockS x0 x1 x2 x3) (stepM xs0 xs1)) 1248 (kernelRun0_C.sl.HS1_174 (F := Ideal) c arg2 harg2 arg3 harg3 arg4 harg4 arg5 harg5 arg9 harg9 arg10 harg10 x0 x1 x2 x3 xs0 xs1) := inv_M _ _ _ _ _ hS 1232 _ h77 _ _ _ _ _ _
  have h79 : Inv (stepM xs0 xs1) (stepM (blockS x0 x1 x2 x3) (stepM xs0 xs1)) 1264 (kernelRun0_C.sl.HS1_175 (F := Ideal) c arg2 harg2 arg3 harg3 arg4 harg4 arg5 harg5 arg9 harg9 arg10 harg10 x0 x1 x2 x3 xs0 xs1) := inv_M _ _ _ _ _ hS 1248 _ h78 _ _ _ _ _ _
  have h80 : Inv (stepM xs0 xs1) (stepM (blockS x0 x1 x2 x3) (stepM xs0 xs1)) 1280 (kernelRun0_C.sl.HS1_176 (F := Ideal) c arg2 harg2 arg3 harg3 arg4 harg4 arg5 harg5 arg9 harg9 arg10 harg10 x0 x1 x2 x3 xs0 xs1) := inv_M _ _ _ _ _ hS 1264 _ h79 _ _ _ _ _ _
  have h81 : Inv (stepM xs0 xs1) (stepM (blockS x0 x1 x2 x3) (stepM xs0 xs1)) 1296 (kernelRun0_C.sl.HS1_177 (F := Ideal) c arg2 harg2 arg3 harg3 arg4 harg4 arg5 harg5 arg9 harg9 arg10 harg10 x0 x1 x2 x3 xs0 xs1) := inv_M _ _ _ _ _ hS 1280 _ h80 _ _ _ _ _ _
  have h82 : Inv (stepM xs0 xs1) (stepM (blockS x0 x1 x2 x3) (stepM xs0 xs1)) 1312 (kernelRun0_C.sl.HS1_178 (F := Ideal) c arg2 harg2 arg3 harg3 arg4 harg4 arg5 harg5 arg9 harg9 arg10 harg10 x0 x1 x2 x3 xs0 xs1) := inv_M _ _ _ _ _ hS 1296 _ h81 _ _ _ _ _ _
  have h83 : Inv (stepM xs0 xs1) (stepM (blockS x0 x1 x2 x3) (stepM xs0 xs1)) 1328 (kernelRun0_C.sl.HS1_179 (F := Ideal) c arg2 harg2 arg3 harg3 arg4 harg4 arg5 harg5 arg9 harg9 arg10 harg10 x0 x1 x2 x3 xs0 xs1) := inv_M _ _ _ _ _ hS 1312 _ h82 _ _ _ _ _ _
  have h84 : Inv (stepM xs0 xs1) (stepM (blockS x0 x1 x2 x3) (stepM xs0 xs1)) 1344 (kernelRun0_C.sl.HS1_180 (F := Ideal) c arg2 harg2 arg3 harg3 arg4 harg4 arg5 harg5 arg9 harg9 arg10 harg10 x0 x1 x2 x3 xs0 xs1) := inv_M _ _ _ _ _ hS 1328 _ h83 _ _ _ _ _ _
  have h85 : Inv (stepM xs0 xs1) (stepM (blockS x0 x1 x2 x3) (stepM xs0 xs1)) 1360 (kernelRun0_C.sl.HS1_181 (F := Ideal) c arg2 harg2 arg3 harg3 arg4 harg4 arg5 harg5 arg9 harg9 arg10 harg10 x0 x1 x2 x3 xs0 xs1) := inv_M _ _ _ _ _ hS 1344 _ h84 _ _ _ _ _ _
  have h86 : Inv (stepM xs0 xs1) (stepM (blockS x0 x1 x2 x3) (stepM xs0 xs1)) 1376 (kernelRun0_C.sl.HS1_182 (F := Ideal) c arg2 harg2 arg3 harg3 arg4 harg4 arg5 harg5 arg9 harg9 arg10 harg10 x0 x1 x2 x3 xs0 xs1) := inv_M _ _ _ _ _ hS 1360 _ h85 _ _ _ _ _ _
  have h87 : Inv (stepM xs0 xs1) (stepM (blockS x0 x1 x2 x3) (stepM xs0 xs1)) 1392 (kernelRun0_C.sl.HS1_183 (F := Ideal) c arg2 harg2 arg3 harg3 arg4 harg4 arg5 harg5 arg9 harg9 arg10 harg10 x0 x1 x2 x3 xs0 xs1) := inv_M _ _ _ _ _ hS 1376 _ h86 _ _ _ _ _ _
  have h88 : Inv (stepM xs0 xs1) (stepM (blockS x0 x1 x2 x3) (stepM xs0 xs1)) 1408 (kernelRun0_C.sl.HS1_184 (F := Ideal) c arg2 harg2 arg3 harg3 arg4 harg4 arg5 harg5 arg9 harg9 arg10 harg10 x0 x1 x2 x3 xs0 xs1) := inv_M _ _ _ _ _ hS 1392 _ h87 _ _ _ _ _ _
  have h89 : Inv (stepM xs0 xs1) (stepM (blockS x0 x1 x2 x3) (stepM xs0 xs1)) 1424 (kernelRun0_C.sl.HS1_185 (F := Ideal) c arg2 harg2 arg3 harg3 arg4 harg4 arg5 harg5 arg9 harg9 arg10 harg10 x0 x1 x2 x3 xs0 xs1) := inv_M _ _ _ _ _ hS 1408 _ h88 _ _ _ _ _ _
  have h90 : Inv (stepM xs0 xs1) (stepM (blockS x0 x1 x2 x3) (stepM xs0 xs1)) 1440 (kernelRun0_C.sl.HS1_186 (F := Ideal) c arg2 harg2 arg3 harg3 arg4 harg4 arg5 harg5 arg9 harg9 arg10 harg10 x0 x1 x2 x3 xs0 xs1) := inv_M _ _ _ _ _ hS 1424 _ h89 _ _ _ _ _ _
  have h91 : Inv (stepM xs0 xs1) (stepM (blockS x0 x1 x2 x3) (stepM xs0 xs1)) 1456 (kernelRun0_C.sl.HS1_187 (F := Ideal) c arg2 harg2 arg3 harg3 arg4 harg4 arg5 harg5 arg9 harg9 arg10 harg10 x0 x1 x2 x3 xs0 xs1) := inv_M _ _ _ _ _ hS 1440 _ h90 _ _ _ _ _ _
  have h92 : Inv (stepM xs0 xs1) (stepM (blockS x0 x1 x2 x3) (stepM xs0 xs1)) 1472 (kernelRun0_C.sl.HS1_188 (F := Ideal) c arg2 harg2 arg3 harg3 arg4 harg4 arg5 harg5 arg9 harg9 arg10 harg10 x0 x1 x2 x3 xs0 xs1) := inv_M _ _ _ _ _ hS 1456 _ h91 _ _ _ _ _ _
  have h93 : Inv (stepM xs0 xs1) (stepM (blockS x0 x1 x2 x3) (stepM xs0 xs1)) 1488 (kernelRun0_C.sl.HS1_189 (F := Ideal) c arg2 harg2 arg3 harg3 arg4 harg4 arg5 harg5 arg9 harg9 arg10 harg10 x0 x1 x2 x3 xs0 xs1) := inv_M _ _ _ _ _ hS 1472 _ h92 _ _ _ _ _ _
  have h94 : Inv (stepM xs0 xs1) (stepM (blockS x0 x1 x2 x3) (stepM xs0 xs1)) 1504 (kernelRun0_C.sl.HS1_190 (F := Ideal) c arg2 harg2 arg3 harg3 arg4 harg4 arg5 harg5 arg9 harg9 arg10 harg10 x0 x1 x2 x3 xs0 xs1) := inv_M _ _ _ _ _ hS 1488 _ h93 _ _ _ _ _ _
  have h95 : Inv (stepM xs0 xs1) (stepM (blockS x0 x1 x2 x3) (stepM xs0 xs1)) 1520 (kernelRun0_C.sl.HS1_191 (F := Ideal) c arg2 harg2 arg3 harg3 arg4 harg4 arg5 harg5 arg9 harg9 arg10 harg10 x0 x1 x2 x3 xs0 xs1) := inv_M _ _ _ _ _ hS 1504 _ h94 _ _ _ _ _ _
  have h96 : Inv (stepM xs0 xs1) (stepM (blockS x0 x1 x2 x3) (stepM xs0 xs1)) 1536 (kernelRun0_C.sl.HS1_192 (F := Ideal) c arg2 harg2 arg3 harg3 arg4 harg4 arg5 harg5 arg9 harg9 arg10 harg10 x0 x1 x2 x3 xs0 xs1) := inv_M _ _ _ _ _ hS 1520 _ h95 _ _ _ _ _ _
  have g0 : Inv (stepL xs0 xs1 xs2) (stepL (blockS x0 x1 x2 x3) (stepM xs0 xs1) (stepL xs0 xs1 xs2)) 0 (kernelRun0_C.sl.HS2_96 (F := Ideal) c arg9 harg9 arg10 harg10 arg11 harg11 xs0 xs1 xs2) := inv_start _ _ _ fun y => first_L c arg9 harg9 arg10 harg10 arg11 harg11 xs0 xs1 xs2 y
  have g1 : Inv (stepL xs0 xs1 xs2) (stepL (blockS x0 x1 x2 x3) (stepM xs0 xs1) (stepL xs0 xs1 xs2)) 16 (kernelRun0_C.sl.HS2_97 (F := Ideal) c arg2 harg2 arg3 harg3 arg4 harg4 arg5 harg5 arg9 harg9 arg10 harg10 arg11 harg11 x0 x1 x2 x3 xs0 xs1 xs2) := inv_L _ _ _ _ _ _ _ hS 0 _ _ h0 g0 _ _ _ _ _ _ _ _ _ _ _ _ rfl rfl rfl rfl rfl rfl
  have g2 : Inv (stepL xs0 xs1 xs2) (stepL (blockS x0 x1 x2 x3) (stepM xs0 xs1) (stepL xs0 xs1 xs2)) 32 (kernelRun0_C.sl.HS2_98 (F := Ideal) c arg2 harg2 arg3 harg3 arg4 harg4 arg5 harg5 arg9 harg9 arg10 harg10 arg11 harg11 x0 x1 x2 x3 xs0 xs1 xs2) := inv_L _ _ _ _ _ _ _ hS 16 _ _ h1 g1 _ _ _ _ _ _ _ _ _ _ _ _ rfl rfl rfl rfl rfl rfl
  have g3 : Inv (stepL xs0 xs1 xs2) (stepL (blockS x0 x1 x2 x3) (stepM xs0 xs1) (stepL xs0 xs1 xs2)) 48 (kernelRun0_C.sl.HS2_99 (F := Ideal) c arg2 harg2 arg3 harg3 arg4 harg4 arg5 harg5 arg9 harg9 arg10 harg10 arg11 harg11 x0 x1 x2 x3 xs0 xs1 xs2) := inv_L _ _ _ _ _ _ _ hS 32 _ _ h2 g2 _ _ _ _ _ _ _ _ _ _ _ _ rfl rfl rfl rfl rfl rfl
  have g4 : Inv (stepL xs0 xs1 xs2) (stepL (blockS x0 x1 x2 x3) (stepM xs0 xs1) (stepL xs0 xs1 xs2)) 64 (kernelRun0_C.sl.HS2_100 (F := Ideal) c arg2 harg2 arg3 harg3 arg4 harg4 arg5 harg5 arg9 harg9 arg10 harg10 arg11 harg11 x0 x1 x2 x3 xs0 xs1 xs2) := inv_L _ _ _ _ _ _ _ hS 48 _ _ h3 g3 _ _ _ _ _ _ _ _ _ _ _ _ rfl rfl rfl rfl rfl rfl
  have g5 : Inv (stepL xs0 xs1 xs2) (stepL (blockS x0 x1 x2 x3) (stepM xs0 xs1) (stepL xs0 xs1 xs2)) 80 (kernelRun0_C.sl.HS2_101 (F := Ideal) c arg2 harg2 arg3 harg3 arg4 harg4 arg5 harg5 arg9 harg9 arg10 harg10 arg11 harg11 x0 x1 x2 x3 xs0 xs1 xs2) := inv_L _ _ _ _ _ _ _ hS 64 _ _ h4 g4 _ _ _ _ _ _ _ _ _ _ _ _ rfl rfl rfl rfl rfl rfl
  have g6 : Inv (stepL xs0 xs1 xs2) (stepL (blockS x0 x1 x2 x3) (stepM xs0 xs1) (stepL xs0 xs1 xs2)) 96 (kernelRun0_C.sl.HS2_102 (F := Ideal) c arg2 harg2 arg3 harg3 arg4 harg4 arg5 harg5 arg9 harg9 arg10 harg10 arg11 harg11 x0 x1 x2 x3 xs0 xs1 xs2) := inv_L _ _ _ _ _ _ _ hS 80 _ _ h5 g5 _ _ _ _ _ _ _ _ _ _ _ _ rfl rfl rfl rfl rfl rfl
  have g7 : Inv (stepL xs0 xs1 xs2) (stepL (blockS x0 x1 x2 x3) (stepM xs0 xs1) (stepL xs0 xs1 xs2)) 112 (kernelRun0_C.sl.HS2_103 (F := Ideal) c arg2 harg2 arg3 harg3 arg4 harg4 arg5 harg5 arg9 harg9 arg10 harg10 arg11 harg11 x0 x1 x2 x3 xs0 xs1 xs2) := inv_L _ _ _ _ _ _ _ hS 96 _ _ h6 g6 _ _ _ _ _ _ _ _ _ _ _ _ rfl rfl rfl rfl rfl rfl
  have g8 : Inv (stepL xs0 xs1 xs2) (stepL (blockS x0 x1 x2 x3) (stepM xs0 xs1) (stepL xs0 xs1 xs2)) 128 (kernelRun0_C.sl.HS2_104 (F := Ideal) c arg2 harg2 arg3 harg3 arg4 harg4 arg5 harg5 arg9 harg9 arg10 harg10 arg11 harg11 x0 x1 x2 x3 xs0 xs1 xs2) := inv_L _ _ _ _ _ _ _ hS 112 _ _ h7 g7 _ _ _ _ _ _ _ _ _ _ _ _ rfl rfl rfl rfl rfl rfl
  have g9 : Inv (stepL xs0 xs1 xs2) (stepL (blockS x0 x1 x2 x3) (stepM xs0 xs1) (stepL xs0 xs1 xs2)) 144 (kernelRun0_C.sl.HS2_105 (F := Ideal) c arg2 harg2 arg3 harg3 arg4 harg4 arg5 harg5 arg9 harg9 arg10 harg10 arg11 harg11 x0 x1 x2 x3 xs0 xs1 xs2) := inv_L _ _ _ _ _ _ _ hS 128 _ _ h8 g8 _ _ _ _ _ _ _ _ _ _ _ _ rfl rfl rfl rfl rfl rfl
  have g10 : Inv (stepL xs0 xs1 xs2) (stepL (blockS x0 x1 x2 x3) (stepM xs0 xs1) (stepL xs0 xs1 xs2)) 160 (kernelRun0_C.sl.HS2_106 (F := Ideal) c arg2 harg2 arg3 harg3 arg4 harg4 arg5 harg5 arg9 harg9 arg10 harg10 arg11 harg11 x0 x1 x2 x3 xs0 xs1 xs2) := inv_L _ _ _ _ _ _ _ hS 144 _ _ h9 g9 _ _ _ _ _ _ _ _ _ _ _ _ rfl rfl rfl rfl rfl rfl
  have g11 : Inv (stepL xs0 xs1 xs2) (stepL (blockS x0 x1 x2 x3) (stepM xs0 xs1) (stepL xs0 xs1 xs2)) 176 (kernelRun0_C.sl.HS2_107 (F := Ideal) c arg2 harg2 arg3 harg3 arg4 harg4 arg5 harg5 arg9 harg9 arg10 harg10 arg11 harg11 x0 x1 x2 x3 xs0 xs1 xs2) := inv_L _ _ _ _ _ _ _ hS 160 _ _ h10 g10 _ _ _ _ _ _ _ _ _ _ _ _ rfl rfl rfl rfl rfl rfl
  have g12 : Inv (stepL xs0 xs1 xs2) (stepL (blockS x0 x1 x2 x3) (stepM xs0 xs1) (stepL xs0 xs1 xs2)) 192 (kernelRun0_C.sl.HS2_108 (F := Ideal) c arg2 harg2 arg3 harg3 arg4 harg4 arg5 harg5 arg9 harg9 arg10 harg10 arg11 harg11 x0 x1 x2 x3 xs0 xs1 xs2) := inv_L _ _ _ _ _ _ _ hS 176 _ _ h11 g11 _ _ _ _ _ _ _ _ _ _ _ _ rfl rfl rfl rfl rfl rfl
  have g13 : Inv (stepL xs0 xs1 xs2) (stepL (blockS x0 x1 x2 x3) (stepM xs0 xs1) (stepL xs0 xs1 xs2)) 208 (kernelRun0_C.sl.HS2_109 (F := Ideal) c arg2 harg2 arg3 harg3 arg4 harg4 arg5 harg5 arg9 harg9 arg10 harg10 arg11 harg11 x0 x1 x2 x3 xs0 xs1 xs2) := inv_L _ _ _ _ _ _ _ hS 192 _ _ h12 g12 _ _ _ _ _ _ _ _ _ _ _ _ rfl rfl rfl rfl rfl rfl
  have g14 : Inv (stepL xs0 xs1 xs2) (stepL (blockS x0 x1 x2 x3) (stepM xs0 xs1) (stepL xs0 xs1 xs2)) 224 (kernelRun0_C.sl.HS2_110 (F := Ideal) c arg2 harg2 arg3 harg3 arg4 harg4 arg5 harg5 arg9 harg9 arg10 harg10 arg11 harg11 x0 x1 x2 x3 xs0 xs1 xs2) := inv_L _ _ _ _ _ _ _ hS 208 _ _ h13 g13 _ _ _ _ _ _ _ _ _ _ _ _ rfl rfl rfl rfl rfl rfl
  have g15 : Inv (stepL xs0 xs1 xs2) (stepL (blockS x0 x1 x2 x3) (stepM xs0 xs1) (stepL xs0 xs1 xs2)) 240 (kernelRun0_C.sl.HS2_111 (F := Ideal) c arg2 harg2 arg3 harg3 arg4 harg4 arg5 harg5 arg9 harg9 arg10 harg10 arg11 harg11 x0 x1 x2 x3 xs0 xs1 xs2) := inv_L _ _ _ _ _ _ _ hS 224 _ _ h14 g14 _ _ _ _ _ _ _ _ _ _ _ _ rfl rfl rfl rfl rfl rfl
  have g16 : Inv (stepL xs0 xs1 xs2) (stepL (blockS x0 x1 x2 x3) (stepM xs0 xs1) (stepL xs0 xs1 xs2)) 256 (kernelRun0_C.sl.HS2_112 (F := Ideal) c arg2 harg2 arg3 harg3 arg4 harg4 arg5 harg5 arg9 harg9 arg10 harg10 arg11 harg11 x0 x1 x2 x3 xs0 xs1 xs2) := inv_L _ _ _ _ _ _ _ hS 240 _ _ h15 g15 _ _ _ _ _ _ _ _ _ _ _ _ rfl rfl rfl rfl rfl rfl
  have g17 : Inv (stepL xs0 xs1 xs2) (stepL (blockS x0 x1 x2 x3) (stepM xs0 xs1) (stepL xs0 xs1 xs2)) 272 (kernelRun0_C.sl.HS2_113 (F := Ideal) c arg2 harg2 arg3 harg3 arg4 harg4 arg5 harg5 arg9 harg9 arg10 harg10 arg11 harg11 x0 x1 x2 x3 xs0 xs1 xs2) := inv_L _ _ _ _ _ _ _ hS 256 _ _ h16 g16 _ _ _ _ _ _ _ _ _ _ _ _ rfl rfl rfl rfl rfl rfl
  have g18 : Inv (stepL xs0 xs1 xs2) (stepL (blockS x0 x1 x2 x3) (stepM xs0 xs1) (stepL xs0 xs1 xs2)) 288 (kernelRun0_C.sl.HS2_114 (F := Ideal) c arg2 harg2 arg3 harg3 arg4 harg4 arg5 harg5 arg9 harg9 arg10 harg10 arg11 harg11 x0 x1 x2 x3 xs0 xs1 xs2) := inv_L _ _ _ _ _ _ _ hS 272 _ _ h17 g17 _ _ _ _ _ _ _ _ _ _ _ _ rfl rfl rfl rfl rfl rfl
  have g19 : Inv (stepL xs0 xs1 xs2) (stepL (blockS x0 x1 x2 x3) (stepM xs0 xs1) (stepL xs0 xs1 xs2)) 304 (kernelRun0_C.sl.HS2_115 (F := Ideal) c arg2 harg2 arg3 harg3 arg4 harg4 arg5 harg5 arg9 harg9 arg10 harg10 arg11 harg11 x0 x1 x2 x3 xs0 xs1 xs2) := inv_L _ _ _ _ _ _ _ hS 288 _ _ h18 g18 _ _ _ _ _ _ _ _ _ _ _ _ rfl rfl rfl rfl rfl rfl
  have g20 : Inv (stepL xs0 xs1 xs2) (stepL (blockS x0 x1 x2 x3) (stepM xs0 xs1) (stepL xs0 xs1 xs2)) 320 (kernelRun0_C.sl.HS2_116 (F := Ideal) c arg2 harg2 arg3 harg3 arg4 harg4 arg5 harg5 arg9 harg9 arg10 harg10 arg11 harg11 x0 x1 x2 x3 xs0 xs1 xs2) := inv_L _ _ _ _ _ _ _ hS 304 _ _ h19 g19 _ _ _ _ _ _ _ _ _ _ _ _ rfl rfl rfl rfl rfl rfl
  have g21 : Inv (stepL xs0 xs1 xs2) (stepL (blockS x0 x1 x2 x3) (stepM xs0 xs1) (stepL xs0 xs1 xs2)) 336 (kernelRun0_C.sl.HS2_117 (F := Ideal) c arg2 harg2 arg3 harg3 arg4 harg4 arg5 harg5 arg9 harg9 arg10 harg10 arg11 harg11 x0 x1 x2 x3 xs0 xs1 xs2) := inv_L _ _ _ _ _ _ _ hS 320 _ _ h20 g20 _ _ _ _ _ _ _ _ _ _ _ _ rfl rfl rfl rfl rfl rfl
  have g22 : Inv (stepL xs0 xs1 xs2) (stepL (blockS x0 x1 x2 x3) (stepM xs0 xs1) (stepL xs0 xs1 xs2)) 352 (kernelRun0_C.sl.HS2_118 (F := Ideal) c arg2 harg2 arg3 harg3 arg4 harg4 arg5 harg5 arg9 harg9 arg10 harg10 arg11 harg11 x0 x1 x2 x3 xs0 xs1 xs2) := inv_L _ _ _ _ _ _ _ hS 336 _ _ h21 g21 _ _ _ _ _ _ _ _ _ _ _ _ rfl rfl rfl rfl rfl rfl
  have g23 : Inv (stepL xs0 xs1 xs2) (stepL (blockS x0 x1 x2 x3) (stepM xs0 xs1) (stepL xs0 xs1 xs2)) 368 (kernelRun0_C.sl.HS2_119 (F := Ideal) c arg2 harg2 arg3 harg3 arg4 harg4 arg5 harg5 arg9 harg9 arg10 harg10 arg11 harg11 x0 x1 x2 x3 xs0 xs1 xs2) := inv_L _ _ _ _ _ _ _ hS 352 _ _ h22 g22 _ _ _ _ _ _ _ _ _ _ _ _ rfl rfl rfl rfl rfl rfl
  have g24 : Inv (stepL xs0 xs1 xs2) (stepL (blockS x0 x1 x2 x3) (stepM xs0 xs1) (stepL xs0 xs1 xs2)) 384 (kernelRun0_C.sl.HS2_120 (F := Ideal) c arg2 harg2 arg3 harg3 arg4 harg4 arg5 harg5 arg9 harg9 arg10 harg10 arg11 harg11 x0 x1 x2 x3 xs0 xs1 xs2) := inv_L _ _ _ _ _ _ _ hS 368 _ _ h23 g23 _ _ _ _ _ _ _ _ _ _ _ _ rfl rfl rfl rfl rfl rfl
  have g25 : Inv (stepL xs0 xs1 xs2) (stepL (blockS x0 x1 x2 x3) (stepM xs0 xs1) (stepL xs0 xs1 xs2)) 400 (kernelRun0_C.sl.HS2_121 (F := Ideal) c arg2 harg2 arg3 harg3 arg4 harg4 arg5 harg5 arg9 harg9 arg10 harg10 arg11 harg11 x0 x1 x2 x3 xs0 xs1 xs2) := inv_L _ _ _ _ _ _ _ hS 384 _ _ h24 g24 _ _ _ _ _ _ _ _ _ _ _ _ rfl rfl rfl rfl rfl rfl
  have g26 : Inv (stepL xs0 xs1 xs2) (stepL (blockS x0 x1 x2 x3) (stepM xs0 xs1) (stepL xs0 xs1 xs2)) 416 (kernelRun0_C.sl.HS2_122 (F := Ideal) c arg2 harg2 arg3 harg3 arg4 harg4 arg5 harg5 arg9 harg9 arg10 harg10 arg11 harg11 x0 x1 x2 x3 xs0 xs1 xs2) := inv_L _ _ _ _ _ _ _ hS 400 _ _ h25 g25 _ _ _ _ _ _ _ _ _ _ _ _ rfl rfl rfl rfl rfl rfl
  have g27 : Inv (stepL xs0 xs1 xs2) (stepL (blockS x0 x1 x2 x3) (stepM xs0 xs1) (stepL xs0 xs1 xs2)) 432 (kernelRun0_C.sl.HS2_123 (F := Ideal) c arg2 harg2 arg3 harg3 arg4 harg4 arg5 harg5 arg9 harg9 arg10 harg10 arg11 harg11 x0 x1 x2 x3 xs0 xs1 xs2) := inv_L _ _ _ _ _ _ _ hS 416 _ _ h26 g26 _ _ _ _ _ _ _ _ _ _ _ _ rfl rfl rfl rfl rfl rfl
  have g28 : Inv (stepL xs0 xs1 xs2) (stepL (blockS x0 x1 x2 x3) (stepM xs0 xs1) (stepL xs0 xs1 xs2)) 448 (kernelRun0_C.sl.HS2_124 (F := Ideal) c arg2 harg2 arg3 harg3 arg4 harg4 arg5 harg5 arg9 harg9 arg10 harg10 arg11 harg11 x0 x1 x2 x3 xs0 xs1 xs2) := inv_L _ _ _ _ _ _ _ hS 432 _ _ h27 g27 _ _ _ _ _ _ _ _ _ _ _ _ rfl rfl rfl rfl rfl rfl
  have g29 : Inv (stepL xs0 xs1 xs2) (stepL (blockS x0 x1 x2 x3) (stepM xs0 xs1) (stepL xs0 xs1 xs2)) 464 (kernelRun0_C.sl.HS2_125 (F := Ideal) c arg2 harg2 arg3 harg3 arg4 harg4 arg5 harg5 arg9 harg9 arg10 harg10 arg11 harg11 x0 x1 x2 x3 xs0 xs1 xs2) := inv_L _ _ _ _ _ _ _ hS 448 _ _ h28 g28 _ _ _ _ _ _ _ _ _ _ _ _ rfl rfl rfl rfl rfl rfl
  have g30 : Inv (stepL xs0 xs1 xs2) (stepL (blockS x0 x1 x2 x3) (stepM xs0 xs1) (stepL xs0 xs1 xs2)) 480 (kernelRun0_C.sl.HS2_126 (F := Ideal) c arg2 harg2 arg3 harg3 arg4 harg4 arg5 harg5 arg9 harg9 arg10 harg10 arg11 harg11 x0 x1 x2 x3 xs0 xs1 xs2) := inv_L _ _ _ _ _ _ _ hS 464 _ _ h29 g29 _ _ _ _ _ _ _ _ _ _ _ _ rfl rfl rfl rfl rfl rfl
  have g31 : Inv (stepL xs0 xs1 xs2) (stepL (blockS x0 x1 x2 x3) (stepM xs0 xs1) (stepL xs0 xs1 xs2)) 496 (kernelRun0_C.sl.HS2_127 (F := Ideal) c arg2 harg2 arg3 harg3 arg4 harg4 arg5 harg5 arg9 harg9 arg10 harg10 arg11 harg11 x0 x1 x2 x3 xs0 xs1 xs2) := inv_L _ _ _ _ _ _ _ hS 480 _ _ h30 g30 _ _ _ _ _ _ _ _ _ _ _ _ rfl rfl rfl rfl rfl rfl
  have g32 : Inv (stepL xs0 xs1 xs2) (stepL (blockS x0 x1 x2 x3) (stepM xs0 xs1) (stepL xs0 xs1 xs2)) 512 (kernelRun0_C.sl.HS2_128 (F := Ideal) c arg2 harg2 arg3 harg3 arg4 harg4 arg5 harg5 arg9 harg9 arg10 harg10 arg11 harg11 x0 x1 x2 x3 xs0 xs1 xs2) := inv_L _ _ _ _ _ _ _ hS 496 _ _ h31 g31 _ _ _ _ _ _ _ _ _ _ _ _ rfl rfl rfl rfl rfl rfl
  have g33 : Inv (stepL xs0 xs1 xs2) (stepL (blockS x0 x1 x2 x3) (stepM xs0 xs1) (stepL xs0 xs1 xs2)) 528 (kernelRun0_C.sl.HS2_129 (F := Ideal) c arg2 harg2 arg3 harg3 arg4 harg4 arg5 harg5 arg9 harg9 arg10 harg10 arg11 harg11 x0 x1 x2 x3 xs0 xs1 xs2) := inv_L _ _ _ _ _ _ _ hS 512 _ _ h32 g32 _ _ _ _ _ _ _ _ _ _ _ _ rfl rfl rfl rfl rfl rfl
  have g34 : Inv (stepL xs0 xs1 xs2) (stepL (blockS x0 x1 x2 x3) (stepM xs0 xs1) (stepL xs0 xs1 xs2)) 544 (kernelRun0_C.sl.HS2_130 (F := Ideal) c arg2 harg2 arg3 harg3 arg4 harg4 arg5 harg5 arg9 harg9 arg10 harg10 arg11 harg11 x0 x1 x2 x3 xs0 xs1 xs2) := inv_L _ _ _ _ _ _ _ hS 528 _ _ h33 g33 _ _ _ _ _ _ _ _ _ _ _ _ rfl rfl rfl rfl rfl rfl
  have g35 : Inv (stepL xs0 xs1 xs2) (stepL (blockS x0 x1 x2 x3) (stepM xs0 xs1) (stepL xs0 xs1 xs2)) 560 (kernelRun0_C.sl.HS2_131 (F := Ideal) c arg2 harg2 arg3 harg3 arg4 harg4 arg5 harg5 arg9 harg9 arg10 harg10 arg11 harg11 x0 x1 x2 x3 xs0 xs1 xs2) := inv_L _ _ _ _ _ _ _ hS 544 _ _ h34 g34 _ _ _ _ _ _ _ _ _ _ _ _ rfl rfl rfl rfl rfl rfl
  have g36 : Inv (stepL xs0 xs1 xs2) (stepL (blockS x0 x1 x2 x3) (stepM xs0 xs1) (stepL xs0 xs1 xs2)) 576 (kernelRun0_C.sl.HS2_132 (F := Ideal) c arg2 harg2 arg3 harg3 arg4 harg4 arg5 harg5 arg9 harg9 arg10 harg10 arg11 harg11 x0 x1 x2 x3 xs0 xs1 xs2) := inv_L _ _ _ _ _ _ _ hS 560 _ _ h35 g35 _ _ _ _ _ _ _ _ _ _ _ _ rfl rfl rfl rfl rfl rfl
  have g37 : Inv (stepL xs0 xs1 xs2) (stepL (blockS x0 x1 x2 x3) (stepM xs0 xs1) (stepL xs0 xs1 xs2)) 592 (kernelRun0_C.sl.HS2_133 (F := Ideal) c arg2 harg2 arg3 harg3 arg4 harg4 arg5 harg5 arg9 harg9 arg10 harg10 arg11 harg11 x0 x1 x2 x3 xs0 xs1 xs2) := inv_L _ _ _ _ _ _ _ hS 576 _ _ h36 g36 _ _ _ _ _ _ _ _ _ _ _ _ rfl rfl rfl rfl rfl rfl
  have g38 : Inv (stepL xs0 xs1 xs2) (stepL (blockS x0 x1 x2 x3) (stepM xs0 xs1) (stepL xs0 xs1 xs2)) 608 (kernelRun0_C.sl.HS2_134 (F := Ideal) c arg2 harg2 arg3 harg3 arg4 harg4 arg5 harg5 arg9 harg9 arg10 harg10 arg11 harg11 x0 x1 x2 x3 xs0 xs1 xs2) := inv_L _ _ _ _ _ _ _ hS 592 _ _ h37 g37 _ _ _ _ _ _ _ _ _ _ _ _ rfl rfl rfl rfl rfl rfl
  have g39 : Inv (stepL xs0 xs1 xs2) (stepL (blockS x0 x1 x2 x3) (stepM xs0 xs1) (stepL xs0 xs1 xs2)) 624 (kernelRun0_C.sl.HS2_135 (F := Ideal) c arg2 harg2 arg3 harg3 arg4 harg4 arg5 harg5 arg9 harg9 arg10 harg10 arg11 harg11 x0 x1 x2 x3 xs0 xs1 xs2) := inv_L _ _ _ _ _ _ _ hS 608 _ _ h38 g38 _ _ _ _ _ _ _ _ _ _ _ _ rfl rfl rfl rfl rfl rfl
  have g40 : Inv (stepL xs0 xs1 xs2) (stepL (blockS x0 x1 x2 x3) (stepM xs0 xs1) (stepL xs0 xs1 xs2)) 640 (kernelRun0_C.sl.HS2_136 (F := Ideal) c arg2 harg2 arg3 harg3 arg4 harg4 arg5 harg5 arg9 harg9 arg10 harg10 arg11 harg11 x0 x1 x2 x3 xs0 xs1 xs2) := inv_L _ _ _ _ _ _ _ hS 624 _ _ h39 g39 _ _ _ _ _ _ _ _ _ _ _ _ rfl rfl rfl rfl rfl rfl
  have g41 : Inv (stepL xs0 xs1 xs2) (stepL (blockS x0 x1 x2 x3) (stepM xs0 xs1) (stepL xs0 xs1 xs2)) 656 (kernelRun0_C.sl.HS2_137 (F := Ideal) c arg2 harg2 arg3 harg3 arg4 harg4 arg5 harg5 arg9 harg9 arg10 harg10 arg11 harg11 x0 x1 x2 x3 xs0 xs1 xs2) := inv_L _ _ _ _ _ _ _ hS 640 _ _ h40 g40 _ _ _ _ _ _ _ _ _ _ _ _ rfl rfl rfl rfl rfl rfl
  have g42 : Inv (stepL xs0 xs1 xs2) (stepL (blockS x0 x1 x2 x3) (stepM xs0 xs1) (stepL xs0 xs1 xs2)) 672 (kernelRun0_C.sl.HS2_138 (F := Ideal) c arg2 harg2 arg3 harg3 arg4 harg4 arg5 harg5 arg9 harg9 arg10 harg10 arg11 harg11 x0 x1 x2 x3 xs0 xs1 xs2) := inv_L _ _ _ _ _ _ _ hS 656 _ _ h41 g41 _ _ _ _ _ _ _ _ _ _ _ _ rfl rfl rfl rfl rfl rfl
  have g43 : Inv (stepL xs0 xs1 xs2) (stepL (blockS x0 x1 x2 x3) (stepM xs0 xs1) (stepL xs0 xs1 xs2)) 688 (kernelRun0_C.sl.HS2_139 (F := Ideal) c arg2 harg2 arg3 harg3 arg4 harg4 arg5 harg5 arg9 harg9 arg10 harg10 arg11 harg11 x0 x1 x2 x3 xs0 xs1 xs2) := inv_L _ _ _ _ _ _ _ hS 672 _ _ h42 g42 _ _ _ _ _ _ _ _ _ _ _ _ rfl rfl rfl rfl rfl rfl
  have g44 : Inv (stepL xs0 xs1 xs2) (stepL (blockS x0 x1 x2 x3) (stepM xs0 xs1) (stepL xs0 xs1 xs2)) 704 (kernelRun0_C.sl.HS2_140 (F := Ideal) c arg2 harg2 arg3 harg3 arg4 harg4 arg5 harg5 arg9 harg9 arg10 harg10 arg11 harg11 x0 x1 x2 x3 xs0 xs1 xs2) := inv_L _ _ _ _ _ _ _ hS 688 _ _ h43 g43 _ _ _ _ _ _ _ _ _ _ _ _ rfl rfl rfl rfl rfl rfl
  have g45 : Inv (stepL xs0 xs1 xs2) (stepL (blockS x0 x1 x2 x3) (stepM xs0 xs1) (stepL xs0 xs1 xs2)) 720 (kernelRun0_C.sl.HS2_141 (F := Ideal) c arg2 harg2 arg3 harg3 arg4 harg4 arg5 harg5 arg9 harg9 arg10 harg10 arg11 harg11 x0 x1 x2 x3 xs0 xs1 xs2) := inv_L _ _ _ _ _ _ _ hS 704 _ _ h44 g44 _ _ _ _ _ _ _ _ _ _ _ _ rfl rfl rfl rfl rfl rfl
  have g46 : Inv (stepL xs0 xs1 xs2) (stepL (blockS x0 x1 x2 x3) (stepM xs0 xs1) (stepL xs0 xs1 xs2)) 736 (kernelRun0_C.sl.HS2_142 (F := Ideal) c arg2 harg2 arg3 harg3 arg4 harg4 arg5 harg5 arg9 harg9 arg10 harg10 arg11 harg11 x0 x1 x2 x3 xs0 xs1 xs2) := inv_L _ _ _ _ _ _ _ hS 720 _ _ h45 g45 _ _ _ _ _ _ _ _ _ _ _ _ rfl rfl rfl rfl rfl rfl
  have g47 : Inv (stepL xs0 xs1 xs2) (stepL (blockS x0 x1 x2 x3) (stepM xs0 xs1) (stepL xs0 xs1 xs2)) 752 (kernelRun0_C.sl.HS2_143 (F := Ideal) c arg2 harg2 arg3 harg3 arg4 harg4 arg5 harg5 arg9 harg9 arg10 harg10 arg11 harg11 x0 x1 x2 x3 xs0 xs1 xs2) := inv_L _ _ _ _ _ _ _ hS 736 _ _ h46 g46 _ _ _ _ _ _ _ _ _ _ _ _ rfl rfl rfl rfl rfl rfl
  have g48 : Inv (stepL xs0 xs1 xs2) (stepL (blockS x0 x1 x2 x3) (stepM xs0 xs1) (stepL xs0 xs1 xs2)) 768 (kernelRun0_C.sl.HS2_144 (F := Ideal) c arg2 harg2 arg3 harg3 arg4 harg4 arg5 harg5 arg9 harg9 arg10 harg10 arg11 harg11 x0 x1 x2 x3 xs0 xs1 xs2) := inv_L _ _ _ _ _ _ _ hS 752 _ _ h47 g47 _ _ _ _ _ _ _ _ _ _ _ _ rfl rfl rfl rfl rfl rfl
  have g49 : Inv (stepL xs0 xs1 xs2) (stepL (blockS x0 x1 x2 x3) (stepM xs0 xs1) (stepL xs0 xs1 xs2)) 784 (kernelRun0_C.sl.HS2_145 (F := Ideal) c arg2 harg2 arg3 harg3 arg4 harg4 arg5 harg5 arg9 harg9 arg10 harg10 arg11 harg11 x0 x1 x2 x3 xs0 xs1 xs2) := inv_L _ _ _ _ _ _ _ hS 768 _ _ h48 g48 _ _ _ _ _ _ _ _ _ _ _ _ rfl rfl rfl rfl rfl rfl
  have g50 : Inv (stepL xs0 xs1 xs2) (stepL (blockS x0 x1 x2 x3) (stepM xs0 xs1) (stepL xs0 xs1 xs2)) 800 (kernelRun0_C.sl.HS2_146 (F := Ideal) c arg2 harg2 arg3 harg3 arg4 harg4 arg5 harg5 arg9 harg9 arg10 harg10 arg11 harg11 x0 x1 x2 x3 xs0 xs1 xs2) := inv_L _ _ _ _ _ _ _ hS 784 _ _ h49 g49 _ _ _ _ _ _ _ _ _ _ _ _ rfl rfl rfl rfl rfl rfl
  have g51 : Inv (stepL xs0 xs1 xs2) (stepL (blockS x0 x1 x2 x3) (stepM xs0 xs1) (stepL xs0 xs1 xs2)) 816 (kernelRun0_C.sl.HS2_147 (F := Ideal) c arg2 harg2 arg3 harg3 arg4 harg4 arg5 harg5 arg9 harg9 arg10 harg10 arg11 harg11 x0 x1 x2 x3 xs0 xs1 xs2) := inv_L _ _ _ _ _ _ _ hS 800 _ _ h50 g50 _ _ _ _ _ _ _ _ _ _ _ _ rfl rfl rfl rfl rfl rfl
  have g52 : Inv (stepL xs0 xs1 xs2) (stepL (blockS x0 x1 x2 x3) (stepM xs0 xs1) (stepL xs0 xs1 xs2)) 832 (kernelRun0_C.sl.HS2_148 (F := Ideal) c arg2 harg2 arg3 harg3 arg4 harg4 arg5 harg5 arg9 harg9 arg10 harg10 arg11 harg11 x0 x1 x2 x3 xs0 xs1 xs2) := inv_L _ _ _ _ _ _ _ hS 816 _ _ h51 g51 _ _ _ _ _ _ _ _ _ _ _ _ rfl rfl rfl rfl rfl rfl
  have g53 : Inv (stepL xs0 xs1 xs2) (stepL (blockS x0 x1 x2 x3) (stepM xs0 xs1) (stepL xs0 xs1 xs2)) 848 (kernelRun0_C.sl.HS2_149 (F := Ideal) c arg2 harg2 arg3 harg3 arg4 harg4 arg5 harg5 arg9 harg9 arg10 harg10 arg11 harg11 x0 x1 x2 x3 xs0 xs1 xs2) := inv_L _ _ _ _ _ _ _ hS 832 _ _ h52 g52 _ _ _ _ _ _ _ _ _ _ _ _ rfl rfl rfl rfl rfl rfl
  have g54 : Inv (stepL xs0 xs1 xs2) (stepL (blockS x0 x1 x2 x3) (stepM xs0 xs1) (stepL xs0 xs1 xs2)) 864 (kernelRun0_C.sl.HS2_150 (F := Ideal) c arg2 harg2 arg3 harg3 arg4 harg4 arg5 harg5 arg9 harg9 arg10 harg10 arg11 harg11 x0 x1 x2 x3 xs0 xs1 xs2) := inv_L _ _ _ _ _ _ _ hS 848 _ _ h53 g53 _ _ _ _ _ _ _ _ _ _ _ _ rfl rfl rfl rfl rfl rfl
  have g55 : Inv (stepL xs0 xs1 xs2) (stepL (blockS x0 x1 x2 x3) (stepM xs0 xs1) (stepL xs0 xs1 xs2)) 880 (kernelRun0_C.sl.HS2_151 (F := Ideal) c arg2 harg2 arg3 harg3 arg4 harg4 arg5 harg5 arg9 harg9 arg10 harg10 arg11 harg11 x0 x1 x2 x3 xs0 xs1 xs2) := inv_L _ _ _ _ _ _ _ hS 864 _ _ h54 g54 _ _ _ _ _ _ _ _ _ _ _ _ rfl rfl rfl rfl rfl rfl
  have g56 : Inv (stepL xs0 xs1 xs2) (stepL (blockS x0 x1 x2 x3) (stepM xs0 xs1) (stepL xs0 xs1 xs2)) 896 (kernelRun0_C.sl.HS2_152 (F := Ideal) c arg2 harg2 arg3 harg3 arg4 harg4 arg5 harg5 arg9 harg9 arg10 harg10 arg11 harg11 x0 x1 x2 x3 xs0 xs1 xs2) := inv_L _ _ _ _ _ _ _ hS 880 _ _ h55 g55 _ _ _ _ _ _ _ _ _ _ _ _ rfl rfl rfl rfl rfl rfl
  have g57 : Inv (stepL xs0 xs1 xs2) (stepL (blockS x0 x1 x2 x3) (stepM xs0 xs1) (stepL xs0 xs1 xs2)) 912 (kernelRun0_C.sl.HS2_153 (F := Ideal) c arg2 harg2 arg3 harg3 arg4 harg4 arg5 harg5 arg9 harg9 arg10 harg10 arg11 harg11 x0 x1 x2 x3 xs0 xs1 xs2) := inv_L _ _ _ _ _ _ _ hS 896 _ _ h56 g56 _ _ _ _ _ _ _ _ _ _ _ _ rfl rfl rfl rfl rfl rfl
  have g58 : Inv (stepL xs0 xs1 xs2) (stepL (blockS x0 x1 x2 x3) (stepM xs0 xs1) (stepL xs0 xs1 xs2)) 928 (kernelRun0_C.sl.HS2_154 (F := Ideal) c arg2 harg2 arg3 harg3 arg4 harg4 arg5 harg5 arg9 harg9 arg10 harg10 arg11 harg11 x0 x1 x2 x3 xs0 xs1 xs2) := inv_L _ _ _ _ _ _ _ hS 912 _ _ h57 g57 _ _ _ _ _ _ _ _ _ _ _ _ rfl rfl rfl rfl rfl rfl
  have g59 : Inv (stepL xs0 xs1 xs2) (stepL (blockS x0 x1 x2 x3) (stepM xs0 xs1) (stepL xs0 xs1 xs2)) 944 (kernelRun0_C.sl.HS2_155 (F := Ideal) c arg2 harg2 arg3 harg3 arg4 harg4 arg5 harg5 arg9 harg9 arg10 harg10 arg11 harg11 x0 x1 x2 x3 xs0 xs1 xs2) := inv_L _ _ _ _ _ _ _ hS 928 _ _ h58 g58 _ _ _ _ _ _ _ _ _ _ _ _ rfl rfl rfl rfl rfl rfl
  have g60 : Inv (stepL xs0 xs1 xs2) (stepL (blockS x0 x1 x2 x3) (stepM xs0 xs1) (stepL xs0 xs1 xs2)) 960 (kernelRun0_C.sl.HS2_156 (F := Ideal) c arg2 harg2 arg3 harg3 arg4 harg4 arg5 harg5 arg9 harg9 arg10 harg10 arg11 harg11 x0 x1 x2 x3 xs0 xs1 xs2) := inv_L _ _ _ _ _ _ _ hS 944 _ _ h59 g59 _ _ _ _ _ _ _ _ _ _ _ _ rfl rfl rfl rfl rfl rfl
  have g61 : Inv (stepL xs0 xs1 xs2) (stepL (blockS x0 x1 x2 x3) (stepM xs0 xs1) (stepL xs0 xs1 xs2)) 976 (kernelRun0_C.sl.HS2_157 (F := Ideal) c arg2 harg2 arg3 harg3 arg4 harg4 arg5 harg5 arg9 harg9 arg10 harg10 arg11 harg11 x0 x1 x2 x3 xs0 xs1 xs2) := inv_L _ _ _ _ _ _ _ hS 960 _ _ h60 g60 _ _ _ _ _ _ _ _ _ _ _ _ rfl rfl rfl rfl rfl rfl
  have g62 : Inv (stepL xs0 xs1 xs2) (stepL (blockS x0 x1 x2 x3) (stepM xs0 xs1) (stepL xs0 xs1 xs2)) 992 (kernelRun0_C.sl.HS2_158 (F := Ideal) c arg2 harg2 arg3 harg3 arg4 harg4 arg5 harg5 arg9 harg9 arg10 harg10 arg11 harg11 x0 x1 x2 x3 xs0 xs1 xs2) := inv_L _ _ _ _ _ _ _ hS 976 _ _ h61 g61 _ _ _ _ _ _ _ _ _ _ _ _ rfl rfl rfl rfl rfl rfl
  have g63 : Inv (stepL xs0 xs1 xs2) (stepL (blockS x0 x1 x2 x3) (stepM xs0 xs1) (stepL xs0 xs1 xs2)) 1008 (kernelRun0_C.sl.HS2_159 (F := Ideal) c arg2 harg2 arg3 harg3 arg4 harg4 arg5 harg5 arg9 harg9 arg10 harg10 arg11 harg11 x0 x1 x2 x3 xs0 xs1 xs2) := inv_L _ _ _ _ _ _ _ hS 992 _ _ h62 g62 _ _ _ _ _ _ _ _ _ _ _ _ rfl rfl rfl rfl rfl rfl
  have g64 : Inv (stepL xs0 xs1 xs2) (stepL (blockS x0 x1 x2 x3) (stepM xs0 xs1) (stepL xs0 xs1 xs2)) 1024 (kernelRun0_C.sl.HS2_160 (F := Ideal) c arg2 harg2 arg3 harg3 arg4 harg4 arg5 harg5 arg9 harg9 arg10 harg10 arg11 harg11 x0 x1 x2 x3 xs0 xs1 xs2) := inv_L _ _ _ _ _ _ _ hS 1008 _ _ h63 g63 _ _ _ _ _ _ _ _ _ _ _ _ rfl rfl rfl rfl rfl rfl
  have g65 : Inv (stepL xs0 xs1 xs2) (stepL (blockS x0 x1 x2 x3) (stepM xs0 xs1) (stepL xs0 xs1 xs2)) 1040 (kernelRun0_C.sl.HS2_161 (F := Ideal) c arg2 harg2 arg3 harg3 arg4 harg4 arg5 harg5 arg9 harg9 arg10 harg10 arg11 harg11 x0 x1 x2 x3 xs0 xs1 xs2) := inv_L _ _ _ _ _ _ _ hS 1024 _ _ h64 g64 _ _ _ _ _ _ _ _ _ _ _ _ rfl rfl rfl rfl rfl rfl
  have g66 : Inv (stepL xs0 xs1 xs2) (stepL (blockS x0 x1 x2 x3) (stepM xs0 xs1) (stepL xs0 xs1 xs2)) 1056 (kernelRun0_C.sl.HS2_162 (F := Ideal) c arg2 harg2 arg3 harg3 arg4 harg4 arg5 harg5 arg9 harg9 arg10 harg10 arg11 harg11 x0 x1 x2 x3 xs0 xs1 xs2) := inv_L _ _ _ _ _ _ _ hS 1040 _ _ h65 g65 _ _ _ _ _ _ _ _ _ _ _ _ rfl rfl rfl rfl rfl rfl
  have g67 : Inv (stepL xs0 xs1 xs2) (stepL (blockS x0 x1 x2 x3) (stepM xs0 xs1) (stepL xs0 xs1 xs2)) 1072 (kernelRun0_C.sl.HS2_163 (F := Ideal) c arg2 harg2 arg3 harg3 arg4 harg4 arg5 harg5 arg9 harg9 arg10 harg10 arg11 harg11 x0 x1 x2 x3 xs0 xs1 xs2) := inv_L _ _ _ _ _ _ _ hS 1056 _ _ h66 g66 _ _ _ _ _ _ _ _ _ _ _ _ rfl rfl rfl rfl rfl rfl
  have g68 : Inv (stepL xs0 xs1 xs2) (stepL (blockS x0 x1 x2 x3) (stepM xs0 xs1) (stepL xs0 xs1 xs2)) 1088 (kernelRun0_C.sl.HS2_164 (F := Ideal) c arg2 harg2 arg3 harg3 arg4 harg4 arg5 harg5 arg9 harg9 arg10 harg10 arg11 harg11 x0 x1 x2 x3 xs0 xs1 xs2) := inv_L _ _ _ _ _ _ _ hS 1072 _ _ h67 g67 _ _ _ _ _ _ _ _ _ _ _ _ rfl rfl rfl rfl rfl rfl
  have g69 : Inv (stepL xs0 xs1 xs2) (stepL (blockS x0 x1 x2 x3) (stepM xs0 xs1) (stepL xs0 xs1 xs2)) 1104 (kernelRun0_C.sl.HS2_165 (F := Ideal) c arg2 harg2 arg3 harg3 arg4 harg4 arg5 harg5 arg9 harg9 arg10 harg10 arg11 harg11 x0 x1 x2 x3 xs0 xs1 xs2) := inv_L _ _ _ _ _ _ _ hS 1088 _ _ h68 g68 _ _ _ _ _ _ _ _ _ _ _ _ rfl rfl rfl rfl rfl rfl
  have g70 : Inv (stepL xs0 xs1 xs2) (stepL (blockS x0 x1 x2 x3) (stepM xs0 xs1) (stepL xs0 xs1 xs2)) 1120 (kernelRun0_C.sl.HS2_166 (F := Ideal) c arg2 harg2 arg3 harg3 arg4 harg4 arg5 harg5 arg9 harg9 arg10 harg10 arg11 harg11 x0 x1 x2 x3 xs0 xs1 xs2) := inv_L _ _ _ _ _ _ _ hS 1104 _ _ h69 g69 _ _ _ _ _ _ _ _ _ _ _ _ rfl rfl rfl rfl rfl rfl
  have g71 : Inv (stepL xs0 xs1 xs2) (stepL (blockS x0 x1 x2 x3) (stepM xs0 xs1) (stepL xs0 xs1 xs2)) 1136 (kernelRun0_C.sl.HS2_167 (F := Ideal) c arg2 harg2 arg3 harg3 arg4 harg4 arg5 harg5 arg9 harg9 arg10 harg10 arg11 harg11 x0 x1 x2 x3 xs0 xs1 xs2) := inv_L _ _ _ _ _ _ _ hS 1120 _ _ h70 g70 _ _ _ _ _ _ _ _ _ _ _ _ rfl rfl rfl rfl rfl rfl
  have g72 : Inv (stepL xs0 xs1 xs2) (stepL (blockS x0 x1 x2 x3) (stepM xs0 xs1) (stepL xs0 xs1 xs2)) 1152 (kernelRun0_C.sl.HS2_168 (F := Ideal) c arg2 harg2 arg3 harg3 arg4 harg4 arg5 harg5 arg9 harg9 arg10 harg10 arg11 harg11 x0 x1 x2 x3 xs0 xs1 xs2) := inv_L _ _ _ _ _ _ _ hS 1136 _ _ h71 g71 _ _ _ _ _ _ _ _ _ _ _ _ rfl rfl rfl rfl rfl rfl
  have g73 : Inv (stepL xs0 xs1 xs2) (stepL (blockS x0 x1 x2 x3) (stepM xs0 xs1) (stepL xs0 xs1 xs2)) 1168 (kernelRun0_C.sl.HS2_169 (F := Ideal) c arg2 harg2 arg3 harg3 arg4 harg4 arg5 harg5 arg9 harg9 arg10 harg10 arg11 harg11 x0 x1 x2 x3 xs0 xs1 xs2) := inv_L _ _ _ _ _ _ _ hS 1152 _ _ h72 g72 _ _ _ _ _ _ _ _ _ _ _ _ rfl rfl rfl rfl rfl rfl
  have g74 : Inv (stepL xs0 xs1 xs2) (stepL (blockS x0 x1 x2 x3) (stepM xs0 xs1) (stepL xs0 xs1 xs2)) 1184 (kernelRun0_C.sl.HS2_170 (F := Ideal) c arg2 harg2 arg3 harg3 arg4 harg4 arg5 harg5 arg9 harg9 arg10 harg10 arg11 harg11 x0 x1 x2 x3 xs0 xs1 xs2) := inv_L _ _ _ _ _ _ _ hS 1168 _ _ h73 g73 _ _ _ _ _ _ _ _ _ _ _ _ rfl rfl rfl rfl rfl rfl
  have g75 : Inv (stepL xs0 xs1 xs2) (stepL (blockS x0 x1 x2 x3) (stepM xs0 xs1) (stepL xs0 xs1 xs2)) 1200 (kernelRun0_C.sl.HS2_171 (F := Ideal) c arg2 harg2 arg3 harg3 arg4 harg4 arg5 harg5 arg9 harg9 arg10 harg10 arg11 harg11 x0 x1 x2 x3 xs0 xs1 xs2) := inv_L _ _ _ _ _ _ _ hS 1184 _ _ h74 g74 _ _ _ _ _ _ _ _ _ _ _ _ rfl rfl rfl rfl rfl rfl
  have g76 : Inv (stepL xs0 xs1 xs2) (stepL (blockS x0 x1 x2 x3) (stepM xs0 xs1) (stepL xs0 xs1 xs2)) 1216 (kernelRun0_C.sl.HS2_172 (F := Ideal) c arg2 harg2 arg3 harg3 arg4 harg4 arg5 harg5 arg9 harg9 arg10 harg10 arg11 harg11 x0 x1 x2 x3 xs0 xs1 xs2) := inv_L _ _ _ _ _ _ _ hS 1200 _ _ h75 g75 _ _ _ _ _ _ _ _ _ _ _ _ rfl rfl rfl rfl rfl rfl
  have g77 : Inv (stepL xs0 xs1 xs2) (stepL (blockS x0 x1 x2 x3) (stepM xs0 xs1) (stepL xs0 xs1 xs2)) 1232 (kernelRun0_C.sl.HS2_173 (F := Ideal) c arg2 harg2 arg3 harg3 arg4 harg4 arg5 harg5 arg9 harg9 arg10 harg10 arg11 harg11 x0 x1 x2 x3 xs0 xs1 xs2) := inv_L _ _ _ _ _ _ _ hS 1216 _ _ h76 g76 _ _ _ _ _ _ _ _ _ _ _ _ rfl rfl rfl rfl rfl rfl
  have g78 : Inv (stepL xs0 xs1 xs2) (stepL (blockS x0 x1 x2 x3) (stepM xs0 xs1) (stepL xs0 xs1 xs2)) 1248 (kernelRun0_C.sl.HS2_174 (F := Ideal) c arg2 harg2 arg3 harg3 arg4 harg4 arg5 harg5 arg9 harg9 arg10 harg10 arg11 harg11 x0 x1 x2 x3 xs0 xs1 xs2) := inv_L _ _ _ _ _ _ _ hS 1232 _ _ h77 g77 _ _ _ _ _ _ _ _ _ _ _ _ rfl rfl rfl rfl rfl rfl
  have g79 : Inv (stepL xs0 xs1 xs2) (stepL (blockS x0 x1 x2 x3) (stepM xs0 xs1) (stepL xs0 xs1 xs2)) 1264 (kernelRun0_C.sl.HS2_175 (F := Ideal) c arg2 harg2 arg3 harg3 arg4 harg4 arg5 harg5 arg9 harg9 arg10 harg10 arg11 harg11 x0 x1 x2 x3 xs0 xs1 xs2) := inv_L _ _ _ _ _ _ _ hS 1248 _ _ h78 g78 _ _ _ _ _ _ _ _ _ _ _ _ rfl rfl rfl rfl rfl rfl
  have g80 : Inv (stepL xs0 xs1 xs2) (stepL (blockS x0 x1 x2 x3) (stepM xs0 xs1) (stepL xs0 xs1 xs2)) 1280 (kernelRun0_C.sl.HS2_176 (F := Ideal) c arg2 harg2 arg3 harg3 arg4 harg4 arg5 harg5 arg9 harg9 arg10 harg10 arg11 harg11 x0 x1 x2 x3 xs0 xs1 xs2) := inv_L _ _ _ _ _ _ _ hS 1264 _ _ h79 g79 _ _ _ _ _ _ _ _ _ _ _ _ rfl rfl rfl rfl rfl rfl
  have g81 : Inv (stepL xs0 xs1 xs2) (stepL (blockS x0 x1 x2 x3) (stepM xs0 xs1) (stepL xs0 xs1 xs2)) 1296 (kernelRun0_C.sl.HS2_177 (F := Ideal) c arg2 harg2 arg3 harg3 arg4 harg4 arg5 harg5 arg9 harg9 arg10 harg10 arg11 harg11 x0 x1 x2 x3 xs0 xs1 xs2) := inv_L _ _ _ _ _ _ _ hS 1280 _ _ h80 g80 _ _ _ _ _ _ _ _ _ _ _ _ rfl rfl rfl rfl rfl rfl
  have g82 : Inv (stepL xs0 xs1 xs2) (stepL (blockS x0 x1 x2 x3) (stepM xs0 xs1) (stepL xs0 xs1 xs2)) 1312 (kernelRun0_C.sl.HS2_178 (F := Ideal) c arg2 harg2 arg3 harg3 arg4 harg4 arg5 harg5 arg9 harg9 arg10 harg10 arg11 harg11 x0 x1 x2 x3 xs0 xs1 xs2) := inv_L _ _ _ _ _ _ _ hS 1296 _ _ h81 g81 _ _ _ _ _ _ _ _ _ _ _ _ rfl rfl rfl rfl rfl rfl
  have g83 : Inv (stepL xs0 xs1 xs2) (stepL (blockS x0 x1 x2 x3) (stepM xs0 xs1) (stepL xs0 xs1 xs2)) 1328 (kernelRun0_C.sl.HS2_179 (F := Ideal) c arg2 harg2 arg3 harg3 arg4 harg4 arg5 harg5 arg9 harg9 arg10 harg10 arg11 harg11 x0 x1 x2 x3 xs0 xs1 xs2) := inv_L _ _ _ _ _ _ _ hS 1312 _ _ h82 g82 _ _ _ _ _ _ _ _ _ _ _ _ rfl rfl rfl rfl rfl rfl
  have g84 : Inv (stepL xs0 xs1 xs2) (stepL (blockS x0 x1 x2 x3) (stepM xs0 xs1) (stepL xs0 xs1 xs2)) 1344 (kernelRun0_C.sl.HS2_180 (F := Ideal) c arg2 harg2 arg3 harg3 arg4 harg4 arg5 harg5 arg9 harg9 arg10 harg10 arg11 harg11 x0 x1 x2 x3 xs0 xs1 xs2) := inv_L _ _ _ _ _ _ _ hS 1328 _ _ h83 g83 _ _ _ _ _ _ _ _ _ _ _ _ rfl rfl rfl rfl rfl rfl
  have g85 : Inv (stepL xs0 xs1 xs2) (stepL (blockS x0 x1 x2 x3) (stepM xs0 xs1) (stepL xs0 xs1 xs2)) 1360 (kernelRun0_C.sl.HS2_181 (F := Ideal) c arg2 harg2 arg3 harg3 arg4 harg4 arg5 harg5 arg9 harg9 arg10 harg10 arg11 harg11 x0 x1 x2 x3 xs0 xs1 xs2) := inv_L _ _ _ _ _ _ _ hS 1344 _ _ h84 g84 _ _ _ _ _ _ _ _ _ _ _ _ rfl rfl rfl rfl rfl rfl
  have g86 : Inv (stepL xs0 xs1 xs2) (stepL (blockS x0 x1 x2 x3) (stepM xs0 xs1) (stepL xs0 xs1 xs2)) 1376 (kernelRun0_C.sl.HS2_182 (F := Ideal) c arg2 harg2 arg3 harg3 arg4 harg4 arg5 harg5 arg9 harg9 arg10 harg10 arg11 harg11 x0 x1 x2 x3 xs0 xs1 xs2) := inv_L _ _ _ _ _ _ _ hS 1360 _ _ h85 g85 _ _ _ _ _ _ _ _ _ _ _ _ rfl rfl rfl rfl rfl rfl
  have g87 : Inv (stepL xs0 xs1 xs2) (stepL (blockS x0 x1 x2 x3) (stepM xs0 xs1) (stepL xs0 xs1 xs2)) 1392 (kernelRun0_C.sl.HS2_183 (F := Ideal) c arg2 harg2 arg3 harg3 arg4 harg4 arg5 harg5 arg9 harg9 arg10 harg10 arg11 harg11 x0 x1 x2 x3 xs0 xs1 xs2) := inv_L _ _ _ _ _ _ _ hS 1376 _ _ h86 g86 _ _ _ _ _ _ _ _ _ _ _ _ rfl rfl rfl rfl rfl rfl
  have g88 : Inv (stepL xs0 xs1 xs2) (stepL (blockS x0 x1 x2 x3) (stepM xs0 xs1) (stepL xs0 xs1 xs2)) 1408 (kernelRun0_C.sl.HS2_184 (F := Ideal) c arg2 harg2 arg3 harg3 arg4 harg4 arg5 harg5 arg9 harg9 arg10 harg10 arg11 harg11 x0 x1 x2 x3 xs0 xs1 xs2) := inv_L _ _ _ _ _ _ _ hS 1392 _ _ h87 g87 _ _ _ _ _ _ _ _ _ _ _ _ rfl rfl rfl rfl rfl rfl
  have g89 : Inv (stepL xs0 xs1 xs2) (stepL (blockS x0 x1 x2 x3) (stepM xs0 xs1) (stepL xs0 xs1 xs2)) 1424 (kernelRun0_C.sl.HS2_185 (F := Ideal) c arg2 harg2 arg3 harg3 arg4 harg4 arg5 harg5 arg9 harg9 arg10 harg10 arg11 harg11 x0 x1 x2 x3 xs0 xs1 xs2) := inv_L _ _ _ _ _ _ _ hS 1408 _ _ h88 g88 _ _ _ _ _ _ _ _ _ _ _ _ rfl rfl rfl rfl rfl rfl
  have g90 : Inv (stepL xs0 xs1 xs2) (stepL (blockS x0 x1 x2 x3) (stepM xs0 xs1) (stepL xs0 xs1 xs2)) 1440 (kernelRun0_C.sl.HS2_186 (F := Ideal) c arg2 harg2 arg3 harg3 arg4 harg4 arg5 harg5 arg9 harg9 arg10 harg10 arg11 harg11 x0 x1 x2 x3 xs0 xs1 xs2) := inv_L _ _ _ _ _ _ _ hS 1424 _ _ h89 g89 _ _ _ _ _ _ _ _ _ _ _ _ rfl rfl rfl rfl rfl rfl
  have g91 : Inv (stepL xs0 xs1 xs2) (stepL (blockS x0 x1 x2 x3) (stepM xs0 xs1) (stepL xs0 xs1 xs2)) 1456 (kernelRun0_C.sl.HS2_187 (F := Ideal) c arg2 harg2 arg3 harg3 arg4 harg4 arg5 harg5 arg9 harg9 arg10 harg10 arg11 harg11 x0 x1 x2 x3 xs0 xs1 xs2) := inv_L _ _ _ _ _ _ _ hS 1440 _ _ h90 g90 _ _ _ _ _ _ _ _ _ _ _ _ rfl rfl rfl rfl rfl rfl
  have g92 : Inv (stepL xs0 xs1 xs2) (stepL (blockS x0 x1 x2 x3) (stepM xs0 xs1) (stepL xs0 xs1 xs2)) 1472 (kernelRun0_C.sl.HS2_188 (F := Ideal) c arg2 harg2 arg3 harg3 arg4 harg4 arg5 harg5 arg9 harg9 arg10 harg10 arg11 harg11 x0 x1 x2 x3 xs0 xs1 xs2) := inv_L _ _ _ _ _ _ _ hS 1456 _ _ h91 g91 _ _ _ _ _ _ _ _ _ _ _ _ rfl rfl rfl rfl rfl rfl
  have g93 : Inv (stepL xs0 xs1 xs2) (stepL (blockS x0 x1 x2 x3) (stepM xs0 xs1) (stepL xs0 xs1 xs2)) 1488 (kernelRun0_C.sl.HS2_189 (F := Ideal) c arg2 harg2 arg3 harg3 arg4 harg4 arg5 harg5 arg9 harg9 arg10 harg10 arg11 harg11 x0 x1 x2 x3 xs0 xs1 xs2) := inv_L _ _ _ _ _ _ _ hS 1472 _ _ h92 g92 _ _ _ _ _ _ _ _ _ _ _ _ rfl rfl rfl rfl rfl rfl
  have g94 : Inv (stepL xs0 xs1 xs2) (stepL (blockS x0 x1 x2 x3) (stepM xs0 xs1) (stepL xs0 xs1 xs2)) 1504 (kernelRun0_C.sl.HS2_190 (F := Ideal) c arg2 harg2 arg3 harg3 arg4 harg4 arg5 harg5 arg9 harg9 arg10 harg10 arg11 harg11 x0 x1 x2 x3 xs0 xs1 xs2) := inv_L _ _ _ _ _ _ _ hS 1488 _ _ h93 g93 _ _ _ _ _ _ _ _ _ _ _ _ rfl rfl rfl rfl rfl rfl
  have g95 : Inv (stepL xs0 xs1 xs2) (stepL (blockS x0 x1 x2 x3) (stepM xs0 xs1) (stepL xs0 xs1 xs2)) 1520 (kernelRun0_C.sl.HS2_191 (F := Ideal) c arg2 harg2 arg3 harg3 arg4 harg4 arg5 harg5 arg9 harg9 arg10 harg10 arg11 harg11 x0 x1 x2 x3 xs0 xs1 xs2) := inv_L _ _ _ _ _ _ _ hS 1504 _ _ h94 g94 _ _ _ _ _ _ _ _ _ _ _ _ rfl rfl rfl rfl rfl rfl
  have g96 : Inv (stepL xs0 xs1 xs2) (stepL (blockS x0 x1 x2 x3) (stepM xs0 xs1) (stepL xs0 xs1 xs2)) 1536 (kernelRun0_C.sl.HS2_192 (F := Ideal) c arg2 harg2 arg3 harg3 arg4 harg4 arg5 harg5 arg9 harg9 arg10 harg10 arg11 harg11 x0 x1 x2 x3 xs0 xs1 xs2) := inv_L _ _ _ _ _ _ _ hS 1520 _ _ h95 g95 _ _ _ _ _ _ _ _ _ _ _ _ rfl rfl rfl rfl rfl rfl
  exact inv_end _ _ _ g96 y

/-- The sums the run of the last point ends with. -/
theorem sum_C (c : Dev nD) (i : grid0.Coords) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg6 : Memref sig .tc .vmem S1x1536x512 .f32) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (hc0 : ¬cond0_0 i) (hc1 : cond0_1 i)
    (x0 : Vec Ideal S1x1536x5120 .fp8e4m3) (x1 : Vec Ideal S1x512x5120 .fp8e4m3) (x2 : Vec Ideal S1x1536x128 .f32) (x3 : Vec Ideal S1x1x512 .f32) (xs0 : Vec Ideal S1536x512 .f32) (xs1 : Vec Ideal S1536x128 .f32) (xs2 : Vec Ideal S1536x128 .f32) (y : S1536x128.Idx) :
    View.canon (kernelRun0_C (F := Ideal) c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 y = stepL (blockS x0 x1 x2 x3) (stepM xs0 xs1) (stepL xs0 xs1 xs2) y := by
  unfold kernelRun0_C
  exact sum_C' c arg2 harg2 arg3 harg3 arg4 harg4 arg5 harg5 arg9 harg9 arg10 harg10 arg11 harg11 x0 x1 x2 x3 xs0 xs1 xs2 y

end Cert.LgIdeal.Body
-- ==== Proof.LgEnd.lean ====
module

public import proofs.«01_k».proof.Proof.Gen.LgIdeal.Frame
public import proofs.«01_k».proof.Proof.LgEndBody

/-!
What the last point of a sweep stores: the two statistics of the running arrays it ends with.
-/

@[expose] public section

set_option maxRecDepth 65536

namespace Cert.LgIdeal.Body

open Idealize.ShloMosaic Cert.LgIdeal Cert.LgIdeal.Gen

/-- A load of a whole running array reads back what the stores left. -/
theorem readWhole {sp} (v : View sig .tc sp S1536x128 .f32) (L : List (View.Piece (Elt Ideal) S1536x128 .f32))
    (h : ∀ a, (![0, 0] : Fin 2 → ℕ) a + (![1536, 128] : Fin 2 → ℕ) a ≤ S1536x128.size a) :
    v.readCov L (Rect.unit (s := S1536x128) ![0, 0] ![1536, 128] h).toLoadRect = View.canon L := by
  rw [View.readCov_eq_canon']
  funext y
  refine congrArg (View.canon L) ?_
  obtain ⟨r, l, rfl⟩ := ix2_surj y
  funext a
  match a with
  | ⟨0, _⟩ => exact Fin.ext (by show 0 + 1 * r.val = r.val; omega)
  | ⟨1, _⟩ => exact Fin.ext (by show 0 + 1 * l.val = l.val; omega)

set_option maxHeartbeats 4000000 in
/-- The stored maxima. -/
theorem out5_C (c : Dev nD) (i : grid0.Coords) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg6 : Memref sig .tc .vmem S1x1536x512 .f32) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (hc0 : ¬cond0_0 i) (hc1 : cond0_1 i)
    (x0 : Vec Ideal S1x1536x5120 .fp8e4m3) (x1 : Vec Ideal S1x512x5120 .fp8e4m3) (x2 : Vec Ideal S1x1536x128 .f32) (x3 : Vec Ideal S1x1x512 .f32) (xs0 : Vec Ideal S1536x512 .f32) (xs1 : Vec Ideal S1536x128 .f32) (xs2 : Vec Ideal S1536x128 .f32) (M : Vec Ideal S1536x128 .f32) (hM : View.canon (kernelRun0_C (F := Ideal) c i arg2 harg2 arg3 harg3 arg4 harg4 arg5 harg5 arg6 harg6 arg7 harg7 arg8 harg8 arg9 harg9 arg10 harg10 arg11 harg11 hc0 hc1 x0 x1 x2 x3 xs0 xs1 xs2).2.2.2.2.1 = M) :
    out0_C_5 c i arg2 harg2 arg3 harg3 arg4 harg4 arg5 harg5 arg6 harg6 arg7 harg7 arg8 harg8 arg9 harg9 arg10 harg10 arg11 harg11 hc0 hc1 x0 x1 x2 x3 xs0 xs1 xs2 = k0_pay1 (k0_pay350 M) := by
  have hcov := cover0_C_5 c i arg2 harg2 arg3 harg3 arg4 harg4 arg5 harg5 arg6 harg6 arg7 harg7 arg8 harg8 arg9 harg9 arg10 harg10 arg11 harg11 hc0 hc1 x0 x1 x2 x3 xs0 xs1 xs2
  unfold out0_C_5
  rw [View.read_writes_eq_canon _ _ _ hcov]
  clear hcov
  subst hM
  unfold kernelRun0_C
  dsimp only
  rw [View.canon_unit_zero hz3]
  delta kernelRun0_C.sl.r_150 kernelRun0_C.sl.v6024
  exact congrArg (fun z => k0_pay1 (k0_pay350 z)) (readWhole _ _ _)

set_option maxHeartbeats 4000000 in
/-- The stored logarithms. -/
theorem out6_C (c : Dev nD) (i : grid0.Coords) (arg2 : Memref sig .tc .vmem S1x1536x5120 .fp8e4m3) (harg2 : arg2.IsWhole) (arg3 : Memref sig .tc .vmem S1x512x5120 .fp8e4m3) (harg3 : arg3.IsWhole) (arg4 : Memref sig .tc .vmem S1x1536x128 .f32) (harg4 : arg4.IsWhole) (arg5 : Memref sig .tc .vmem S1x1x512 .f32) (harg5 : arg5.IsWhole) (arg6 : Memref sig .tc .vmem S1x1536x512 .f32) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S1536x512 .f32) (harg9 : arg9.IsWhole) (arg10 : Memref sig .tc .vmem S1536x128 .f32) (harg10 : arg10.IsWhole) (arg11 : Memref sig .tc .vmem S1536x128 .f32) (harg11 : arg11.IsWhole) (hc0 : ¬cond0_0 i) (hc1 : cond0_1 i)
    (x0 : Vec Ideal S1x1536x5120 .fp8e4m3) (x1 : Vec Ideal S1x512x5120 .fp8e4m3) (x2 : Vec Ideal S1x1536x128 .f32) (x3 : Vec Ideal S1x1x512 .f32) (xs0 : Vec Ideal S1536x512 .f32) (xs1 : Vec Ideal S1536x128 .f32) (xs2 : Vec Ideal S1536x128 .f32) (M : Vec Ideal S1536x128 .f32) (hM : View.canon (kernelRun0_C (F := Ideal) c i arg2 harg2 arg3 harg3 arg4 harg4 arg5 harg5 arg6 harg6 arg7 harg7 arg8 harg8 arg9 harg9 arg10 harg10 arg11 harg11 hc0 hc1 x0 x1 x2 x3 xs0 xs1 xs2).2.2.2.2.1 = M) (L : Vec Ideal S1536x128 .f32) (hL : View.canon (kernelRun0_C (F := Ideal) c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 = L) :
    out0_C_6 c i arg2 harg2 arg3 harg3 arg4 harg4 arg5 harg5 arg6 harg6 arg7 harg7 arg8 harg8 arg9 harg9 arg10 harg10 arg11 harg11 hc0 hc1 x0 x1 x2 x3 xs0 xs1 xs2 = k0_pay2 (k0_pay349 M L) := by
  have hcov := cover0_C_6 c i arg2 harg2 arg3 harg3 arg4 harg4 arg5 harg5 arg6 harg6 arg7 harg7 arg8 harg8 arg9 harg9 arg10 harg10 arg11 harg11 hc0 hc1 x0 x1 x2 x3 xs0 xs1 xs2
  unfold out0_C_6
  rw [View.read_writes_eq_canon _ _ _ hcov]
  clear hcov
  subst hM hL
  unfold kernelRun0_C
  dsimp only
  rw [View.canon_unit_zero hz3]
  delta kernelRun0_C.sl.r_149 kernelRun0_C.sl.v6024 kernelRun0_C.sl.v6027
  exact congrArg₂ (fun z w => k0_pay2 (k0_pay349 z w)) (readWhole _ _ _) (readWhole _ _ _)

end Cert.LgIdeal.Body
-- ==== Proof.LgKernel.lean ====
module

public import proofs.«01_k».proof.Proof.LgSweep
public import proofs.«01_k».proof.Proof.LgBlockC
public import proofs.«01_k».proof.Proof.LgMaxC
public import proofs.«01_k».proof.Proof.LgSumC
public import proofs.«01_k».proof.Proof.LgEnd

/-!
The logits kernel's three results: every logit, and for every row its maximum and the logarithm of the sum of the exponentials
relative to it.
-/

@[expose] public section

set_option maxRecDepth 16384

namespace Cert.LgIdeal.Body

open Idealize.ShloMosaic Idealize.ShloMosaic.TcCoe Cert.LgIdeal Cert.LgIdeal.Gen Cert.LgIdeal.Value Cert.OnlineLse
open scoped BigOperators

variable (m : (ℓ : Loc nD τ sig) → Buf (Elt Ideal) ℓ)

/-- The block of logits that point `t` writes out, whichever case it is. -/
theorem out4_eq (c : Dev nD) (t : Fin cfg0.N) (y : S1x1536x512.Idx) :
    (outsAt0 m c t.val t.isLt).1 y = blockO (iblk m c 0 t) (iblk m c 1 t) (iblk m c 2 t) (iblk m c 3 t) y := by
  by_cases h0 : t.val % 24 = 0
  · rw [outsAt0_A m c t h0 (by omega)]
    dsimp only
    exact out_A _ _ _ _ _ _ _ _ _ _ _ _ _ _ _ _ _ _ _ _ _ _ _ _ _ _ _ _ y
  by_cases h1 : t.val % 24 = 23
  · rw [outsAt0_C m c t h0 h1]
    dsimp only
    exact out_C _ _ _ _ _ _ _ _ _ _ _ _ _ _ _ _ _ _ _ _ _ _ _ _ _ _ _ _ _ _ _ y
  · rw [outsAt0_B m c t h0 h1]
    dsimp only
    exact out_B _ _ _ _ _ _ _ _ _ _ _ _ _ _ _ _ _ _ _ _ _ _ _ _ _ _ _ _ _ _ _ y

/-- THE KERNEL'S LOGITS … -/
theorem kernel_logits (c : Dev nD) (b : Fin 2) (r : Fin 1536) (k : Fin 12288) : G4 m c (ix3 b r k) = rows m c b r k := by
  have hN : cfg0.N = 48 := N_0
  have hq : pt4Of (ix3 b r k) = 24 * b.val + k.val / 512 := by
    show 24 * (b.val / 1 - 0) + 24 * (r.val / 1536 - 0) + 1 * (k.val / 512 - 0) = _
    omega
  have hlt : pt4Of (ix3 b r k) < cfg0.N := by omega
  obtain ⟨p, hp⟩ : ∃ p : Fin cfg0.N, p.val = pt4Of (ix3 b r k) := ⟨⟨_, hlt⟩, rfl⟩
  unfold G4
  rw [dif_pos hlt, ← outsAt0_sweep m c _ hlt]
  have e : outsAt0 m c (pt4Of (ix3 b r k)) hlt = outsAt0 m c p.val p.isLt := by simp only [hp]
  have hl : loc4Of (ix3 b r k) = ix3 0 r ⟨k.val % 512, by omega⟩ := by
    funext a; apply Fin.ext
    match a with
    | ⟨0, _⟩ => show b.val % 1 = 0; omega
    | ⟨1, _⟩ => show r.val % 1536 = r.val; omega
    | ⟨2, _⟩ => rfl
  rw [e, hl, out4_eq m c p]
  refine (blockAt_eq m c p b ⟨k.val / 512, by omega⟩ (hp.trans hq) r ⟨k.val % 512, by omega⟩).trans ?_
  exact congrArg (rows m c b r) (Fin.ext (by show 512 * (k.val / 512) + k.val % 512 = k.val; omega))

/-- What the last point of batch `b` writes out: the statistics of all 24 blocks. -/
theorem last_eq (c : Dev nD) (b : Fin 2) (t : Fin cfg0.N) (ht : t.val = 24 * b.val + 23) :
    (outsAt0 m c t.val t.isLt).2.1 = k0_pay1 (k0_pay350 (topAt (rows m c b) 24))
      ∧ (outsAt0 m c t.val t.isLt).2.2.1 = k0_pay2 (k0_pay349 (topAt (rows m c b) 24) (totAt (rows m c b) 24)) := by
  have hN : cfg0.N = 48 := N_0
  have hp : t.val - 1 < cfg0.N := by omega
  obtain ⟨i0, i1, i2⟩ := state m c b 22 (by omega) ⟨t.val - 1, hp⟩ (by show t.val - 1 = _; omega)
  have hb := holds_block m c t b 23 ht
  have hM := (congrArg₂ stepM rfl ((congrArg₂ stepM rfl i1).trans (stepM_top _ _ _ i0))).trans (stepM_top _ _ _ hb)
  have hL := (congrArg₂ (stepL (blockS (iblk m c 0 t) (iblk m c 1 t) (iblk m c 2 t) (iblk m c 3 t)))
      ((congrArg₂ stepM rfl i1).trans (stepM_top _ _ _ i0))
      ((congrArg₂ (stepL (outsAt0 m c (t.val - 1) hp).2.2.2.1) i1 i2).trans (stepL_tot _ _ _ i0))).trans (stepL_tot _ _ _ hb)
  rw [outsAt0_C m c t (by omega) (by omega)]
  dsimp only
  refine ⟨?_, ?_⟩
  · exact out5_C _ _ _ _ _ _ _ _ _ _ _ _ _ _ _ _ _ _ _ _ _ _ _ _ _ _ _ _ _ _ _ _
      ((funext fun y => max_C _ _ _ _ _ _ _ _ _ _ _ _ _ _ _ _ _ _ _ _ _ _ _ _ _ _ _ _ _ _ _ y).trans hM)
  · exact out6_C _ _ _ _ _ _ _ _ _ _ _ _ _ _ _ _ _ _ _ _ _ _ _ _ _ _ _ _ _ _ _ _
      ((funext fun y => max_C _ _ _ _ _ _ _ _ _ _ _ _ _ _ _ _ _ _ _ _ _ _ _ _ _ _ _ _ _ _ _ y).trans hM) _
      ((funext fun y => sum_C _ _ _ _ _ _ _ _ _ _ _ _ _ _ _ _ _ _ _ _ _ _ _ _ _ _ _ _ _ _ _ y).trans hL)

theorem fold_top (X : Fin 1536 → Fin 12288 → EReal) (r : Fin 1536) :
    (Finset.univ.fold max ⊥ fun l : Fin 128 => topAt X 24 (ix2 r l)) = Finset.univ.fold max ⊥ (X r) := max_lanes (X r)

/-- … the rows' maxima, on every lane … -/
theorem kernel_max (c : Dev nD) (b : Fin 2) (r : Fin 1536) (l : Fin 128) :
    G5 m c (ix3 b r l) = Finset.univ.fold max ⊥ (rows m c b r) := by
  have hN : cfg0.N = 48 := N_0
  have hq : pt5Of (ix3 b r l) = 24 * b.val + 23 := by
    show 24 * (1 * (b.val / 1 - 0) + 1 * (r.val / 1536 - 0) + 1 * (l.val / 128 - 0)) + 23 = _
    omega
  have hlt : pt5Of (ix3 b r l) < cfg0.N := by omega
  obtain ⟨p, hp⟩ : ∃ p : Fin cfg0.N, p.val = pt5Of (ix3 b r l) := ⟨⟨_, hlt⟩, rfl⟩
  unfold G5
  rw [dif_pos hlt, ← outsAt0_sweep m c _ hlt]
  have e : outsAt0 m c (pt5Of (ix3 b r l)) hlt = outsAt0 m c p.val p.isLt := by simp only [hp]
  have hl : loc5Of (ix3 b r l) = ix3 0 r l := by
    funext a; apply Fin.ext
    match a with
    | ⟨0, _⟩ => show b.val % 1 = 0; omega
    | ⟨1, _⟩ => show r.val % 1536 = r.val; omega
    | ⟨2, _⟩ => show l.val % 128 = l.val; omega
  rw [e, hl, (last_eq m c b p (hp.trans hq)).1, end_max, fold_top]

/-- … and the rows' log-sum-exps relative to the maxima, on every lane. -/
theorem kernel_lse (c : Dev nD) (b : Fin 2) (r : Fin 1536) (l : Fin 128) :
    G6 m c (ix3 b r l) = Ideal.log (∑ k : Fin 12288, Ideal.exp (rows m c b r k - Finset.univ.fold max ⊥ (rows m c b r))) := by
  have hN : cfg0.N = 48 := N_0
  have hq : pt6Of (ix3 b r l) = 24 * b.val + 23 := by
    show 24 * (1 * (b.val / 1 - 0) + 1 * (r.val / 1536 - 0) + 1 * (l.val / 128 - 0)) + 23 = _
    omega
  have hlt : pt6Of (ix3 b r l) < cfg0.N := by omega
  obtain ⟨p, hp⟩ : ∃ p : Fin cfg0.N, p.val = pt6Of (ix3 b r l) := ⟨⟨_, hlt⟩, rfl⟩
  unfold G6
  rw [dif_pos hlt, ← outsAt0_sweep m c _ hlt]
  have e : outsAt0 m c (pt6Of (ix3 b r l)) hlt = outsAt0 m c p.val p.isLt := by simp only [hp]
  have hl : loc6Of (ix3 b r l) = ix3 0 r l := by
    funext a; apply Fin.ext
    match a with
    | ⟨0, _⟩ => show b.val % 1 = 0; omega
    | ⟨1, _⟩ => show r.val % 1536 = r.val; omega
    | ⟨2, _⟩ => show l.val % 128 = l.val; omega
  rw [e, hl, (last_eq m c b p (hp.trans hq)).2, end_lse, fold_top]
  exact congrArg Ideal.log (sum_lanes (rows m c b r))

end Cert.LgIdeal.Body
-- ==== Proof.LgReference.lean ====
module

public import proofs.«01_k».proof.Proof.Gen.LgRefIdeal.Value
public import Idealize.ShloMosaic.Lib.MatmulPlain
public import Idealize.ShloMosaic.Lib.Pointwise

@[expose] public section

set_option maxRecDepth 16384

namespace Cert.LgRefIdeal.Body

open Idealize.ShloMosaic Idealize.ShloMosaic.TcCoe Cert.LgRefIdeal Cert.LgRefIdeal.Gen
open scoped BigOperators

/-- One batch's logit of query `q` and prototype `k`. -/
noncomputable def rowLogit (x0 : Vec Ideal S1x1536x5120 .fp8e4m3) (x2 : Vec Ideal S1x12288x5120 .fp8e4m3) (x1 : Vec Ideal S1x1536 .f32)
    (x3 : Vec Ideal S1x12288 .f32) (q : Fin 1536) (k : Fin 12288) : EReal :=
  (∑ d : Fin 5120, x0 (ix3 0 q d) * x2 (ix3 0 k d)) * (x1 (ix2 0 q) * x3 (ix2 0 k)) * Ideal.ofBits .f32 0x41A00000#32

/-- A row's maximum. -/
noncomputable def rowMax (x : Fin 12288 → EReal) : EReal := Finset.univ.fold max ⊥ x

/-- A row's log-sum-exp relative to its maximum. -/
noncomputable def rowLse (x : Fin 12288 → EReal) : EReal := Ideal.log (∑ k : Fin 12288, Ideal.exp (x k - rowMax x))

theorem negInf : Ideal.ofBits .f32 0xFF800000#32 = ⊥ := by
  simp [Ideal.ofBits, Ideal.ieee]

section
variable (x0 : Vec Ideal S1x1536x5120 .fp8e4m3) (x2 : Vec Ideal S1x12288x5120 .fp8e4m3) (x1 : Vec Ideal S1x1536 .f32) (x3 : Vec Ideal S1x12288 .f32)

theorem pay2_apply (q : Fin 1536) (k : Fin 12288) : k0_pay2 x0 x2 x1 x3 (ix2 q k) = rowLogit x0 x2 x1 x3 q k := by
  pointwise [k0_pay2, rowLogit]

theorem pay8_apply (q : Fin 1536) (k : Fin 12288) : k0_pay8 x0 x2 x1 x3 (ix2 q k) = rowLogit x0 x2 x1 x3 q k := by
  pointwise [k0_pay8, rowLogit]

theorem pay4_apply (q : Fin 1536) (k : Fin 12288) : k0_pay4 x0 x2 x1 x3 (ix3 0 q k) = rowLogit x0 x2 x1 x3 q k := by
  pointwise [k0_pay4, pay2_apply]

theorem pay10_apply (q : Fin 1536) (k : Fin 12288) : k0_pay10 x0 x2 x1 x3 (ix3 0 q k) = rowLogit x0 x2 x1 x3 q k := by
  pointwise [k0_pay10, pay8_apply]

theorem pay3_apply (q : Fin 1536) : k0_pay3 x0 x2 x1 x3 (ix2 q 0) = rowMax (rowLogit x0 x2 x1 x3 q) := by
  pointwise [k0_pay3, pay2_apply, rowMax, negInf]

theorem pay9_apply (q : Fin 1536) : k0_pay9 x0 x2 x1 x3 (ix2 q 0) = rowMax (rowLogit x0 x2 x1 x3 q) := by
  pointwise [k0_pay9, pay8_apply, rowMax, negInf]

theorem pay5_apply (q : Fin 1536) (l : Fin 128) : k0_pay5 x0 x2 x1 x3 (ix3 0 q l) = rowMax (rowLogit x0 x2 x1 x3 q) := by
  pointwise [k0_pay5, pay3_apply]

theorem pay11_apply (q : Fin 1536) (l : Fin 128) : k0_pay11 x0 x2 x1 x3 (ix3 0 q l) = rowMax (rowLogit x0 x2 x1 x3 q) := by
  pointwise [k0_pay11, pay9_apply]

theorem pay7_apply (q : Fin 1536) (l : Fin 128) : k0_pay7 (k0_pay6 x0 x2 x1 x3) (ix3 0 q l) = rowLse (rowLogit x0 x2 x1 x3 q) := by
  pointwise [k0_pay7, k0_pay6, pay3_apply, pay2_apply, rowLse]

theorem pay1_apply (q : Fin 1536) (l : Fin 128) : k0_pay1 (k0_pay12 x0 x2 x1 x3) (ix3 0 q l) = rowLse (rowLogit x0 x2 x1 x3 q) := by
  pointwise [k0_pay1, k0_pay12, pay9_apply, pay8_apply, rowLse]

end

/-- The logit of query `q` and prototype `k` of batch `b`. -/
noncomputable def logit (a0 : Vec Ideal S2x1536x5120 .fp8e4m3) (a1 : Vec Ideal S2x1536 .f32) (a2 : Vec Ideal S2x12288x5120 .fp8e4m3)
    (a3 : Vec Ideal S2x12288 .f32) (b : Fin 2) (q : Fin 1536) (k : Fin 12288) : EReal :=
  (∑ d : Fin 5120, a0 (ix3 b q d) * a2 (ix3 b k d)) * (a1 (ix2 b q) * a3 (ix2 b k)) * Ideal.ofBits .f32 0x41A00000#32

/-- Two indices of a rank-3 shape with the same three coordinates are equal. -/
theorem ix3_ext {n0 n1 n2 : ℕ} (x y : (⟨3, ![n0, n1, n2]⟩ : Shape).Idx) (h0 : (x 0).val = (y 0).val) (h1 : (x 1).val = (y 1).val)
    (h2 : (x 2).val = (y 2).val) : x = y := by
  funext a; apply Fin.ext
  match a with
  | ⟨0, _⟩ => exact h0
  | ⟨1, _⟩ => exact h1
  | ⟨2, _⟩ => exact h2

/-- The same at rank 2. -/
theorem ix2_ext {n0 n1 : ℕ} (x y : (⟨2, ![n0, n1]⟩ : Shape).Idx) (h0 : (x 0).val = (y 0).val) (h1 : (x 1).val = (y 1).val) : x = y := by
  funext a; apply Fin.ext
  match a with
  | ⟨0, _⟩ => exact h0
  | ⟨1, _⟩ => exact h1

/-- An array stored one batch at a time holds, at batch `b`, what was stored for it. -/
theorem canon_two {n1 n2 : ℕ} (inb0 inb1) (p0 p1 : (⟨3, ![1, n1, n2]⟩ : Shape).Idx → EReal) (b : Fin 2) (q : Fin n1) (k : Fin n2) (v : EReal)
    (h0 : b = 0 → p0 (ix3 0 q k) = v) (h1 : b = 1 → p1 (ix3 0 q k) = v) :
    View.canon (Val := Elt Ideal) (e := .f32) [⟨Rect.unit (s := ⟨3, ![2, n1, n2]⟩) ![1, 0, 0] ![1, n1, n2] inb1, p1⟩,
      ⟨Rect.unit (s := ⟨3, ![2, n1, n2]⟩) ![0, 0, 0] ![1, n1, n2] inb0, p0⟩] (ix3 b q k) = v := by
  match b, h0, h1 with
  | ⟨0, _⟩, h0, _ =>
    refine (View.canon_cons_of_not_mem _ _ ?_).trans ?_
    · rw [Rect.mem_set_unit]
      intro h
      have h0 : 1 ≤ 0 := (h (0 : Fin 3)).1
      omega
    have e : (ix3 0 q k : (⟨3, ![2, n1, n2]⟩ : Shape).Idx)
        = (Rect.unit (s := ⟨3, ![2, n1, n2]⟩) ![0, 0, 0] ![1, n1, n2] inb0).emb (ix3 0 q k : (⟨3, ![1, n1, n2]⟩ : Shape).Idx) :=
      ix3_ext _ _ rfl (by show q.val = 0 + 1 * q.val; omega) (by show k.val = 0 + 1 * k.val; omega)
    exact (congrArg _ e).trans ((View.canon_cons_emb ..).trans (h0 rfl))
  | ⟨1, _⟩, _, h1 =>
    have e : (ix3 1 q k : (⟨3, ![2, n1, n2]⟩ : Shape).Idx)
        = (Rect.unit (s := ⟨3, ![2, n1, n2]⟩) ![1, 0, 0] ![1, n1, n2] inb1).emb (ix3 0 q k : (⟨3, ![1, n1, n2]⟩ : Shape).Idx) :=
      ix3_ext _ _ rfl (by show q.val = 0 + 1 * q.val; omega) (by show k.val = 0 + 1 * k.val; omega)
    exact (congrArg _ e).trans ((View.canon_cons_emb ..).trans (h1 rfl))

section
variable (a0 : Vec Ideal S2x1536x5120 .fp8e4m3) (a1 : Vec Ideal S2x1536 .f32) (a2 : Vec Ideal S2x12288x5120 .fp8e4m3) (a3 : Vec Ideal S2x12288 .f32)

theorem row0 (q : Fin 1536) :
    rowLogit (View.ld a0 r0_0) (View.ld a2 r0_1) (View.ld a1 r0_2) (View.ld a3 r0_3) q = logit a0 a1 a2 a3 0 q := by
  funext k
  unfold rowLogit logit
  refine congrArg (· * Ideal.ofBits .f32 0x41A00000#32) (congrArg₂ (· * ·) (Finset.sum_congr rfl fun d _ => congrArg₂ (· * ·) ?_ ?_) (congrArg₂ (· * ·) ?_ ?_))
  · exact congrArg a0 (ix3_ext _ _ rfl (by show 0 + 1 * q.val = q.val; omega) (by show 0 + 1 * d.val = d.val; omega))
  · exact congrArg a2 (ix3_ext _ _ rfl (by show 0 + 1 * k.val = k.val; omega) (by show 0 + 1 * d.val = d.val; omega))
  · exact congrArg a1 (ix2_ext _ _ rfl (by show 0 + 1 * q.val = q.val; omega))
  · exact congrArg a3 (ix2_ext _ _ rfl (by show 0 + 1 * k.val = k.val; omega))

theorem row1 (q : Fin 1536) :
    rowLogit (View.ld a0 r0_6) (View.ld a2 r0_7) (View.ld a1 r0_8) (View.ld a3 r0_9) q = logit a0 a1 a2 a3 1 q := by
  funext k
  unfold rowLogit logit
  refine congrArg (· * Ideal.ofBits .f32 0x41A00000#32) (congrArg₂ (· * ·) (Finset.sum_congr rfl fun d _ => congrArg₂ (· * ·) ?_ ?_) (congrArg₂ (· * ·) ?_ ?_))
  · exact congrArg a0 (ix3_ext _ _ rfl (by show 0 + 1 * q.val = q.val; omega) (by show 0 + 1 * d.val = d.val; omega))
  · exact congrArg a2 (ix3_ext _ _ rfl (by show 0 + 1 * k.val = k.val; omega) (by show 0 + 1 * d.val = d.val; omega))
  · exact congrArg a1 (ix2_ext _ _ rfl (by show 0 + 1 * q.val = q.val; omega))
  · exact congrArg a3 (ix2_ext _ _ rfl (by show 0 + 1 * k.val = k.val; omega))

/-- THE REFERENCE'S LOGITS … -/
theorem ref_logits (b : Fin 2) (q : Fin 1536) (k : Fin 12288) : Value.G4 a0 a1 a2 a3 (ix3 b q k) = logit a0 a1 a2 a3 b q k := by
  refine canon_two _ _ _ _ b q k _ ?_ ?_
  · rintro rfl; exact (pay4_apply _ _ _ _ q k).trans (congrFun (row0 a0 a1 a2 a3 q) k)
  · rintro rfl; exact (pay10_apply _ _ _ _ q k).trans (congrFun (row1 a0 a1 a2 a3 q) k)

/-- … its rows' maxima, on every lane … -/
theorem ref_max (b : Fin 2) (q : Fin 1536) (l : Fin 128) : Value.G5 a0 a1 a2 a3 (ix3 b q l) = rowMax (logit a0 a1 a2 a3 b q) := by
  refine canon_two _ _ _ _ b q l _ ?_ ?_
  · rintro rfl; exact (pay5_apply _ _ _ _ q l).trans (congrArg rowMax (row0 a0 a1 a2 a3 q))
  · rintro rfl; exact (pay11_apply _ _ _ _ q l).trans (congrArg rowMax (row1 a0 a1 a2 a3 q))

/-- … and its rows' log-sum-exps relative to the maxima, on every lane. -/
theorem ref_lse (b : Fin 2) (q : Fin 1536) (l : Fin 128) : Value.G6 a0 a1 a2 a3 (ix3 b q l) = rowLse (logit a0 a1 a2 a3 b q) := by
  refine canon_two _ _ _ _ b q l _ ?_ ?_
  · rintro rfl; exact (pay7_apply _ _ _ _ q l).trans (congrArg rowLse (row0 a0 a1 a2 a3 q))
  · rintro rfl; exact (pay1_apply _ _ _ _ q l).trans (congrArg rowLse (row1 a0 a1 a2 a3 q))

end

end Cert.LgRefIdeal.Body
-- ==== Proof.lean ====
module

public import proofs.«01_k».proof.Defs
public import proofs.«01_k».proof.Proof.Gen.Dq
public import proofs.«01_k».proof.Proof.Gen.Dq.Skeleton
public import proofs.«01_k».proof.Proof.Gen.Dq.Launch
public import proofs.«01_k».proof.Proof.Gen.Dq.Points
public import proofs.«01_k».proof.Proof.Gen.Dq.Frame
public import proofs.«01_k».proof.Proof.Gen.DqIdeal
public import proofs.«01_k».proof.Proof.Gen.DqIdeal.Skeleton
public import proofs.«01_k».proof.Proof.Gen.DqIdeal.Launch
public import proofs.«01_k».proof.Proof.Gen.DqIdeal.Points
public import proofs.«01_k».proof.Proof.Gen.DqIdeal.Frame
public import proofs.«01_k».proof.Proof.Gen.DqIdeal.Value
public import proofs.«01_k».proof.Proof.Gen.DqRefIdeal
public import proofs.«01_k».proof.Proof.Gen.DqRefIdeal.Skeleton
public import proofs.«01_k».proof.Proof.Gen.DqRefIdeal.Launch
public import proofs.«01_k».proof.Proof.Gen.DqRefIdeal.Points
public import proofs.«01_k».proof.Proof.Gen.DqRefIdeal.Frame
public import proofs.«01_k».proof.Proof.Gen.DqRefIdeal.Value
public import proofs.«01_k».proof.Proof.Gen.Lg
public import proofs.«01_k».proof.Proof.Gen.Lg.Skeleton
public import proofs.«01_k».proof.Proof.Gen.Lg.Launch
public import proofs.«01_k».proof.Proof.Gen.Lg.Points
public import proofs.«01_k».proof.Proof.Gen.Lg.Frame
public import proofs.«01_k».proof.Proof.Gen.LgIdeal
public import proofs.«01_k».proof.Proof.Gen.LgIdeal.Skeleton
public import proofs.«01_k».proof.Proof.Gen.LgIdeal.Launch
public import proofs.«01_k».proof.Proof.Gen.LgIdeal.Points
public import proofs.«01_k».proof.Proof.Gen.LgIdeal.Frame
public import proofs.«01_k».proof.Proof.Gen.LgIdeal.Value
public import proofs.«01_k».proof.Proof.Gen.LgRefIdeal
public import proofs.«01_k».proof.Proof.Gen.LgRefIdeal.Skeleton
public import proofs.«01_k».proof.Proof.Gen.LgRefIdeal.Launch
public import proofs.«01_k».proof.Proof.Gen.LgRefIdeal.Points
public import proofs.«01_k».proof.Proof.Gen.LgRefIdeal.Frame
public import proofs.«01_k».proof.Proof.Gen.LgRefIdeal.Value
public import proofs.«01_k».proof.Proof.DpFrame
public import proofs.«01_k».proof.Proof.DqKernel
public import proofs.«01_k».proof.Proof.DqReference
public import proofs.«01_k».proof.Proof.LgKernel
public import proofs.«01_k».proof.Proof.LgReference
public import Idealize.ShloMosaic.Adequacy
public import Idealize.ShloMosaic.Init

@[expose] public section

noncomputable section

namespace Cert.Proof

open Idealize.ShloMosaic Idealize.SL.Sem Cert.Dq

/-- The kernel's order of the scale factors and the reference's give the same logit. -/
theorem rows_eq (m : (ℓ : Loc Cert.LgIdeal.nD Cert.LgIdeal.τ Cert.LgIdeal.sig) → Buf (Elt Ideal) ℓ) (c : Dev Cert.LgIdeal.nD) (b : Fin 2) (q : Fin 1536) :
    Cert.LgIdeal.Body.rows m c b q = Cert.LgRefIdeal.Body.logit (m ((c.tc : Thread Cert.LgIdeal.nD Cert.LgIdeal.τ).loc Cert.LgIdeal.main_arg0))
      (m ((c.tc : Thread Cert.LgIdeal.nD Cert.LgIdeal.τ).loc Cert.LgIdeal.main_arg1)) (m ((c.tc : Thread Cert.LgIdeal.nD Cert.LgIdeal.τ).loc Cert.LgIdeal.main_arg2))
      (m ((c.tc : Thread Cert.LgIdeal.nD Cert.LgIdeal.τ).loc Cert.LgIdeal.main_arg3)) b q := by
  funext k
  have key : ∀ s p r t : EReal, s * p * (r * t) = s * (r * p) * t := fun s p r t => by
    rw [mul_assoc s p, ← mul_assoc p, mul_comm p r, ← mul_assoc s]
  exact key _ _ _ _

/-- The logit gradient's product: kernel and reference compute the same array. -/
theorem dq_claim : Cert.algebraic_DqIdeal_DqRefIdeal (hDqIdeal := Cert.DqIdeal.Gen.facts) (hDqRefIdeal := Cert.DqRefIdeal.Gen.facts) := by
  refine fun m g m' g' _ hag => ⟨fun c => Cert.DqIdeal.Value.G4 m c, Cert.DqIdeal.Value.run m g, ?_⟩
  refine (θ_run _ _ _).mono (fun r h c => ?_) (Cert.DqRefIdeal.Value.run m' g')
  obtain ⟨e, rest⟩ := h c
  refine ⟨e.trans ?_, rest⟩
  obtain ⟨e0, e1, e2, e3⟩ := hag c
  rw [e0, e1, e2, e3]
  funext i
  obtain ⟨b, q, d, rfl⟩ : ∃ (b : Fin 2) (q : Fin 1536) (d : Fin 5120), i = ix3 b q d := ⟨_, _, _, (ix3_eta i).symm⟩
  exact (Cert.DqRefIdeal.Body.ref_value _ _ _ _ b q d).trans
    ((congrArg (· * Ideal.ofBits .f32 0x41A00000#32) (Cert.DqRefIdeal.Body.sum_eq _ _ _ _ b q d).symm).trans
      (Cert.DqIdeal.Body.kernel_value m c b q d).symm)

/-- The logits and their rows' statistics: kernel and reference compute the same three arrays. -/
theorem lg_claim : Cert.algebraic_LgIdeal_LgRefIdeal (hLgIdeal := Cert.LgIdeal.Gen.facts) (hLgRefIdeal := Cert.LgRefIdeal.Gen.facts) := by
  refine fun m g m' g' _ hag => ⟨fun c => Cert.LgIdeal.Value.G4 m c, fun c => Cert.LgIdeal.Value.G5 m c, fun c => Cert.LgIdeal.Value.G6 m c,
    Cert.LgIdeal.Value.run m g, ?_⟩
  refine (θ_run _ _ _).mono (fun r h c => ?_) (Cert.LgRefIdeal.Value.run m' g')
  obtain ⟨e4, e5, e6, rest⟩ := h c
  obtain ⟨e0, e1, e2, e3⟩ := hag c
  refine ⟨e4.trans ?_, e5.trans ?_, e6.trans ?_, rest⟩
  · rw [e0, e1, e2, e3]
    funext i
    obtain ⟨b, q, k, rfl⟩ : ∃ (b : Fin 2) (q : Fin 1536) (k : Fin 12288), i = ix3 b q k := ⟨_, _, _, (ix3_eta i).symm⟩
    exact (Cert.LgRefIdeal.Body.ref_logits _ _ _ _ b q k).trans ((congrFun (rows_eq m c b q) k).symm.trans (Cert.LgIdeal.Body.kernel_logits m c b q k).symm)
  · rw [e0, e1, e2, e3]
    funext i
    obtain ⟨b, q, l, rfl⟩ : ∃ (b : Fin 2) (q : Fin 1536) (l : Fin 128), i = ix3 b q l := ⟨_, _, _, (ix3_eta i).symm⟩
    exact (Cert.LgRefIdeal.Body.ref_max _ _ _ _ b q l).trans
      ((congrArg Cert.LgRefIdeal.Body.rowMax (rows_eq m c b q).symm).trans (Cert.LgIdeal.Body.kernel_max m c b q l).symm)
  · rw [e0, e1, e2, e3]
    funext i
    obtain ⟨b, q, l, rfl⟩ : ∃ (b : Fin 2) (q : Fin 1536) (l : Fin 128), i = ix3 b q l := ⟨_, _, _, (ix3_eta i).symm⟩
    exact (Cert.LgRefIdeal.Body.ref_lse _ _ _ _ b q l).trans
      ((congrArg Cert.LgRefIdeal.Body.rowLse (rows_eq m c b q).symm).trans (Cert.LgIdeal.Body.kernel_lse m c b q l).symm)

theorem claim : Cert.Claim :=
  ⟨Cert.Dq.Gen.facts, Cert.DqIdeal.Gen.facts, Cert.DqRefIdeal.Gen.facts, Cert.Lg.Gen.facts, Cert.LgIdeal.Gen.facts, Cert.LgRefIdeal.Gen.facts, Cert.Dp.Gen.facts,
    fun m ρ _ => Cert.Dq.Gen.frame m ρ, fun m ρ _ => Cert.DqIdeal.Gen.frame m ρ, fun m ρ _ => Cert.DqRefIdeal.Gen.frame m ρ,
    fun m ρ _ => Cert.Lg.Gen.frame m ρ, fun m ρ _ => Cert.LgIdeal.Gen.frame m ρ, fun m ρ _ => Cert.LgRefIdeal.Gen.frame m ρ,
    fun m ρ _ => Cert.Dp.Gen.frame m ρ,
    trivial, dq_claim, IdealRules.named_const.statement _ _ _ _ _ rfl, lg_claim⟩

end Cert.Proof

end
